-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "scale_log2e" .f32 0x3E38AA3B#32 (((1 / 8) * (Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v47) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v36) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v49_0)) (v1 : (c : Dev Cert.Kernel4Ideal.nD) → Buf (Elt Ideal) ((c.tc : Thread Cert.Kernel4Ideal.nD Cert.Kernel4Ideal.τ).loc Cert.Kernel4Ideal.main_v49_1)) (v2 : (c : Dev Cert.Kernel4Ideal.nD) → Buf (Elt Ideal) ((c.tc : Thread Cert.Kernel4Ideal.nD Cert.Kernel4Ideal.τ).loc Cert.Kernel4Ideal.main_v49_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v49_0) = v0 c
          ∧ r.2.mem ((c.tc : Thread Cert.Kernel4Ideal.nD Cert.Kernel4Ideal.τ).loc Cert.Kernel4Ideal.main_v49_1) = v1 c
          ∧ r.2.mem ((c.tc : Thread Cert.Kernel4Ideal.nD Cert.Kernel4Ideal.τ).loc Cert.Kernel4Ideal.main_v49_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v88) = v0 c
          ∧ r.2.mem ((c.tc : Thread Cert.Reference4Ideal.nD Cert.Reference4Ideal.τ).loc Cert.Reference4Ideal.main_v92) = v1 c
          ∧ r.2.mem ((c.tc : Thread Cert.Reference4Ideal.nD Cert.Reference4Ideal.τ).loc Cert.Reference4Ideal.main_v96) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v11) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v47) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S4x64 : Shape := ⟨2, ![4, 64]⟩
abbrev S128 : Shape := ⟨1, ![128]⟩
abbrev S8x2048x8x2x64 : Shape := ⟨5, ![8, 2048, 8, 2, 64]⟩
abbrev S8x256x8x2x64 : Shape := ⟨5, ![8, 256, 8, 2, 64]⟩
abbrev S8x256x8x128 : Shape := ⟨4, ![8, 256, 8, 128]⟩
abbrev S8x2048x8x128 : Shape := ⟨4, ![8, 2048, 8, 128]⟩
abbrev S_ : Shape := ⟨0, ![]⟩

class Facts : Prop where
  bcast_S_S4x64 : S_.BroadcastsInDim S4x64 (![] : Fin 0 → Fin S4x64.rank)
  bcast_S_S8x2048x8x2x64 : S_.BroadcastsInDim S8x2048x8x2x64 (![] : Fin 0 → Fin S8x2048x8x2x64.rank)
  bcast_S_S8x256x8x2x64 : S_.BroadcastsInDim S8x256x8x2x64 (![] : Fin 0 → Fin S8x256x8x2x64.rank)
  bcast_S_S8x256x8x128 : S_.BroadcastsInDim S8x256x8x128 (![] : Fin 0 → Fin S8x256x8x128.rank)
  bcast_S_S8x2048x8x128 : S_.BroadcastsInDim S8x2048x8x128 (![] : Fin 0 → Fin S8x2048x8x128.rank)

variable [Facts]

def fn {F : FTy → Type} [FloatOps F] (main_arg0 : FVec F S4x64 .f32) (main_arg1 : FVec F S128 .f32) (main_arg2 : FVec F S8x2048x8x2x64 .f32) (main_arg3 : FVec F S8x256x8x2x64 .f32) (main_arg4 : FVec F S8x2048x8x2x64 .f32) (main_arg5 : FVec F S8x256x8x128 .f32) (main_arg6 : FVec F S8x2048x8x128 .f32) : IVec S4x64 1 × IVec S8x2048x8x2x64 1 × IVec S8x256x8x2x64 1 × IVec S8x2048x8x2x64 1 × IVec S8x256x8x128 1 × IVec S8x2048x8x128 1 :=
  let main_v0 : FVec F S4x64 .f32 := Host.absf main_arg0
  let main_cst : FVec F S_ .f32 := constant S_ .f32 0x7F800000#32
  let main_v1 : FVec F S4x64 .f32 := broadcastInDim S4x64 ![] bcast_S_S4x64 main_cst
  let main_v2 : IVec S4x64 1 := cmpf .olt main_v0 main_v1
  let main_v3 : FVec F S8x2048x8x2x64 .f32 := Host.absf main_arg2
  let main_cst_0 : FVec F S_ .f32 := constant S_ .f32 0x7F800000#32
  let main_v4 : FVec F S8x2048x8x2x64 .f32 := broadcastInDim S8x2048x8x2x64 ![] bcast_S_S8x2048x8x2x64 main_cst_0
  let main_v5 : IVec S8x2048x8x2x64 1 := cmpf .olt main_v3 main_v4
  let main_v6 : FVec F S8x256x8x2x64 .f32 := Host.absf main_arg3
  let main_cst_1 : FVec F S_ .f32 := constant S_ .f32 0x7F800000#32
  let main_v7 : FVec F S8x256x8x2x64 .f32 := broadcastInDim S8x256x8x2x64 ![] bcast_S_S8x256x8x2x64 main_cst_1
  let main_v8 : IVec S8x256x8x2x64 1 := cmpf .olt main_v6 main_v7
  let main_v9 : FVec F S8x2048x8x2x64 .f32 := Host.absf main_arg4
  let main_cst_2 : FVec F S_ .f32 := constant S_ .f32 0x7F800000#32
  let main_v10 : FVec F S8x2048x8x2x64 .f32 := broadcastInDim S8x2048x8x2x64 ![] bcast_S_S8x2048x8x2x64 main_cst_2
  let main_v11 : IVec S8x2048x8x2x64 1 := cmpf .olt main_v9 main_v10
  let main_v12 : FVec F S8x256x8x128 .f32 := Host.absf main_arg5
  let main_cst_3 : FVec F S_ .f32 := constant S_ .f32 0x7F800000#32
  let main_v13 : FVec F S8x256x8x128 .f32 := broadcastInDim S8x256x8x128 ![] bcast_S_S8x256x8x128 main_cst_3
  let main_v14 : IVec S8x256x8x128 1 := cmpf .olt main_v12 main_v13
  let main_v15 : FVec F S8x2048x8x128 .f32 := Host.absf main_arg6
  let main_cst_4 : FVec F S_ .f32 := constant S_ .f32 0x7F800000#32
  let main_v16 : FVec F S8x2048x8x128 .f32 := broadcastInDim S8x2048x8x128 ![] bcast_S_S8x2048x8x128 main_cst_4
  let main_v17 : IVec S8x2048x8x128 1 := cmpf .olt main_v15 main_v16
  (main_v2, main_v5, main_v8, main_v11, main_v14, main_v17)
-- ==== Kernel.lean ====
abbrev S4x64 : Shape := ⟨2, ![4, 64]⟩
abbrev S128 : Shape := ⟨1, ![128]⟩
abbrev S8x2048x8x2x64 : Shape := ⟨5, ![8, 2048, 8, 2, 64]⟩
abbrev S8x256x8x2x64 : Shape := ⟨5, ![8, 256, 8, 2, 64]⟩
abbrev S8x256x8x128 : Shape := ⟨4, ![8, 256, 8, 128]⟩
abbrev S8x2048x8x128 : Shape := ⟨4, ![8, 2048, 8, 128]⟩
abbrev S8x2048x1024 : Shape := ⟨3, ![8, 2048, 1024]⟩
abbrev S1x2048x1024 : Shape := ⟨3, ![1, 2048, 1024]⟩
abbrev S9x2048x1024 : Shape := ⟨3, ![9, 2048, 1024]⟩
abbrev S1x128 : Shape := ⟨2, ![1, 128]⟩
abbrev S1x1024x128 : Shape := ⟨3, ![1, 1024, 128]⟩
abbrev S1x256x128 : Shape := ⟨3, ![1, 256, 128]⟩
abbrev S1x2048x128 : Shape := ⟨3, ![1, 2048, 128]⟩
abbrev S2304x128 : Shape := ⟨2, ![2304, 128]⟩
abbrev S256x128 : Shape := ⟨2, ![256, 128]⟩
abbrev S2048x128 : Shape := ⟨2, ![2048, 128]⟩
abbrev S1x64 : Shape := ⟨2, ![1, 64]⟩
abbrev S1 : Shape := ⟨1, ![1]⟩
abbrev S1x1 : Shape := ⟨2, ![1, 1]⟩
abbrev S256x2304 : Shape := ⟨2, ![256, 2304]⟩
abbrev S256 : Shape := ⟨1, ![256]⟩
abbrev S256x1 : Shape := ⟨2, ![256, 1]⟩

abbrev nBuf : Space → Nat
  | .hbm => 18
  | .vmem => 16
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S8x2048x8x2x64, .f32⟩
  | .hbm, ⟨3, _⟩ => ⟨S8x256x8x2x64, .f32⟩
  | .hbm, ⟨4, _⟩ => ⟨S8x2048x8x2x64, .f32⟩
  | .hbm, ⟨5, _⟩ => ⟨S8x256x8x128, .f32⟩
  | .hbm, ⟨6, _⟩ => ⟨S8x2048x8x128, .f32⟩
  | .hbm, ⟨7, _⟩ => ⟨S8x2048x1024, .f32⟩
  | .hbm, ⟨8, _⟩ => ⟨S8x2048x1024, .f32⟩
  | .hbm, ⟨9, _⟩ => ⟨S1x2048x1024, .f32⟩
  | .hbm, ⟨10, _⟩ => ⟨S9x2048x1024, .f32⟩
  | .hbm, ⟨11, _⟩ => ⟨S9x2048x1024, .bf16⟩
  | .hbm, ⟨12, _⟩ => ⟨S8x2048x1024, .f32⟩
  | .hbm, ⟨13, _⟩ => ⟨S1x2048x1024, .f32⟩
  | .hbm, ⟨14, _⟩ => ⟨S9x2048x1024, .f32⟩
  | .hbm, ⟨15, _⟩ => ⟨S9x2048x1024, .bf16⟩
  | .hbm, ⟨16, _⟩ => ⟨S1x128, .f32⟩
  | .hbm, ⟨17, _⟩ => ⟨S8x2048x1024, .bf16⟩
  | .local _ .vmem, ⟨0, _⟩ => ⟨S4x64, .f32⟩
  | .local _ .vmem, ⟨1, _⟩ => ⟨S1x128, .f32⟩
  | .local _ .vmem, ⟨2, _⟩ => ⟨S1x1024x128, .f32⟩
  | .local _ .vmem, ⟨3, _⟩ => ⟨S1x1024x128, .f32⟩
  | .local _ .vmem, ⟨4, _⟩ => ⟨S1x256x128, .bf16⟩
  | .local _ .vmem, ⟨5, _⟩ => ⟨S1x256x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S2304x128, .bf16⟩
  | .local _ .vmem, ⟨15, _⟩ => ⟨S2304x128, .bf16⟩
  | _, _ => ⟨S4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨3, ![8, 8, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let v17 : BitVec 32 := Scalar.addi c0_i32_5 v16
  let c1_i32_6 : BitVec 32 := 1#32
  let c0_i32_7 : BitVec 32 := 0#32
  let v18 : BitVec 1 := Scalar.cmpi .eq c1_i32_6 c0_i32_7
  let c1_i32_8 : BitVec 32 := 1#32
  let v19 : BitVec 32 := Scalar.select v18 c1_i32_8 c1_i32_6
  let v20 : BitVec 32 := Scalar.remsi arg0 v19
  let c0_i32_9 : BitVec 32 := 0#32
  let v21 : BitVec 1 := Scalar.cmpi .ne v20 c0_i32_9
  let c0_i32_10 : BitVec 32 := 0#32
  let v22 : BitVec 1 := Scalar.cmpi .slt v20 c0_i32_10
  let c0_i32_11 : BitVec 32 := 0#32
  let v23 : BitVec 1 := Scalar.cmpi .slt v19 c0_i32_11
  let v24 : BitVec 1 := Scalar.xori v22 v23
  let v25 : BitVec 1 := Scalar.andi v24 v21
  let v26 : BitVec 32 := Scalar.addi v20 v19
  let v27 : BitVec 32 := Scalar.select v25 v26 v20
  let c2_i32 : BitVec 32 := 2#32
  let v28 : BitVec 32 := Scalar.muli v27 c2_i32
  let v29 : BitVec 32 := Scalar.addi v28 arg2
  let c0_i32_12 : BitVec 32 := 0#32
  ![v17.toNat, v29.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![c8_i32.toNat, arg0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  ![c8_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c2_i32 : BitVec 32 := 2#32
  let v27 : BitVec 32 := Scalar.muli v26 c2_i32
  let v28 : BitVec 32 := Scalar.addi v27 arg2
  let c0_i32_11 : BitVec 32 := 0#32
  ![v16.toNat, v28.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== KernelIdeal.lean ====
variable {F : FTy → Type} [FloatOps F] [Named F]
def κ : String → Option EReal := fun
  | "scale_log2e" => some (((1 / 8) * (Real.log 2)⁻¹ : ℝ) : EReal)
  | _ => none
-- ==== ReferenceIdeal.lean ====
abbrev S4x64 : Shape := ⟨2, ![4, 64]⟩
abbrev S128 : Shape := ⟨1, ![128]⟩
abbrev S8x2048x8x2x64 : Shape := ⟨5, ![8, 2048, 8, 2, 64]⟩
abbrev S8x256x8x2x64 : Shape := ⟨5, ![8, 256, 8, 2, 64]⟩
abbrev S8x256x8x128 : Shape := ⟨4, ![8, 256, 8, 128]⟩
abbrev S8x2048x8x128 : Shape := ⟨4, ![8, 2048, 8, 128]⟩
abbrev S1x64 : Shape := ⟨2, ![1, 64]⟩
abbrev S64 : Shape := ⟨1, ![64]⟩
abbrev S_ : Shape := ⟨0, ![]⟩
abbrev S8x2304x8x2x64 : Shape := ⟨5, ![8, 2304, 8, 2, 64]⟩
abbrev S8x2304x8x128 : Shape := ⟨4, ![8, 2304, 8, 128]⟩
abbrev S8x8x2x2048x2304 : Shape := ⟨5, ![8, 8, 2, 2048, 2304]⟩
abbrev S8x8x2x2048 : Shape := ⟨4, ![8, 8, 2, 2048]⟩
abbrev S8x8x2x2048x1 : Shape := ⟨5, ![8, 8, 2, 2048, 1]⟩
abbrev S8x8x1x2048x2304 : Shape := ⟨5, ![8, 8, 1, 2048, 2304]⟩
abbrev S8x8x2048x2304 : Shape := ⟨4, ![8, 8, 2048, 2304]⟩
abbrev S8x8x128x2048 : Shape := ⟨4, ![8, 8, 128, 2048]⟩
abbrev S8x2048x8 : Shape := ⟨3, ![8, 2048, 8]⟩
abbrev S8x2048x8x1 : Shape := ⟨4, ![8, 2048, 8, 1]⟩
abbrev S1x1x1x128 : Shape := ⟨4, ![1, 1, 1, 128]⟩
abbrev S8x2048x1024 : Shape := ⟨3, ![8, 2048, 1024]⟩

abbrev nBuf : Space → Nat
  | .hbm => 76
  | .vmem => 0
  | .smem => 0
  | _ => 0

abbrev bufTy : (tb : Table) → Fin (tcTables nBuf tb) → BufTy
  | .hbm, ⟨0, _⟩ => ⟨S4x64, .f32⟩
  | .hbm, ⟨1, _⟩ => ⟨S128, .f32⟩
  | .hbm, ⟨2, _⟩ => ⟨S8x2048x8x2x64, .f32⟩
  | .hbm, ⟨3, _⟩ => ⟨S8x256x8x2x64, .f32⟩
  | .hbm, ⟨4, _⟩ => ⟨S8x2048x8x2x64, .f32⟩
  | .hbm, ⟨5, _⟩ => ⟨S8x256x8x128, .f32⟩
  | .hbm, ⟨6, _⟩ => ⟨S8x2048x8x128, .f32⟩
  | .hbm, ⟨7, _⟩ => ⟨S1x64, .f32⟩
  | .hbm, ⟨8, _⟩ => ⟨S64, .f32⟩
  | .hbm, ⟨9, _⟩ => ⟨S1x64, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S1x64, .f32⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S64, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S8x2304x8x2x64, .f32⟩
  | .hbm, ⟨27, _⟩ => ⟨S8x2304x8x128, .f32⟩
  | .hbm, ⟨28, _⟩ => ⟨S8x8x2x2048x2304, .f32⟩
  | .hbm, ⟨29, _⟩ => ⟨S_, .f32⟩
  | .hbm, ⟨30, _⟩ => ⟨S8x8x2x2048x2304, .f32⟩
  | .hbm, ⟨31, _⟩ => ⟨S8x8x2x2048x2304, .f32⟩
  | .hbm, ⟨32, _⟩ => ⟨S_, .f32⟩
  | .hbm, ⟨33, _⟩ => ⟨S8x8x2x2048, .f32⟩
  | .hbm, ⟨34, _⟩ => ⟨S_, .f32⟩
  | .hbm, ⟨35, _⟩ => ⟨S8x8x2x2048, .f32⟩
  | .hbm, ⟨36, _⟩ => ⟨S8x8x2x2048, .f32⟩
  | .hbm, ⟨37, _⟩ => ⟨S8x8x2x2048x1, .f32⟩
  | .hbm, ⟨38, _⟩ => ⟨S8x8x2x2048x2304, .f32⟩
  | .hbm, ⟨39, _⟩ => ⟨S8x8x2x2048x2304, .f32⟩
  | .hbm, ⟨40, _⟩ => ⟨S8x8x2x2048x2304, .f32⟩
  | .hbm, ⟨41, _⟩ => ⟨S_, .f32⟩
  | .hbm, ⟨42, _⟩ => ⟨S8x8x2x2048, .f32⟩
  | .hbm, ⟨43, _⟩ => ⟨S8x8x2x2048x1, .f32⟩
  | .hbm, ⟨44, _⟩ => ⟨S8x8x2x2048x2304, .f32⟩
  | .hbm, ⟨45, _⟩ => ⟨S8x8x2x2048x2304, .f32⟩
  | .hbm, ⟨46, _⟩ => ⟨S8x8x1x2048x2304, .f32⟩
  | .hbm, ⟨47, _⟩ => ⟨S8x8x2048x2304, .f32⟩
  | .hbm, ⟨48, _⟩ => ⟨S8x8x1x2048x2304, .f32⟩
  | .hbm, ⟨49, _⟩ => ⟨S8x8x2048x2304, .f32⟩
  | .hbm, ⟨50, _⟩ => ⟨S8x8x2048x2304, .f32⟩
  | .hbm, ⟨51, _⟩ => ⟨S8x8x2048x2304, .f32⟩
  | .hbm, ⟨52, _⟩ => ⟨S8x8x2048x2304, .f32⟩
  | .hbm, ⟨53, _⟩ => ⟨S8x8x128x2048, .f32⟩
  | .hbm, ⟨54, _⟩ => ⟨S8x2048x8x128, .f32⟩
  | .hbm, ⟨55, _⟩ => ⟨S8x2048x8x128, .f32⟩
  | .hbm, ⟨56, _⟩ => ⟨S_, .f32⟩
  | .hbm, ⟨57, _⟩ => ⟨S8x2048x8, .f32⟩
  | .hbm, ⟨58, _⟩ => ⟨S8x2048x8x1, .f32⟩
  | .hbm, ⟨59, _⟩ => ⟨S_, .f32⟩
  | .hbm, ⟨60, _⟩ => ⟨S8x2048x8x1, .f32⟩
  | .hbm, ⟨61, _⟩ => ⟨S8x2048x8x1, .f32⟩
  | .hbm, ⟨62, _⟩ => ⟨S_, .f32⟩
  | .hbm, ⟨63, _⟩ => ⟨S8x2048x8x1, .f32⟩
  | .hbm, ⟨64, _⟩ => ⟨S8x2048x8x1, .f32⟩
  | .hbm, ⟨65, _⟩ => ⟨S8x2048x8x1, .f32⟩
  | .hbm, ⟨66, _⟩ => ⟨S8x2048x8x128, .f32⟩
  | .hbm, ⟨67, _⟩ => ⟨S8x2048x8x128, .f32⟩
  | .hbm, ⟨68, _⟩ => ⟨S1x1x1x128, .f32⟩
  | .hbm, ⟨69, _⟩ => ⟨S8x2048x8x128, .f32⟩
  | .hbm, ⟨70, _⟩ => ⟨S8x2048x8x128, .f32⟩
  | .hbm, ⟨71, _⟩ => ⟨S_, .f32⟩
  | .hbm, ⟨72, _⟩ => ⟨S8x2048x8x128, .f32⟩
  | .hbm, ⟨73, _⟩ => ⟨S8x2048x8x128, .f32⟩
  | .hbm, ⟨74, _⟩ => ⟨S8x2048x1024, .f32⟩
  | .hbm, ⟨75, _⟩ => ⟨S8x2048x1024, .bf16⟩
  | _, _ => ⟨S4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_9 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]
-- ==== Kernel2.lean ====
abbrev S8x2048x1024 : Shape := ⟨3, ![8, 2048, 1024]⟩
abbrev S8x3x1024 : Shape := ⟨3, ![8, 3, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1x1024x1024 : Shape := ⟨3, ![1, 1024, 1024]⟩
abbrev S1x3x1024 : Shape := ⟨3, ![1, 3, 1024]⟩
abbrev S1024x2816 : Shape := ⟨2, ![1024, 2816]⟩
abbrev S1024x1024 : Shape := ⟨2, ![1024, 1024]⟩
abbrev S3x1024 : Shape := ⟨2, ![3, 1024]⟩
abbrev S1024x256 : Shape := ⟨2, ![1024, 256]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2Ideal.lean ====
abbrev S8x2048x1024 : Shape := ⟨3, ![8, 2048, 1024]⟩
abbrev S8x3x1024 : Shape := ⟨3, ![8, 3, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1x1024x1024 : Shape := ⟨3, ![1, 1024, 1024]⟩
abbrev S1x3x1024 : Shape := ⟨3, ![1, 3, 1024]⟩
abbrev S1024x2816 : Shape := ⟨2, ![1024, 2816]⟩
abbrev S1024x1024 : Shape := ⟨2, ![1024, 1024]⟩
abbrev S3x1024 : Shape := ⟨2, ![3, 1024]⟩
abbrev S1024x256 : Shape := ⟨2, ![1024, 256]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x2048x1024 : Shape := ⟨3, ![8, 2048, 1024]⟩
abbrev S8x3x1024 : Shape := ⟨3, ![8, 3, 1024]⟩
abbrev S1024x5632 : Shape := ⟨2, ![1024, 5632]⟩
abbrev S2816x1024 : Shape := ⟨2, ![2816, 1024]⟩
abbrev S1024 : Shape := ⟨1, ![1024]⟩
abbrev S8x1x1024 : Shape := ⟨3, ![8, 1, 1024]⟩
abbrev S_ : Shape := ⟨0, ![]⟩
abbrev S8x2048x5632 : Shape := ⟨3, ![8, 2048, 5632]⟩
abbrev S8x2048x2816 : Shape := ⟨3, ![8, 2048, 2816]⟩
abbrev S8x2048 : Shape := ⟨2, ![8, 2048]⟩
abbrev S8x2048x1 : Shape := ⟨3, ![8, 2048, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S8x1x1024, .f32⟩
  | .hbm, ⟨7, _⟩ => ⟨S8x1x1024, .f32⟩
  | .hbm, ⟨8, _⟩ => ⟨S8x1x1024, .f32⟩
  | .hbm, ⟨9, _⟩ => ⟨S_, .f32⟩
  | .hbm, ⟨10, _⟩ => ⟨S8x1x1024, .f32⟩
  | .hbm, ⟨11, _⟩ => ⟨S8x1x1024, .f32⟩
  | .hbm, ⟨12, _⟩ => ⟨S8x2048x1024, .f32⟩
  | .hbm, ⟨13, _⟩ => ⟨S8x2048x1024, .f32⟩
  | .hbm, ⟨14, _⟩ => ⟨S8x2048x1024, .f32⟩
  | .hbm, ⟨15, _⟩ => ⟨S8x2048x1024, .f32⟩
  | .hbm, ⟨16, _⟩ => ⟨S8x2048x5632, .f32⟩
  | .hbm, ⟨17, _⟩ => ⟨S8x2048x2816, .f32⟩
  | .hbm, ⟨18, _⟩ => ⟨S8x2048x2816, .f32⟩
  | .hbm, ⟨19, _⟩ => ⟨S8x2048x2816, .f32⟩
  | .hbm, ⟨20, _⟩ => ⟨S8x2048x2816, .f32⟩
  | .hbm, ⟨21, _⟩ => ⟨S_, .f32⟩
  | .hbm, ⟨22, _⟩ => ⟨S8x2048x2816, .f32⟩
  | .hbm, ⟨23, _⟩ => ⟨S8x2048x2816, .f32⟩
  | .hbm, ⟨24, _⟩ => ⟨S_, .f32⟩
  | .hbm, ⟨25, _⟩ => ⟨S8x2048x2816, .f32⟩
  | .hbm, ⟨26, _⟩ => ⟨S8x2048x2816, .f32⟩
  | .hbm, ⟨27, _⟩ => ⟨S8x2048x2816, .f32⟩
  | .hbm, ⟨28, _⟩ => ⟨S8x2048x2816, .f32⟩
  | .hbm, ⟨29, _⟩ => ⟨S8x2048x1024, .f32⟩
  | .hbm, ⟨30, _⟩ => ⟨S_, .f32⟩
  | .hbm, ⟨31, _⟩ => ⟨S8x2048x1024, .f32⟩
  | .hbm, ⟨32, _⟩ => ⟨S8x2048x1024, .f32⟩
  | .hbm, ⟨33, _⟩ => ⟨S_, .f32⟩
  | .hbm, ⟨34, _⟩ => ⟨S8x1x1024, .f32⟩
  | .hbm, ⟨35, _⟩ => ⟨S8x1x1024, .f32⟩
  | .hbm, ⟨36, _⟩ => ⟨S_, .f32⟩
  | .hbm, ⟨37, _⟩ => ⟨S8x1x1024, .f32⟩
  | .hbm, ⟨38, _⟩ => ⟨S8x1x1024, .f32⟩
  | .hbm, ⟨39, _⟩ => ⟨S8x2048x1024, .f32⟩
  | .hbm, ⟨40, _⟩ => ⟨S8x2048x1024, .f32⟩
  | .hbm, ⟨41, _⟩ => ⟨S8x2048x1024, .f32⟩
  | .hbm, ⟨42, _⟩ => ⟨S_, .f32⟩
  | .hbm, ⟨43, _⟩ => ⟨S8x2048, .f32⟩
  | .hbm, ⟨44, _⟩ => ⟨S8x2048x1, .f32⟩
  | .hbm, ⟨45, _⟩ => ⟨S_, .f32⟩
  | .hbm, ⟨46, _⟩ => ⟨S8x2048x1, .f32⟩
  | .hbm, ⟨47, _⟩ => ⟨S8x2048x1, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048, .f32⟩
  | .hbm, ⟨53, _⟩ => ⟨S8x2048x1, .f32⟩
  | .hbm, ⟨54, _⟩ => ⟨S_, .f32⟩
  | .hbm, ⟨55, _⟩ => ⟨S8x2048x1, .f32⟩
  | .hbm, ⟨56, _⟩ => ⟨S8x2048x1, .f32⟩
  | .hbm, ⟨57, _⟩ => ⟨S8x2048x1024, .f32⟩
  | .hbm, ⟨58, _⟩ => ⟨S8x2048x1024, .f32⟩
  | .hbm, ⟨59, _⟩ => ⟨S_, .f32⟩
  | .hbm, ⟨60, _⟩ => ⟨S8x2048x1, .f32⟩
  | .hbm, ⟨61, _⟩ => ⟨S8x2048x1, .f32⟩
  | .hbm, ⟨62, _⟩ => ⟨S8x2048x1, .f32⟩
  | .hbm, ⟨63, _⟩ => ⟨S8x2048x1024, .f32⟩
  | .hbm, ⟨64, _⟩ => ⟨S8x2048x1024, .f32⟩
  | .hbm, ⟨65, _⟩ => ⟨S1x1x1024, .f32⟩
  | .hbm, ⟨66, _⟩ => ⟨S8x2048x1024, .f32⟩
  | .hbm, ⟨67, _⟩ => ⟨S8x2048x1024, .f32⟩
  | .hbm, ⟨68, _⟩ => ⟨S1x1x1024, .f32⟩
  | .hbm, ⟨69, _⟩ => ⟨S8x2048x1024, .f32⟩
  | .hbm, ⟨70, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x1x1024 : Shape := ⟨3, ![8, 1, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S1x1x1024 : Shape := ⟨3, ![1, 1, 1024]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x1x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8x2048x1024, .bf16⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .bf16⟩
  | .local _ .vmem, ⟨3, _⟩ => ⟨S1x1024x1024, .bf16⟩
  | .local _ .vmem, ⟨4, _⟩ => ⟨S1x1x1024, .f32⟩
  | .local _ .vmem, ⟨5, _⟩ => ⟨S1x1x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference3Ideal.lean ====
abbrev S8x2048x1024 : Shape := ⟨3, ![8, 2048, 1024]⟩
abbrev S8x1x1024 : Shape := ⟨3, ![8, 1, 1024]⟩
abbrev S1024x1024 : Shape := ⟨2, ![1024, 1024]⟩
abbrev S1024 : Shape := ⟨1, ![1024]⟩
abbrev S1x1x1024 : Shape := ⟨3, ![1, 1, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .f32⟩
  | .hbm, ⟨2, _⟩ => ⟨S8x1x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S8x2048x1024, .f32⟩
  | .hbm, ⟨8, _⟩ => ⟨S1x1x1024, .f32⟩
  | .hbm, ⟨9, _⟩ => ⟨S8x2048x1024, .f32⟩
  | .hbm, ⟨10, _⟩ => ⟨S8x2048x1024, .f32⟩
  | .hbm, ⟨11, _⟩ => ⟨S_, .f32⟩
  | .hbm, ⟨12, _⟩ => ⟨S8x2048x1024, .f32⟩
  | .hbm, ⟨13, _⟩ => ⟨S8x2048x1024, .f32⟩
  | .hbm, ⟨14, _⟩ => ⟨S_, .f32⟩
  | .hbm, ⟨15, _⟩ => ⟨S8x1x1024, .f32⟩
  | .hbm, ⟨16, _⟩ => ⟨S8x1x1024, .f32⟩
  | .hbm, ⟨17, _⟩ => ⟨S_, .f32⟩
  | .hbm, ⟨18, _⟩ => ⟨S8x1x1024, .f32⟩
  | .hbm, ⟨19, _⟩ => ⟨S8x1x1024, .f32⟩
  | .hbm, ⟨20, _⟩ => ⟨S8x2048x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x2048, .f32⟩
  | .hbm, ⟨25, _⟩ => ⟨S8x2048x1, .f32⟩
  | .hbm, ⟨26, _⟩ => ⟨S_, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S_, .f32⟩
  | .hbm, ⟨33, _⟩ => ⟨S8x2048, .f32⟩
  | .hbm, ⟨34, _⟩ => ⟨S8x2048x1, .f32⟩
  | .hbm, ⟨35, _⟩ => ⟨S_, .f32⟩
  | .hbm, ⟨36, _⟩ => ⟨S8x2048x1, .f32⟩
  | .hbm, ⟨37, _⟩ => ⟨S8x2048x1, .f32⟩
  | .hbm, ⟨38, _⟩ => ⟨S8x2048x1024, .f32⟩
  | .hbm, ⟨39, _⟩ => ⟨S8x2048x1024, .f32⟩
  | .hbm, ⟨40, _⟩ => ⟨S_, .f32⟩
  | .hbm, ⟨41, _⟩ => ⟨S8x2048x1, .f32⟩
  | .hbm, ⟨42, _⟩ => ⟨S8x2048x1, .f32⟩
  | .hbm, ⟨43, _⟩ => ⟨S8x2048x1, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S1x1x1024, .f32⟩
  | .hbm, ⟨50, _⟩ => ⟨S8x2048x1024, .f32⟩
  | .hbm, ⟨51, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]
-- ==== Kernel4.lean ====
abbrev S8x2048x1024 : Shape := ⟨3, ![8, 2048, 1024]⟩
abbrev S8x256x1024 : Shape := ⟨3, ![8, 256, 1024]⟩
abbrev S8x2x1024 : Shape := ⟨3, ![8, 2, 1024]⟩
abbrev S1x2x1024 : Shape := ⟨3, ![1, 2, 1024]⟩
abbrev S1024x3072 : Shape := ⟨2, ![1024, 3072]⟩
abbrev S1x2048x1024 : Shape := ⟨3, ![1, 2048, 1024]⟩
abbrev S9x2048x1024 : Shape := ⟨3, ![9, 2048, 1024]⟩
abbrev S9x2x1024 : Shape := ⟨3, ![9, 2, 1024]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S64 : Shape := ⟨1, ![64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x64 : Shape := ⟨2, ![1, 64]⟩
abbrev S1x2048x128 : Shape := ⟨3, ![1, 2048, 128]⟩
abbrev S2x2048x128 : Shape := ⟨3, ![2, 2048, 128]⟩
abbrev S1x512x1024 : Shape := ⟨3, ![1, 512, 1024]⟩
abbrev S1x512x128 : Shape := ⟨3, ![1, 512, 128]⟩
abbrev S512x1024 : Shape := ⟨2, ![512, 1024]⟩
abbrev S2x1024 : Shape := ⟨2, ![2, 1024]⟩
abbrev S1x1024 : Shape := ⟨2, ![1, 1024]⟩
abbrev S512x128 : Shape := ⟨2, ![512, 128]⟩
abbrev S1024x1024 : Shape := ⟨2, ![1024, 1024]⟩

abbrev nBuf : Space → Nat
  | .hbm => 101
  | .vmem => 15
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x2x1024, .f32⟩
  | .hbm, ⟨3, _⟩ => ⟨S1x2x1024, .f32⟩
  | .hbm, ⟨4, _⟩ => ⟨S1024x3072, .f32⟩
  | .hbm, ⟨5, _⟩ => ⟨S1x2048x1024, .f32⟩
  | .hbm, ⟨6, _⟩ => ⟨S9x2048x1024, .f32⟩
  | .hbm, ⟨7, _⟩ => ⟨S9x2x1024, .f32⟩
  | .hbm, ⟨8, _⟩ => ⟨S2048, .i32⟩
  | .hbm, ⟨9, _⟩ => ⟨S_, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S2048, .i32⟩
  | .hbm, ⟨14, _⟩ => ⟨S_, .i32⟩
  | .hbm, ⟨15, _⟩ => ⟨S2048, .i32⟩
  | .hbm, ⟨16, _⟩ => ⟨S2048, .i1⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i1⟩
  | .hbm, ⟨22, _⟩ => ⟨S2048, .i1⟩
  | .hbm, ⟨23, _⟩ => ⟨S_, .i32⟩
  | .hbm, ⟨24, _⟩ => ⟨S2048, .i32⟩
  | .hbm, ⟨25, _⟩ => ⟨S2048, .i32⟩
  | .hbm, ⟨26, _⟩ => ⟨S2048, .i32⟩
  | .hbm, ⟨27, _⟩ => ⟨S2048, .f32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i1⟩
  | .hbm, ⟨39, _⟩ => ⟨S_, .i32⟩
  | .hbm, ⟨40, _⟩ => ⟨S2048, .i32⟩
  | .hbm, ⟨41, _⟩ => ⟨S2048, .i1⟩
  | .hbm, ⟨42, _⟩ => ⟨S_, .i32⟩
  | .hbm, ⟨43, _⟩ => ⟨S_, .i1⟩
  | .hbm, ⟨44, _⟩ => ⟨S2048, .i1⟩
  | .hbm, ⟨45, _⟩ => ⟨S2048, .i1⟩
  | .hbm, ⟨46, _⟩ => ⟨S2048, .i1⟩
  | .hbm, ⟨47, _⟩ => ⟨S2048, .i32⟩
  | .hbm, ⟨48, _⟩ => ⟨S2048, .i32⟩
  | .hbm, ⟨49, _⟩ => ⟨S2048, .i32⟩
  | .hbm, ⟨50, _⟩ => ⟨S2048, .f32⟩
  | .hbm, ⟨51, _⟩ => ⟨S16, .f32⟩
  | .hbm, ⟨52, _⟩ => ⟨S16, .f32⟩
  | .hbm, ⟨53, _⟩ => ⟨S_, .f32⟩
  | .hbm, ⟨54, _⟩ => ⟨S16, .f32⟩
  | .hbm, ⟨55, _⟩ => ⟨S16, .f32⟩
  | .hbm, ⟨56, _⟩ => ⟨S_, .f32⟩
  | .hbm, ⟨57, _⟩ => ⟨S16, .f32⟩
  | .hbm, ⟨58, _⟩ => ⟨S16, .f32⟩
  | .hbm, ⟨59, _⟩ => ⟨S2048x1, .f32⟩
  | .hbm, ⟨60, _⟩ => ⟨S1x16, .f32⟩
  | .hbm, ⟨61, _⟩ => ⟨S2048x16, .f32⟩
  | .hbm, ⟨62, _⟩ => ⟨S2048x16, .f32⟩
  | .hbm, ⟨63, _⟩ => ⟨S2048x16, .f32⟩
  | .hbm, ⟨64, _⟩ => ⟨S2048x1, .f32⟩
  | .hbm, ⟨65, _⟩ => ⟨S1x16, .f32⟩
  | .hbm, ⟨66, _⟩ => ⟨S2048x16, .f32⟩
  | .hbm, ⟨67, _⟩ => ⟨S2048x16, .f32⟩
  | .hbm, ⟨68, _⟩ => ⟨S2048x16, .f32⟩
  | .hbm, ⟨69, _⟩ => ⟨S2048x64, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S64, .f32⟩
  | .hbm, ⟨76, _⟩ => ⟨S2048x64, .f32⟩
  | .hbm, ⟨77, _⟩ => ⟨S1x2048x1x64, .f32⟩
  | .hbm, ⟨78, _⟩ => ⟨S1x2048x2x64, .f32⟩
  | .hbm, ⟨79, _⟩ => ⟨S2048x128, .f32⟩
  | .hbm, ⟨80, _⟩ => ⟨S2048x64, .f32⟩
  | .hbm, ⟨81, _⟩ => ⟨S1x64, .f32⟩
  | .hbm, ⟨82, _⟩ => ⟨S2048x64, .f32⟩
  | .hbm, ⟨83, _⟩ => ⟨S2048x64, .f32⟩
  | .hbm, ⟨84, _⟩ => ⟨S1x2048x1x64, .f32⟩
  | .hbm, ⟨85, _⟩ => ⟨S1x2048x2x64, .f32⟩
  | .hbm, ⟨86, _⟩ => ⟨S2048x128, .f32⟩
  | .hbm, ⟨87, _⟩ => ⟨S_, .f32⟩
  | .hbm, ⟨88, _⟩ => ⟨S2048x128, .f32⟩
  | .hbm, ⟨89, _⟩ => ⟨S1x2048x128, .f32⟩
  | .hbm, ⟨90, _⟩ => ⟨S1x2048x128, .f32⟩
  | .hbm, ⟨91, _⟩ => ⟨S2x2048x128, .f32⟩
  | .hbm, ⟨92, _⟩ => ⟨S_, .f32⟩
  | .hbm, ⟨93, _⟩ => ⟨S2048x128, .f32⟩
  | .hbm, ⟨94, _⟩ => ⟨S1x2048x128, .f32⟩
  | .hbm, ⟨95, _⟩ => ⟨S1x2048x128, .f32⟩
  | .hbm, ⟨96, _⟩ => ⟨S2x2048x128, .f32⟩
  | .hbm, ⟨97, _⟩ => ⟨S1024x3072, .bf16⟩
  | .hbm, ⟨98, _⟩ => ⟨S9x2048x1024, .f32⟩
  | .hbm, ⟨99, _⟩ => ⟨S9x2048x1024, .bf16⟩
  | .hbm, ⟨100, _⟩ => ⟨S9x2048x1024, .bf16⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1024x3072, .bf16⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x1024, .f32⟩
  | .local _ .vmem, ⟨10, _⟩ => ⟨S1x512x1024, .f32⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S1x512x1024, .bf16⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_c : Ref sig .tc := ⟨.hbm, 30, rfl⟩
abbrev main_call1_v1 : Ref sig .tc := ⟨.hbm, 31, rfl⟩
abbrev main_call1_c_0 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_call1_c_1 : Ref sig .tc := ⟨.hbm, 36, rfl⟩
abbrev main_call1_v5 : Ref sig .tc := ⟨.hbm, 37, rfl⟩
abbrev main_call1_v6 : Ref sig .tc := ⟨.hbm, 38, rfl⟩
abbrev main_call1_c_2 : Ref sig .tc := ⟨.hbm, 39, rfl⟩
abbrev main_call1_v7 : Ref sig .tc := ⟨.hbm, 40, rfl⟩
abbrev main_call1_v8 : Ref sig .tc := ⟨.hbm, 41, rfl⟩
abbrev main_call1_c_3 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_v12 : Ref sig .tc := ⟨.hbm, 46, rfl⟩
abbrev main_call1_v13 : Ref sig .tc := ⟨.hbm, 47, rfl⟩
abbrev main_call1_v14 : Ref sig .tc := ⟨.hbm, 48, rfl⟩
abbrev main_v6 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_cst : Ref sig .tc := ⟨.hbm, 53, rfl⟩
abbrev main_v10 : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_cst_2 : Ref sig .tc := ⟨.hbm, 70, rfl⟩
abbrev main_v25 : Ref sig .tc := ⟨.hbm, 71, rfl⟩
abbrev main_v26 : Ref sig .tc := ⟨.hbm, 72, rfl⟩
abbrev main_cst_3 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_cst_4 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_cst_5 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49_0 : Ref sig .tc := ⟨.hbm, 98, rfl⟩
abbrev main_v49_1 : Ref sig .tc := ⟨.hbm, 99, rfl⟩
abbrev main_v49_2 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_4 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, arg1.toNat, c0_i32_4.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S8x2048x1024 : Shape := ⟨3, ![8, 2048, 1024]⟩
abbrev S8x256x1024 : Shape := ⟨3, ![8, 256, 1024]⟩
abbrev S8x2x1024 : Shape := ⟨3, ![8, 2, 1024]⟩
abbrev S1x2x1024 : Shape := ⟨3, ![1, 2, 1024]⟩
abbrev S1024x3072 : Shape := ⟨2, ![1024, 3072]⟩
abbrev S1x1x1024 : Shape := ⟨3, ![1, 1, 1024]⟩
abbrev S_ : Shape := ⟨0, ![]⟩
abbrev S8x256x3072 : Shape := ⟨3, ![8, 256, 3072]⟩
abbrev S8x256x8x2x64 : Shape := ⟨5, ![8, 256, 8, 2, 64]⟩
abbrev S8x256x8x128 : Shape := ⟨4, ![8, 256, 8, 128]⟩
abbrev S8x1x1024 : Shape := ⟨3, ![8, 1, 1024]⟩
abbrev S8x2048x3072 : Shape := ⟨3, ![8, 2048, 3072]⟩
abbrev S8x2048x8x2x64 : Shape := ⟨5, ![8, 2048, 8, 2, 64]⟩
abbrev S8x2048x8x128 : Shape := ⟨4, ![8, 2048, 8, 128]⟩
abbrev S32 : Shape := ⟨1, ![32]⟩
abbrev S32x1 : Shape := ⟨2, ![32, 1]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S2048x2x16 : Shape := ⟨3, ![2048, 2, 16]⟩
abbrev S2048x2x32 : Shape := ⟨3, ![2048, 2, 32]⟩
abbrev S8x2048x8x2x2x32 : Shape := ⟨6, ![8, 2048, 8, 2, 2, 32]⟩
abbrev S8x2048x8x2x2x16 : Shape := ⟨6, ![8, 2048, 8, 2, 2, 16]⟩
abbrev S1x2048x1x1x2x32 : Shape := ⟨6, ![1, 2048, 1, 1, 2, 32]⟩
abbrev S1x2048x1024 : Shape := ⟨3, ![1, 2048, 1024]⟩
abbrev S9x2048x1024 : Shape := ⟨3, ![9, 2048, 1024]⟩

abbrev nBuf : Space → Nat
  | .hbm => 106
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x256x1024, .f32⟩
  | .hbm, ⟨2, _⟩ => ⟨S8x2x1024, .f32⟩
  | .hbm, ⟨3, _⟩ => ⟨S1x2x1024, .f32⟩
  | .hbm, ⟨4, _⟩ => ⟨S1024x3072, .f32⟩
  | .hbm, ⟨5, _⟩ => ⟨S1x1x1024, .f32⟩
  | .hbm, ⟨6, _⟩ => ⟨S1x1x1024, .f32⟩
  | .hbm, ⟨7, _⟩ => ⟨S_, .f32⟩
  | .hbm, ⟨8, _⟩ => ⟨S1x1x1024, .f32⟩
  | .hbm, ⟨9, _⟩ => ⟨S1x1x1024, .f32⟩
  | .hbm, ⟨10, _⟩ => ⟨S8x256x1024, .f32⟩
  | .hbm, ⟨11, _⟩ => ⟨S8x256x1024, .f32⟩
  | .hbm, ⟨12, _⟩ => ⟨S8x256x1024, .f32⟩
  | .hbm, ⟨13, _⟩ => ⟨S8x256x1024, .f32⟩
  | .hbm, ⟨14, _⟩ => ⟨S8x256x3072, .f32⟩
  | .hbm, ⟨15, _⟩ => ⟨S8x256x1024, .f32⟩
  | .hbm, ⟨16, _⟩ => ⟨S8x256x1024, .f32⟩
  | .hbm, ⟨17, _⟩ => ⟨S8x256x1024, .f32⟩
  | .hbm, ⟨18, _⟩ => ⟨S8x256x8x2x64, .f32⟩
  | .hbm, ⟨19, _⟩ => ⟨S8x256x8x2x64, .f32⟩
  | .hbm, ⟨20, _⟩ => ⟨S8x256x8x128, .f32⟩
  | .hbm, ⟨21, _⟩ => ⟨S8x1x1024, .f32⟩
  | .hbm, ⟨22, _⟩ => ⟨S8x1x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S8x2048x3072, .f32⟩
  | .hbm, ⟨31, _⟩ => ⟨S8x2048x1024, .f32⟩
  | .hbm, ⟨32, _⟩ => ⟨S8x2048x1024, .f32⟩
  | .hbm, ⟨33, _⟩ => ⟨S8x2048x1024, .f32⟩
  | .hbm, ⟨34, _⟩ => ⟨S8x2048x8x2x64, .f32⟩
  | .hbm, ⟨35, _⟩ => ⟨S8x2048x8x2x64, .f32⟩
  | .hbm, ⟨36, _⟩ => ⟨S8x2048x8x128, .f32⟩
  | .hbm, ⟨37, _⟩ => ⟨S32, .f32⟩
  | .hbm, ⟨38, _⟩ => ⟨S32x1, .f32⟩
  | .hbm, ⟨39, _⟩ => ⟨S32x64, .f32⟩
  | .hbm, ⟨40, _⟩ => ⟨S2048, .f32⟩
  | .hbm, ⟨41, _⟩ => ⟨S64, .f32⟩
  | .hbm, ⟨42, _⟩ => ⟨S1x64, .f32⟩
  | .hbm, ⟨43, _⟩ => ⟨S32x64, .f32⟩
  | .hbm, ⟨44, _⟩ => ⟨S2048, .f32⟩
  | .hbm, ⟨45, _⟩ => ⟨S16, .f32⟩
  | .hbm, ⟨46, _⟩ => ⟨S16, .f32⟩
  | .hbm, ⟨47, _⟩ => ⟨S_, .f32⟩
  | .hbm, ⟨48, _⟩ => ⟨S16, .f32⟩
  | .hbm, ⟨49, _⟩ => ⟨S16, .f32⟩
  | .hbm, ⟨50, _⟩ => ⟨S_, .f32⟩
  | .hbm, ⟨51, _⟩ => ⟨S16, .f32⟩
  | .hbm, ⟨52, _⟩ => ⟨S16, .f32⟩
  | .hbm, ⟨53, _⟩ => ⟨S2048x1, .f32⟩
  | .hbm, ⟨54, _⟩ => ⟨S1x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x1, .f32⟩
  | .hbm, ⟨59, _⟩ => ⟨S1x16, .f32⟩
  | .hbm, ⟨60, _⟩ => ⟨S2048x16, .f32⟩
  | .hbm, ⟨61, _⟩ => ⟨S2048x16, .f32⟩
  | .hbm, ⟨62, _⟩ => ⟨S2048x16, .f32⟩
  | .hbm, ⟨63, _⟩ => ⟨S2048x1x16, .f32⟩
  | .hbm, ⟨64, _⟩ => ⟨S2048x1x16, .f32⟩
  | .hbm, ⟨65, _⟩ => ⟨S2048x2x16, .f32⟩
  | .hbm, ⟨66, _⟩ => ⟨S2048x2x32, .f32⟩
  | .hbm, ⟨67, _⟩ => ⟨S2048x2x32, .f32⟩
  | .hbm, ⟨68, _⟩ => ⟨S2048x2x32, .f32⟩
  | .hbm, ⟨69, _⟩ => ⟨S8x2048x8x2x2x32, .f32⟩
  | .hbm, ⟨70, _⟩ => ⟨S8x2048x8x2x2x16, .f32⟩
  | .hbm, ⟨71, _⟩ => ⟨S8x2048x8x2x2x16, .f32⟩
  | .hbm, ⟨72, _⟩ => ⟨S8x2048x8x2x2x16, .f32⟩
  | .hbm, ⟨73, _⟩ => ⟨S8x2048x8x2x2x32, .f32⟩
  | .hbm, ⟨74, _⟩ => ⟨S1x2048x1x1x2x32, .f32⟩
  | .hbm, ⟨75, _⟩ => ⟨S1x2048x1x1x2x32, .f32⟩
  | .hbm, ⟨76, _⟩ => ⟨S8x2048x8x2x2x32, .f32⟩
  | .hbm, ⟨77, _⟩ => ⟨S8x2048x8x2x2x32, .f32⟩
  | .hbm, ⟨78, _⟩ => ⟨S8x2048x8x2x2x32, .f32⟩
  | .hbm, ⟨79, _⟩ => ⟨S8x2048x8x2x2x32, .f32⟩
  | .hbm, ⟨80, _⟩ => ⟨S8x2048x8x2x2x32, .f32⟩
  | .hbm, ⟨81, _⟩ => ⟨S8x2048x8x2x64, .f32⟩
  | .hbm, ⟨82, _⟩ => ⟨S8x2048x8x2x2x32, .f32⟩
  | .hbm, ⟨83, _⟩ => ⟨S8x2048x8x2x2x16, .f32⟩
  | .hbm, ⟨84, _⟩ => ⟨S8x2048x8x2x2x16, .f32⟩
  | .hbm, ⟨85, _⟩ => ⟨S8x2048x8x2x2x16, .f32⟩
  | .hbm, ⟨86, _⟩ => ⟨S8x2048x8x2x2x32, .f32⟩
  | .hbm, ⟨87, _⟩ => ⟨S1x2048x1x1x2x32, .f32⟩
  | .hbm, ⟨88, _⟩ => ⟨S1x2048x1x1x2x32, .f32⟩
  | .hbm, ⟨89, _⟩ => ⟨S8x2048x8x2x2x32, .f32⟩
  | .hbm, ⟨90, _⟩ => ⟨S8x2048x8x2x2x32, .f32⟩
  | .hbm, ⟨91, _⟩ => ⟨S8x2048x8x2x2x32, .f32⟩
  | .hbm, ⟨92, _⟩ => ⟨S8x2048x8x2x2x32, .f32⟩
  | .hbm, ⟨93, _⟩ => ⟨S8x2048x8x2x2x32, .f32⟩
  | .hbm, ⟨94, _⟩ => ⟨S8x2048x8x2x64, .f32⟩
  | .hbm, ⟨95, _⟩ => ⟨S8x2048x1024, .f32⟩
  | .hbm, ⟨96, _⟩ => ⟨S1x2048x1024, .f32⟩
  | .hbm, ⟨97, _⟩ => ⟨S9x2048x1024, .f32⟩
  | .hbm, ⟨98, _⟩ => ⟨S8x2048x1024, .f32⟩
  | .hbm, ⟨99, _⟩ => ⟨S1x2048x1024, .f32⟩
  | .hbm, ⟨100, _⟩ => ⟨S9x2048x1024, .f32⟩
  | .hbm, ⟨101, _⟩ => ⟨S9x2048x1024, .bf16⟩
  | .hbm, ⟨102, _⟩ => ⟨S8x2048x1024, .f32⟩
  | .hbm, ⟨103, _⟩ => ⟨S1x2048x1024, .f32⟩
  | .hbm, ⟨104, _⟩ => ⟨S9x2048x1024, .f32⟩
  | .hbm, ⟨105, _⟩ => ⟨S9x2048x1024, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_0 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_1 : Ref sig .tc := ⟨.hbm, 47, rfl⟩
abbrev main_v40 : Ref sig .tc := ⟨.hbm, 48, rfl⟩
abbrev main_v41 : Ref sig .tc := ⟨.hbm, 49, rfl⟩
abbrev main_cst_2 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩

abbrev nD : Nat := 1
abbrev τ : Topo := Topo.v7x

variable {F : FTy → Type} [FloatOps F]
-- ==== Kernel5.lean ====
abbrev S9x2048x1024 : Shape := ⟨3, ![9, 2048, 1024]⟩
abbrev S9x2x1024 : Shape := ⟨3, ![9, 2, 1024]⟩
abbrev S1024x3072 : Shape := ⟨2, ![1024, 3072]⟩
abbrev S3072 : Shape := ⟨1, ![3072]⟩
abbrev S1x3072 : Shape := ⟨2, ![1, 3072]⟩
abbrev S9x2048x3072 : Shape := ⟨3, ![9, 2048, 3072]⟩
abbrev S1x512x1024 : Shape := ⟨3, ![1, 512, 1024]⟩
abbrev S1x2x1024 : Shape := ⟨3, ![1, 2, 1024]⟩
abbrev S1x512x3072 : Shape := ⟨3, ![1, 512, 3072]⟩
abbrev S2x1024 : Shape := ⟨2, ![2, 1024]⟩
abbrev S512x1024 : Shape := ⟨2, ![512, 1024]⟩
abbrev S1x1024 : Shape := ⟨2, ![1, 1024]⟩
abbrev S512x3072 : Shape := ⟨2, ![512, 3072]⟩

abbrev nBuf : Space → Nat
  | .hbm => 7
  | .vmem => 8
  | .smem => 0
  | _ => 0

abbrev bufTy : (tb : Table) → Fin (tcTables nBuf tb) → BufTy
  | .hbm, ⟨0, _⟩ => ⟨S9x2048x1024, .f32⟩
  | .hbm, ⟨1, _⟩ => ⟨S9x2x1024, .f32⟩
  | .hbm, ⟨2, _⟩ => ⟨S1024x3072, .f32⟩
  | .hbm, ⟨3, _⟩ => ⟨S3072, .f32⟩
  | .hbm, ⟨4, _⟩ => ⟨S1024x3072, .bf16⟩
  | .hbm, ⟨5, _⟩ => ⟨S1x3072, .f32⟩
  | .hbm, ⟨6, _⟩ => ⟨S9x2048x3072, .f32⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1024x3072, .bf16⟩
  | .local _ .vmem, ⟨5, _⟩ => ⟨S1x3072, .f32⟩
  | .local _ .vmem, ⟨6, _⟩ => ⟨S1x512x3072, .f32⟩
  | .local _ .vmem, ⟨7, _⟩ => ⟨S1x512x3072, .f32⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S9x2048x1024 : Shape := ⟨3, ![9, 2048, 1024]⟩
abbrev S9x2x1024 : Shape := ⟨3, ![9, 2, 1024]⟩
abbrev S1024x3072 : Shape := ⟨2, ![1024, 3072]⟩
abbrev S3072 : Shape := ⟨1, ![3072]⟩
abbrev S9x1x1024 : Shape := ⟨3, ![9, 1, 1024]⟩
abbrev S_ : Shape := ⟨0, ![]⟩
abbrev S9x2048x3072 : Shape := ⟨3, ![9, 2048, 3072]⟩
abbrev S1x1x3072 : Shape := ⟨3, ![1, 1, 3072]⟩

abbrev nBuf : Space → Nat
  | .hbm => 17
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S9x2x1024, .f32⟩
  | .hbm, ⟨2, _⟩ => ⟨S1024x3072, .f32⟩
  | .hbm, ⟨3, _⟩ => ⟨S3072, .f32⟩
  | .hbm, ⟨4, _⟩ => ⟨S9x1x1024, .f32⟩
  | .hbm, ⟨5, _⟩ => ⟨S9x1x1024, .f32⟩
  | .hbm, ⟨6, _⟩ => ⟨S_, .f32⟩
  | .hbm, ⟨7, _⟩ => ⟨S9x1x1024, .f32⟩
  | .hbm, ⟨8, _⟩ => ⟨S9x1x1024, .f32⟩
  | .hbm, ⟨9, _⟩ => ⟨S9x2048x1024, .f32⟩
  | .hbm, ⟨10, _⟩ => ⟨S9x2048x1024, .f32⟩
  | .hbm, ⟨11, _⟩ => ⟨S9x2048x1024, .f32⟩
  | .hbm, ⟨12, _⟩ => ⟨S9x2048x1024, .f32⟩
  | .hbm, ⟨13, _⟩ => ⟨S9x2048x3072, .f32⟩
  | .hbm, ⟨14, _⟩ => ⟨S1x1x3072, .f32⟩
  | .hbm, ⟨15, _⟩ => ⟨S9x2048x3072, .f32⟩
  | .hbm, ⟨16, _⟩ => ⟨S9x2048x3072, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel6.lean ====
abbrev S9x2048x1024 : Shape := ⟨3, ![9, 2048, 1024]⟩
abbrev S9x2x1024 : Shape := ⟨3, ![9, 2, 1024]⟩
abbrev S1024x5632 : Shape := ⟨2, ![1024, 5632]⟩
abbrev S_ : Shape := ⟨0, ![]⟩
abbrev S5632 : Shape := ⟨1, ![5632]⟩
abbrev S1x5632 : Shape := ⟨2, ![1, 5632]⟩
abbrev S9x2048x5632 : Shape := ⟨3, ![9, 2048, 5632]⟩
abbrev S1x512x1024 : Shape := ⟨3, ![1, 512, 1024]⟩
abbrev S1x2x1024 : Shape := ⟨3, ![1, 2, 1024]⟩
abbrev S1x512x5632 : Shape := ⟨3, ![1, 512, 5632]⟩
abbrev S2x1024 : Shape := ⟨2, ![2, 1024]⟩
abbrev S512x1024 : Shape := ⟨2, ![512, 1024]⟩
abbrev S1x1024 : Shape := ⟨2, ![1, 1024]⟩
abbrev S512x5632 : Shape := ⟨2, ![512, 5632]⟩

abbrev nBuf : Space → Nat
  | .hbm => 8
  | .vmem => 8
  | .smem => 0
  | _ => 0

abbrev bufTy : (tb : Table) → Fin (tcTables nBuf tb) → BufTy
  | .hbm, ⟨0, _⟩ => ⟨S9x2048x1024, .f32⟩
  | .hbm, ⟨1, _⟩ => ⟨S9x2x1024, .f32⟩
  | .hbm, ⟨2, _⟩ => ⟨S1024x5632, .f32⟩
  | .hbm, ⟨3, _⟩ => ⟨S1024x5632, .bf16⟩
  | .hbm, ⟨4, _⟩ => ⟨S_, .f32⟩
  | .hbm, ⟨5, _⟩ => ⟨S5632, .f32⟩
  | .hbm, ⟨6, _⟩ => ⟨S1x5632, .f32⟩
  | .hbm, ⟨7, _⟩ => ⟨S9x2048x5632, .f32⟩
  | .local _ .vmem, ⟨0, _⟩ => ⟨S1x512x1024, .f32⟩
  | .local _ .vmem, ⟨1, _⟩ => ⟨S1x512x1024, .f32⟩
  | .local _ .vmem, ⟨2, _⟩ => ⟨S1x2x1024, .f32⟩
  | .local _ .vmem, ⟨3, _⟩ => ⟨S1x2x1024, .f32⟩
  | .local _ .vmem, ⟨4, _⟩ => ⟨S1024x5632, .bf16⟩
  | .local _ .vmem, ⟨5, _⟩ => ⟨S1x5632, .f32⟩
  | .local _ .vmem, ⟨6, _⟩ => ⟨S1x512x5632, .f32⟩
  | .local _ .vmem, ⟨7, _⟩ => ⟨S1x512x5632, .f32⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference6Ideal.lean ====
abbrev S9x2048x1024 : Shape := ⟨3, ![9, 2048, 1024]⟩
abbrev S9x2x1024 : Shape := ⟨3, ![9, 2, 1024]⟩
abbrev S1024x5632 : Shape := ⟨2, ![1024, 5632]⟩
abbrev S9x1x1024 : Shape := ⟨3, ![9, 1, 1024]⟩
abbrev S_ : Shape := ⟨0, ![]⟩
abbrev S9x2048x5632 : Shape := ⟨3, ![9, 2048, 5632]⟩

abbrev nBuf : Space → Nat
  | .hbm => 13
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S9x2x1024, .f32⟩
  | .hbm, ⟨2, _⟩ => ⟨S1024x5632, .f32⟩
  | .hbm, ⟨3, _⟩ => ⟨S9x1x1024, .f32⟩
  | .hbm, ⟨4, _⟩ => ⟨S9x1x1024, .f32⟩
  | .hbm, ⟨5, _⟩ => ⟨S_, .f32⟩
  | .hbm, ⟨6, _⟩ => ⟨S9x1x1024, .f32⟩
  | .hbm, ⟨7, _⟩ => ⟨S9x1x1024, .f32⟩
  | .hbm, ⟨8, _⟩ => ⟨S9x2048x1024, .f32⟩
  | .hbm, ⟨9, _⟩ => ⟨S9x2048x1024, .f32⟩
  | .hbm, ⟨10, _⟩ => ⟨S9x2048x1024, .f32⟩
  | .hbm, ⟨11, _⟩ => ⟨S9x2048x1024, .f32⟩
  | .hbm, ⟨12, _⟩ => ⟨S9x2048x5632, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S9x2048x1024 : Shape := ⟨3, ![9, 2048, 1024]⟩
abbrev S9x2048x2048 : Shape := ⟨3, ![9, 2048, 2048]⟩
abbrev S9x1x1024 : Shape := ⟨3, ![9, 1, 1024]⟩
abbrev S2048x1024 : Shape := ⟨2, ![2048, 1024]⟩
abbrev S1024 : Shape := ⟨1, ![1024]⟩
abbrev S_ : Shape := ⟨0, ![]⟩
abbrev S1x1024 : Shape := ⟨2, ![1, 1024]⟩
abbrev S1x1024x1024 : Shape := ⟨3, ![1, 1024, 1024]⟩
abbrev S1x1024x2048 : Shape := ⟨3, ![1, 1024, 2048]⟩
abbrev S1x1x1024 : Shape := ⟨3, ![1, 1, 1024]⟩
abbrev S1024x2048 : Shape := ⟨2, ![1024, 2048]⟩
abbrev S1024x1024 : Shape := ⟨2, ![1024, 1024]⟩
abbrev S1024x1 : Shape := ⟨2, ![1024, 1]⟩

abbrev nBuf : Space → Nat
  | .hbm => 14
  | .vmem => 12
  | .smem => 0
  | _ => 0

abbrev bufTy : (tb : Table) → Fin (tcTables nBuf tb) → BufTy
  | .hbm, ⟨0, _⟩ => ⟨S9x2048x1024, .f32⟩
  | .hbm, ⟨1, _⟩ => ⟨S9x2048x2048, .f32⟩
  | .hbm, ⟨2, _⟩ => ⟨S9x1x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S9x2048x2048, .bf16⟩
  | .hbm, ⟨7, _⟩ => ⟨S2048x1024, .bf16⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S9x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1x1024, .f32⟩
  | .local _ .vmem, ⟨5, _⟩ => ⟨S1x1x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference7Ideal.lean ====
abbrev S9x2048x1024 : Shape := ⟨3, ![9, 2048, 1024]⟩
abbrev S9x2048x2048 : Shape := ⟨3, ![9, 2048, 2048]⟩
abbrev S9x1x1024 : Shape := ⟨3, ![9, 1, 1024]⟩
abbrev S2048x1024 : Shape := ⟨2, ![2048, 1024]⟩
abbrev S1024 : Shape := ⟨1, ![1024]⟩
abbrev S_ : Shape := ⟨0, ![]⟩
abbrev S9x2048 : Shape := ⟨2, ![9, 2048]⟩
abbrev S9x2048x1 : Shape := ⟨3, ![9, 2048, 1]⟩
abbrev S1x1x1024 : Shape := ⟨3, ![1, 1, 1024]⟩

abbrev nBuf : Space → Nat
  | .hbm => 48
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S9x2048x2048, .f32⟩
  | .hbm, ⟨2, _⟩ => ⟨S9x1x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S9x2048x1024, .f32⟩
  | .hbm, ⟨7, _⟩ => ⟨S_, .f32⟩
  | .hbm, ⟨8, _⟩ => ⟨S9x2048x1024, .f32⟩
  | .hbm, ⟨9, _⟩ => ⟨S9x2048x1024, .f32⟩
  | .hbm, ⟨10, _⟩ => ⟨S_, .f32⟩
  | .hbm, ⟨11, _⟩ => ⟨S9x1x1024, .f32⟩
  | .hbm, ⟨12, _⟩ => ⟨S9x1x1024, .f32⟩
  | .hbm, ⟨13, _⟩ => ⟨S_, .f32⟩
  | .hbm, ⟨14, _⟩ => ⟨S9x1x1024, .f32⟩
  | .hbm, ⟨15, _⟩ => ⟨S9x1x1024, .f32⟩
  | .hbm, ⟨16, _⟩ => ⟨S9x2048x1024, .f32⟩
  | .hbm, ⟨17, _⟩ => ⟨S9x2048x1024, .f32⟩
  | .hbm, ⟨18, _⟩ => ⟨S9x2048x1024, .f32⟩
  | .hbm, ⟨19, _⟩ => ⟨S_, .f32⟩
  | .hbm, ⟨20, _⟩ => ⟨S9x2048, .f32⟩
  | .hbm, ⟨21, _⟩ => ⟨S9x2048x1, .f32⟩
  | .hbm, ⟨22, _⟩ => ⟨S_, .f32⟩
  | .hbm, ⟨23, _⟩ => ⟨S9x2048x1, .f32⟩
  | .hbm, ⟨24, _⟩ => ⟨S9x2048x1, .f32⟩
  | .hbm, ⟨25, _⟩ => ⟨S9x2048x1024, .f32⟩
  | .hbm, ⟨26, _⟩ => ⟨S9x2048x1024, .f32⟩
  | .hbm, ⟨27, _⟩ => ⟨S9x2048x1024, .f32⟩
  | .hbm, ⟨28, _⟩ => ⟨S_, .f32⟩
  | .hbm, ⟨29, _⟩ => ⟨S9x2048, .f32⟩
  | .hbm, ⟨30, _⟩ => ⟨S9x2048x1, .f32⟩
  | .hbm, ⟨31, _⟩ => ⟨S_, .f32⟩
  | .hbm, ⟨32, _⟩ => ⟨S9x2048x1, .f32⟩
  | .hbm, ⟨33, _⟩ => ⟨S9x2048x1, .f32⟩
  | .hbm, ⟨34, _⟩ => ⟨S9x2048x1024, .f32⟩
  | .hbm, ⟨35, _⟩ => ⟨S9x2048x1024, .f32⟩
  | .hbm, ⟨36, _⟩ => ⟨S_, .f32⟩
  | .hbm, ⟨37, _⟩ => ⟨S9x2048x1, .f32⟩
  | .hbm, ⟨38, _⟩ => ⟨S9x2048x1, .f32⟩
  | .hbm, ⟨39, _⟩ => ⟨S9x2048x1, .f32⟩
  | .hbm, ⟨40, _⟩ => ⟨S9x2048x1024, .f32⟩
  | .hbm, ⟨41, _⟩ => ⟨S9x2048x1024, .f32⟩
  | .hbm, ⟨42, _⟩ => ⟨S1x1x1024, .f32⟩
  | .hbm, ⟨43, _⟩ => ⟨S9x2048x1024, .f32⟩
  | .hbm, ⟨44, _⟩ => ⟨S9x2048x1024, .f32⟩
  | .hbm, ⟨45, _⟩ => ⟨S1x1x1024, .f32⟩
  | .hbm, ⟨46, _⟩ => ⟨S9x2048x1024, .f32⟩
  | .hbm, ⟨47, _⟩ => ⟨S9x2048x1024, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Kernel8.lean ====
abbrev S9x2048x1024 : Shape := ⟨3, ![9, 2048, 1024]⟩
abbrev S9x3x1024 : Shape := ⟨3, ![9, 3, 1024]⟩
abbrev S1024x5632 : Shape := ⟨2, ![1024, 5632]⟩
abbrev S2816x1024 : Shape := ⟨2, ![2816, 1024]⟩
abbrev S1024 : Shape := ⟨1, ![1024]⟩
abbrev S1x1024 : Shape := ⟨2, ![1, 1024]⟩
abbrev S1x1024x1024 : Shape := ⟨3, ![1, 1024, 1024]⟩
abbrev S1x3x1024 : Shape := ⟨3, ![1, 3, 1024]⟩
abbrev S1024x2816 : Shape := ⟨2, ![1024, 2816]⟩
abbrev S1024x1024 : Shape := ⟨2, ![1024, 1024]⟩
abbrev S3x1024 : Shape := ⟨2, ![3, 1024]⟩
abbrev S1024x256 : Shape := ⟨2, ![1024, 256]⟩
abbrev S1024x1 : Shape := ⟨2, ![1024, 1]⟩

abbrev nBuf : Space → Nat
  | .hbm => 11
  | .vmem => 11
  | .smem => 0
  | _ => 0

abbrev bufTy : (tb : Table) → Fin (tcTables nBuf tb) → BufTy
  | .hbm, ⟨0, _⟩ => ⟨S9x2048x1024, .f32⟩
  | .hbm, ⟨1, _⟩ => ⟨S9x3x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S9x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1x3x1024, .f32⟩
  | .local _ .vmem, ⟨3, _⟩ => ⟨S1x3x1024, .f32⟩
  | .local _ .vmem, ⟨4, _⟩ => ⟨S1024x5632, .bf16⟩
  | .local _ .vmem, ⟨5, _⟩ => ⟨S2816x1024, .bf16⟩
  | .local _ .vmem, ⟨6, _⟩ => ⟨S1x1024, .f32⟩
  | .local _ .vmem, ⟨7, _⟩ => ⟨S1x1024, .f32⟩
  | .local _ .vmem, ⟨8, _⟩ => ⟨S1x1024x1024, .f32⟩
  | .local _ .vmem, ⟨9, _⟩ => ⟨S1x1024x1024, .f32⟩
  | .local _ .vmem, ⟨10, _⟩ => ⟨S1024x2816, .bf16⟩
  | _, _ => ⟨S9x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![9, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference8Ideal.lean ====
abbrev S9x2048x1024 : Shape := ⟨3, ![9, 2048, 1024]⟩
abbrev S9x3x1024 : Shape := ⟨3, ![9, 3, 1024]⟩
abbrev S1024x5632 : Shape := ⟨2, ![1024, 5632]⟩
abbrev S2816x1024 : Shape := ⟨2, ![2816, 1024]⟩
abbrev S1024 : Shape := ⟨1, ![1024]⟩
abbrev S9x1x1024 : Shape := ⟨3, ![9, 1, 1024]⟩
abbrev S_ : Shape := ⟨0, ![]⟩
abbrev S9x2048x5632 : Shape := ⟨3, ![9, 2048, 5632]⟩
abbrev S9x2048x2816 : Shape := ⟨3, ![9, 2048, 2816]⟩
abbrev S9x2048 : Shape := ⟨2, ![9, 2048]⟩
abbrev S9x2048x1 : Shape := ⟨3, ![9, 2048, 1]⟩
abbrev S1x1x1024 : Shape := ⟨3, ![1, 1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S9x2048x1024, .f32⟩
  | .hbm, ⟨1, _⟩ => ⟨S9x3x1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S9x1x1024, .f32⟩
  | .hbm, ⟨7, _⟩ => ⟨S9x1x1024, .f32⟩
  | .hbm, ⟨8, _⟩ => ⟨S9x1x1024, .f32⟩
  | .hbm, ⟨9, _⟩ => ⟨S_, .f32⟩
  | .hbm, ⟨10, _⟩ => ⟨S9x1x1024, .f32⟩
  | .hbm, ⟨11, _⟩ => ⟨S9x1x1024, .f32⟩
  | .hbm, ⟨12, _⟩ => ⟨S9x2048x1024, .f32⟩
  | .hbm, ⟨13, _⟩ => ⟨S9x2048x1024, .f32⟩
  | .hbm, ⟨14, _⟩ => ⟨S9x2048x1024, .f32⟩
  | .hbm, ⟨15, _⟩ => ⟨S9x2048x1024, .f32⟩
  | .hbm, ⟨16, _⟩ => ⟨S9x2048x5632, .f32⟩
  | .hbm, ⟨17, _⟩ => ⟨S9x2048x2816, .f32⟩
  | .hbm, ⟨18, _⟩ => ⟨S9x2048x2816, .f32⟩
  | .hbm, ⟨19, _⟩ => ⟨S9x2048x2816, .f32⟩
  | .hbm, ⟨20, _⟩ => ⟨S9x2048x2816, .f32⟩
  | .hbm, ⟨21, _⟩ => ⟨S_, .f32⟩
  | .hbm, ⟨22, _⟩ => ⟨S9x2048x2816, .f32⟩
  | .hbm, ⟨23, _⟩ => ⟨S9x2048x2816, .f32⟩
  | .hbm, ⟨24, _⟩ => ⟨S_, .f32⟩
  | .hbm, ⟨25, _⟩ => ⟨S9x2048x2816, .f32⟩
  | .hbm, ⟨26, _⟩ => ⟨S9x2048x2816, .f32⟩
  | .hbm, ⟨27, _⟩ => ⟨S9x2048x2816, .f32⟩
  | .hbm, ⟨28, _⟩ => ⟨S9x2048x2816, .f32⟩
  | .hbm, ⟨29, _⟩ => ⟨S9x2048x1024, .f32⟩
  | .hbm, ⟨30, _⟩ => ⟨S_, .f32⟩
  | .hbm, ⟨31, _⟩ => ⟨S9x2048x1024, .f32⟩
  | .hbm, ⟨32, _⟩ => ⟨S9x2048x1024, .f32⟩
  | .hbm, ⟨33, _⟩ => ⟨S_, .f32⟩
  | .hbm, ⟨34, _⟩ => ⟨S9x1x1024, .f32⟩
  | .hbm, ⟨35, _⟩ => ⟨S9x1x1024, .f32⟩
  | .hbm, ⟨36, _⟩ => ⟨S_, .f32⟩
  | .hbm, ⟨37, _⟩ => ⟨S9x1x1024, .f32⟩
  | .hbm, ⟨38, _⟩ => ⟨S9x1x1024, .f32⟩
  | .hbm, ⟨39, _⟩ => ⟨S9x2048x1024, .f32⟩
  | .hbm, ⟨40, _⟩ => ⟨S9x2048x1024, .f32⟩
  | .hbm, ⟨41, _⟩ => ⟨S9x2048x1024, .f32⟩
  | .hbm, ⟨42, _⟩ => ⟨S_, .f32⟩
  | .hbm, ⟨43, _⟩ => ⟨S9x2048, .f32⟩
  | .hbm, ⟨44, _⟩ => ⟨S9x2048x1, .f32⟩
  | .hbm, ⟨45, _⟩ => ⟨S_, .f32⟩
  | .hbm, ⟨46, _⟩ => ⟨S9x2048x1, .f32⟩
  | .hbm, ⟨47, _⟩ => ⟨S9x2048x1, .f32⟩
  | .hbm, ⟨48, _⟩ => ⟨S9x2048x1024, .f32⟩
  | .hbm, ⟨49, _⟩ => ⟨S9x2048x1024, .f32⟩
  | .hbm, ⟨50, _⟩ => ⟨S9x2048x1024, .f32⟩
  | .hbm, ⟨51, _⟩ => ⟨S_, .f32⟩
  | .hbm, ⟨52, _⟩ => ⟨S9x2048, .f32⟩
  | .hbm, ⟨53, _⟩ => ⟨S9x2048x1, .f32⟩
  | .hbm, ⟨54, _⟩ => ⟨S_, .f32⟩
  | .hbm, ⟨55, _⟩ => ⟨S9x2048x1, .f32⟩
  | .hbm, ⟨56, _⟩ => ⟨S9x2048x1, .f32⟩
  | .hbm, ⟨57, _⟩ => ⟨S9x2048x1024, .f32⟩
  | .hbm, ⟨58, _⟩ => ⟨S9x2048x1024, .f32⟩
  | .hbm, ⟨59, _⟩ => ⟨S_, .f32⟩
  | .hbm, ⟨60, _⟩ => ⟨S9x2048x1, .f32⟩
  | .hbm, ⟨61, _⟩ => ⟨S9x2048x1, .f32⟩
  | .hbm, ⟨62, _⟩ => ⟨S9x2048x1, .f32⟩
  | .hbm, ⟨63, _⟩ => ⟨S9x2048x1024, .f32⟩
  | .hbm, ⟨64, _⟩ => ⟨S9x2048x1024, .f32⟩
  | .hbm, ⟨65, _⟩ => ⟨S1x1x1024, .f32⟩
  | .hbm, ⟨66, _⟩ => ⟨S9x2048x1024, .f32⟩
  | .hbm, ⟨67, _⟩ => ⟨S9x2048x1024, .f32⟩
  | .hbm, ⟨68, _⟩ => ⟨S1x1x1024, .f32⟩
  | .hbm, ⟨69, _⟩ => ⟨S9x2048x1024, .f32⟩
  | .hbm, ⟨70, _⟩ => ⟨S9x2048x1024, .f32⟩
  | _, _ => ⟨S9x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_cst_4 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩

abbrev nD : Nat := 1
abbrev τ : Topo := Topo.v7x

variable {F : FTy → Type} [FloatOps F]
-- ==== Kernel9.lean ====
abbrev S16x1024 : Shape := ⟨2, ![16, 1024]⟩
abbrev S4x1024x9216 : Shape := ⟨3, ![4, 1024, 9216]⟩
abbrev S4x9216 : Shape := ⟨2, ![4, 9216]⟩
abbrev S4x1x9216 : Shape := ⟨3, ![4, 1, 9216]⟩
abbrev S4x16x9216 : Shape := ⟨3, ![4, 16, 9216]⟩
abbrev S1x1024x1024 : Shape := ⟨3, ![1, 1024, 1024]⟩
abbrev S1x1x1024 : Shape := ⟨3, ![1, 1, 1024]⟩
abbrev S1x16x1024 : Shape := ⟨3, ![1, 16, 1024]⟩
abbrev S1024x1024 : Shape := ⟨2, ![1024, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x9216, .f32⟩
  | .hbm, ⟨2, _⟩ => ⟨S4x9216, .f32⟩
  | .hbm, ⟨3, _⟩ => ⟨S4x1x9216, .f32⟩
  | .hbm, ⟨4, _⟩ => ⟨S4x16x9216, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x16x1024, .f32⟩
  | .local _ .vmem, ⟨6, _⟩ => ⟨S1x16x1024, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S16x1024 : Shape := ⟨2, ![16, 1024]⟩
abbrev S4x1024x9216 : Shape := ⟨3, ![4, 1024, 9216]⟩
abbrev S4x9216 : Shape := ⟨2, ![4, 9216]⟩
abbrev S_ : Shape := ⟨0, ![]⟩
abbrev S1x1024x9216 : Shape := ⟨3, ![1, 1024, 9216]⟩
abbrev S1024x9216 : Shape := ⟨2, ![1024, 9216]⟩
abbrev S16x9216 : Shape := ⟨2, ![16, 9216]⟩
abbrev S1x9216 : Shape := ⟨2, ![1, 9216]⟩
abbrev S9216 : Shape := ⟨1, ![9216]⟩
abbrev S1x16x9216 : Shape := ⟨3, ![1, 16, 9216]⟩
abbrev S4x16x9216 : Shape := ⟨3, ![4, 16, 9216]⟩

abbrev nBuf : Space → Nat
  | .hbm => 49
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x9216, .f32⟩
  | .hbm, ⟨2, _⟩ => ⟨S4x9216, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x9216, .f32⟩
  | .hbm, ⟨13, _⟩ => ⟨S1024x9216, .f32⟩
  | .hbm, ⟨14, _⟩ => ⟨S16x9216, .f32⟩
  | .hbm, ⟨15, _⟩ => ⟨S1x9216, .f32⟩
  | .hbm, ⟨16, _⟩ => ⟨S9216, .f32⟩
  | .hbm, ⟨17, _⟩ => ⟨S1x9216, .f32⟩
  | .hbm, ⟨18, _⟩ => ⟨S16x9216, .f32⟩
  | .hbm, ⟨19, _⟩ => ⟨S16x9216, .f32⟩
  | .hbm, ⟨20, _⟩ => ⟨S1x1024x9216, .f32⟩
  | .hbm, ⟨21, _⟩ => ⟨S1024x9216, .f32⟩
  | .hbm, ⟨22, _⟩ => ⟨S16x9216, .f32⟩
  | .hbm, ⟨23, _⟩ => ⟨S1x9216, .f32⟩
  | .hbm, ⟨24, _⟩ => ⟨S9216, .f32⟩
  | .hbm, ⟨25, _⟩ => ⟨S1x9216, .f32⟩
  | .hbm, ⟨26, _⟩ => ⟨S16x9216, .f32⟩
  | .hbm, ⟨27, _⟩ => ⟨S16x9216, .f32⟩
  | .hbm, ⟨28, _⟩ => ⟨S1x1024x9216, .f32⟩
  | .hbm, ⟨29, _⟩ => ⟨S1024x9216, .f32⟩
  | .hbm, ⟨30, _⟩ => ⟨S16x9216, .f32⟩
  | .hbm, ⟨31, _⟩ => ⟨S1x9216, .f32⟩
  | .hbm, ⟨32, _⟩ => ⟨S9216, .f32⟩
  | .hbm, ⟨33, _⟩ => ⟨S1x9216, .f32⟩
  | .hbm, ⟨34, _⟩ => ⟨S16x9216, .f32⟩
  | .hbm, ⟨35, _⟩ => ⟨S16x9216, .f32⟩
  | .hbm, ⟨36, _⟩ => ⟨S1x1024x9216, .f32⟩
  | .hbm, ⟨37, _⟩ => ⟨S1024x9216, .f32⟩
  | .hbm, ⟨38, _⟩ => ⟨S16x9216, .f32⟩
  | .hbm, ⟨39, _⟩ => ⟨S1x9216, .f32⟩
  | .hbm, ⟨40, _⟩ => ⟨S9216, .f32⟩
  | .hbm, ⟨41, _⟩ => ⟨S1x9216, .f32⟩
  | .hbm, ⟨42, _⟩ => ⟨S16x9216, .f32⟩
  | .hbm, ⟨43, _⟩ => ⟨S16x9216, .f32⟩
  | .hbm, ⟨44, _⟩ => ⟨S1x16x9216, .f32⟩
  | .hbm, ⟨45, _⟩ => ⟨S1x16x9216, .f32⟩
  | .hbm, ⟨46, _⟩ => ⟨S1x16x9216, .f32⟩
  | .hbm, ⟨47, _⟩ => ⟨S1x16x9216, .f32⟩
  | .hbm, ⟨48, _⟩ => ⟨S4x16x9216, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.Frames.lean ====
/-
  The frames and the rewritten constant: every program runs, leaves its arguments unchanged and every semaphore at zero,
  and the one constant that the idealised attention kernel names is the value of its name.
-/
module

public import proofs.«01_k».proof.Defs
public import proofs.«01_k».proof.Proof.Gen.Kernel.Frame
public import proofs.«01_k».proof.Proof.Gen.KernelIdeal.Frame
public import proofs.«01_k».proof.Proof.Gen.Kernel2.Frame
public import proofs.«01_k».proof.Proof.Gen.Kernel2Ideal.Frame
public import proofs.«01_k».proof.Proof.Gen.ReferenceIdeal.Run
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Pre_finite
public import Idealize.ShloMosaic.Lib.Quiescent

@[expose] public section

noncomputable section

namespace Cert.Frames

open Idealize.ShloMosaic Idealize.SL.Sem

/-- The attention kernel's frame. -/
theorem kernel : Cert.quiescent_Kernel := fun m ρ _ => Cert.Kernel.Gen.frame m ρ

/-- The idealised attention kernel's frame. -/
theorem kernelIdeal : Cert.quiescent_KernelIdeal := fun m ρ _ => Cert.KernelIdeal.Gen.frame m ρ

/-- The attention reference's frame: it has no semaphore, and its run leaves the arguments alone. -/
theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same two frames on finite arguments, where the attention claim is made. -/
theorem kernelIdeal_finite : Cert.quiescent_KernelIdeal_pre_finite := fun m ρ _ => kernelIdeal m ρ trivial

theorem referenceIdeal_finite : Cert.quiescent_ReferenceIdeal_pre_finite := fun m ρ _ => referenceIdeal m ρ trivial

/-- The feed-forward kernel's frame. -/
theorem kernel2 : Cert.quiescent_Kernel2 := fun m ρ _ => Cert.Kernel2.Gen.frame m ρ

/-- The idealised feed-forward kernel's frame. -/
theorem kernel2Ideal : Cert.quiescent_Kernel2Ideal := fun m ρ _ => Cert.Kernel2Ideal.Gen.frame m ρ

/-- The feed-forward reference's frame. -/
theorem reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The output projection's frames: kernel, idealised kernel, reference. -/
theorem kernel3 : Cert.quiescent_Kernel3 := fun m ρ _ => Cert.Kernel3.Gen.frame m ρ

theorem kernel3Ideal : Cert.quiescent_Kernel3Ideal := fun m ρ _ => Cert.Kernel3Ideal.Gen.frame m ρ

theorem reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The attention's projections' frames. -/
theorem kernel4 : Cert.quiescent_Kernel4 := fun m ρ _ => Cert.Kernel4.Gen.frame m ρ

theorem kernel4Ideal : Cert.quiescent_Kernel4Ideal := fun m ρ _ => Cert.Kernel4Ideal.Gen.frame m ρ

theorem reference4Ideal : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)

/-- The Hyena input projection's frames: kernel, idealised kernel, reference. -/
theorem kernel5 : Cert.quiescent_Kernel5 := fun m ρ _ => Cert.Kernel5.Gen.frame m ρ

theorem kernel5Ideal : Cert.quiescent_Kernel5Ideal := fun m ρ _ => Cert.Kernel5Ideal.Gen.frame m ρ

theorem reference5Ideal : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The SSD input projection's frames: kernel, idealised kernel, reference. -/
theorem kernel6 : Cert.quiescent_Kernel6 := fun m ρ _ => Cert.Kernel6.Gen.frame m ρ

theorem kernel6Ideal : Cert.quiescent_Kernel6Ideal := fun m ρ _ => Cert.Kernel6Ideal.Gen.frame m ρ

theorem reference6Ideal : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The SSD output projection's frames: kernel, idealised kernel, reference. -/
theorem kernel7 : Cert.quiescent_Kernel7 := fun m ρ _ => Cert.Kernel7.Gen.frame m ρ

theorem kernel7Ideal : Cert.quiescent_Kernel7Ideal := fun m ρ _ => Cert.Kernel7Ideal.Gen.frame m ρ

theorem reference7Ideal : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The frames of the feed-forward block on nine rows. -/
theorem kernel8 : Cert.quiescent_Kernel8 := fun m ρ _ => Cert.Kernel8.Gen.frame m ρ

theorem kernel8Ideal : Cert.quiescent_Kernel8Ideal := fun m ρ _ => Cert.Kernel8Ideal.Gen.frame m ρ

theorem reference8Ideal : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

theorem kernel9 : Cert.quiescent_Kernel9 := fun m ρ _ => Cert.Kernel9.Gen.frame m ρ

theorem kernel9Ideal : Cert.quiescent_Kernel9Ideal := fun m ρ _ => Cert.Kernel9Ideal.Gen.frame m ρ

theorem reference9Ideal : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The attention kernel's named constant has the value its name stands for. -/
theorem preserves : Cert.preserves_Kernel_KernelIdeal :=
  IdealRules.named_const.statement Cert.KernelIdeal.κ "scale_log2e" .f32 0x3E38AA3B#32 (((1 / 8) * (Real.log 2)⁻¹ : ℝ) : EReal) rfl

end Cert.Frames

end
-- ==== Proof.Ffn.lean ====
/-
  The feed-forward block, one row at a time. A row of the result depends on one row of `x`, on the modulation triple of
  its batch entry and on the weights; `Ffn.row` says how, as a formula over the extended reals. `chunk_apply` reads the
  kernel's payload for 256 columns of the gated hidden row, `tail_apply` its payload for everything after the hidden row.
-/
module

public import proofs.«01_k».proof.Proof.Gen.Kernel2Ideal.Skeleton
public import Idealize.ShloMosaic.Lib.Pointwise

@[expose] public section

set_option maxRecDepth 16384

noncomputable section

namespace Cert.Ffn

open Idealize.ShloMosaic Cert.Kernel2Ideal Cert.Kernel2Ideal.Gen

/-- The factor of the residual branch, the size of a row and the number added to a variance, as the programs spell them. -/
abbrev alpha : EReal := Ideal.ofBits .f32 0x3FD744FD#32
abbrev half : EReal := Ideal.ofBits .f32 0x3F000000#32
abbrev width : EReal := Ideal.ofBits .f32 0x44800000#32
abbrev eps : EReal := Ideal.ofBits .f32 0x3727C5AC#32

/-- One entry of the modulated row. -/
def mod (x sh sc : Fin 1024 → EReal) (k : Fin 1024) : EReal := x k * (1 + sc k) + sh k

/-- One entry of a modulated row times the first weight matrix. -/
def pre (h : Fin 1024 → EReal) (w : Fin 1024 → Fin 5632 → EReal) (j : Fin 5632) : EReal := ∑ k : Fin 1024, h k * w k j

/-- One entry of the gated hidden row: `a · σ(a) · u`, `a` in column `j` and `u` in column `2816 + j`. -/
def hid (h : Fin 1024 → EReal) (w : Fin 1024 → Fin 5632 → EReal) (j : Fin 2816) : EReal :=
  pre h w ⟨j.val, by omega⟩ * Ideal.logistic (pre h w ⟨j.val, by omega⟩) * pre h w ⟨2816 + j.val, by omega⟩

/-- One entry of the residual sum before its normalisation. -/
def res (x gt : Fin 1024 → EReal) (q : Fin 2816 → EReal) (w2 : Fin 2816 → Fin 1024 → EReal) (d : Fin 1024) : EReal :=
  alpha * x d + half * (1 + gt d) * ∑ j : Fin 2816, q j * w2 j d

/-- The mean of a row. -/
def mean (z : Fin 1024 → EReal) : EReal := Ideal.div (∑ d : Fin 1024, z d) width

/-- One entry of the row normalised to mean zero and variance one, then scaled by `g` and moved by `b`. -/
def norm (z g b : Fin 1024 → EReal) (d : Fin 1024) : EReal :=
  (z d - mean z) * Ideal.rsqrt (mean (fun e => (z e - mean z) * (z e - mean z)) + eps) * g d + b d

/-- One entry of a row of the feed-forward block. -/
def row (x sh sc gt : Fin 1024 → EReal) (w13 : Fin 1024 → Fin 5632 → EReal) (w2 : Fin 2816 → Fin 1024 → EReal)
    (g b : Fin 1024 → EReal) (d : Fin 1024) : EReal :=
  norm (res x gt (hid (mod x sh sc) w13) w2) g b d

/-- The kernel's modulated block at a row and a column. -/
theorem mod_apply (v0 : Vec Ideal S1x1024x1024 .f32) (v2 : Vec Ideal S1x3x1024 .f32) (r k : Fin 1024) :
    k0_pay4 v0 v2 (ix2 r k) = mod (fun k => v0 (ix3 0 r k)) (fun k => v2 (ix3 0 0 k)) (fun k => v2 (ix3 0 1 k)) k := by
  pointwise [k0_pay4, k0_pay2, k0_pay3, mod]

/-- The kernel's payload for 256 columns of the hidden block at a row and a column: the gated product of two row-by-column
    sums. -/
theorem chunk_apply (h : FVec Ideal S1024x1024 .bf16) (a u : Vec Ideal S1024x256 .bf16) (r : Fin 1024) (j : Fin 256) :
    k0_pay8 h a u (ix2 r j) = (∑ k : Fin 1024, h (ix2 r k) * a (ix2 k j)) *
      Ideal.logistic (∑ k : Fin 1024, h (ix2 r k) * a (ix2 k j)) * ∑ k : Fin 1024, h (ix2 r k) * u (ix2 k j) := by
  pointwise [k0_pay8]

/-- The kernel's payload for the residual sum at a row and a column. -/
theorem res_apply (v0 : Vec Ideal S1x1024x1024 .f32) (v2 : Vec Ideal S1x3x1024 .f32) (q : Vec Ideal S1024x2816 .bf16)
    (w : Vec Ideal S2816x1024 .bf16) (r d : Fin 1024) :
    k0_pay21 (k0_pay2 v0) (k0_pay3 v2) q w (ix2 r d) = res (fun k => v0 (ix3 0 r k)) (fun k => v2 (ix3 0 2 k))
      (fun j => q (ix2 r j)) (fun j d => w (ix2 j d)) d := by
  pointwise [k0_pay21, k0_pay2, k0_pay3, res, alpha, half]

/-- The kernel's payload for the normalised block at a row and a column, from the residual sum `z` and its row means. -/
theorem norm_apply (z : FVec Ideal S1024x1024 .f32) (g b : FVec Ideal S1x1024 .f32) (mu : FVec Ideal S1024x1 .f32)
    (hmu : ∀ r : Fin 1024, mu (ix2 r 0) = mean fun d => z (ix2 r d)) (r d : Fin 1024) :
    k0_pay1 z g b mu (ix3 0 r d) = norm (fun d => z (ix2 r d)) (fun d => g (ix2 0 d)) (fun d => b (ix2 0 d)) d := by
  pointwise [k0_pay1, norm]
  simp only [hmu]
  rfl

/-- Everything after the hidden block: the kernel's payload for a block of the result at a row and a column. -/
theorem tail_apply (v0 : Vec Ideal S1x1024x1024 .f32) (v2 : Vec Ideal S1x3x1024 .f32) (q : Vec Ideal S1024x2816 .bf16)
    (w : Vec Ideal S2816x1024 .bf16) (g b : Vec Ideal S1x1024 .f32) (r d : Fin 1024) :
    k0_pay1 (k0_pay21 (k0_pay2 v0) (k0_pay3 v2) q w) (k0_pay22 g) (k0_pay23 b) (k0_pay24 (k0_pay2 v0) (k0_pay3 v2) q w) (ix3 0 r d)
      = norm (res (fun k => v0 (ix3 0 r k)) (fun k => v2 (ix3 0 2 k)) (fun j => q (ix2 r j)) fun j d => w (ix2 j d))
          (fun d => g (ix2 0 d)) (fun d => b (ix2 0 d)) d := by
  rw [norm_apply]
  · simp only [res_apply]
    congr 1 <;> funext d <;> pointwise [k0_pay22, k0_pay23]
  · intro r
    unfold k0_pay24
    generalize k0_pay21 (k0_pay2 v0) (k0_pay3 v2) q w = z
    pointwise [mean, width]

end Cert.Ffn

end
-- ==== Proof.FfnBlock.lean ====
/-
  What one grid point of the feed-forward kernel leaves in its block of the result: row by row, `Ffn.row` of the loaded
  blocks.
-/
module

public import proofs.«01_k».proof.Proof.Ffn
public import proofs.«01_k».proof.Proof.Gen.Kernel2Ideal.Value
public import Idealize.ShloMosaic.Lib.Pipeline.Value
public import Idealize.ShloMosaic.Lib.Tactic
public import Idealize.ShloMosaic.Lib.Pipeline.ValueKit.Tiles

@[expose] public section

set_option maxRecDepth 16384

noncomputable section

namespace Cert.Ffn

open Idealize.ShloMosaic Idealize.ShloMosaic.TcCoe Idealize.SL.Sem
open Cert.Kernel2Ideal Cert.Kernel2Ideal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- The hidden block of a grid point: its rows are the gated hidden rows of the point's 1024 rows of `x`. -/
def hidBlk (x : Vec Ideal S1x1024x1024 .f32) (m : Vec Ideal S1x3x1024 .f32) (w : Vec Ideal S1024x5632 .bf16) :
    S1024x2816.Idx → EReal := fun y =>
  hid (mod (fun k => x (ix3 0 (y 0) k)) (fun k => m (ix3 0 0 k)) (fun k => m (ix3 0 1 k))) (fun k j => w (ix2 k j)) (y 1)

/-- Every store of the body into the hidden buffer writes its 256 columns of the hidden block. -/
theorem piece (x : Vec Ideal S1x1024x1024 .f32) (m : Vec Ideal S1x3x1024 .f32) (w : Vec Ideal S1024x5632 .bf16)
    (o : Nat) (ia : ∀ a, ![0, o] a + S1024x256.size a ≤ S1024x5632.size a)
    (iu : ∀ a, ![0, 2816 + o] a + S1024x256.size a ≤ S1024x5632.size a)
    (is : ∀ a, ![0, o] a + S1024x256.size a ≤ S1024x2816.size a) (z : S1024x256.Idx) :
    k0_pay8 (k0_pay4 x m) (View.ld w (Rect.unit (s := S1024x5632) ![0, o] S1024x256.size ia))
        (View.ld w (Rect.unit (s := S1024x5632) ![0, 2816 + o] S1024x256.size iu)) z
      = hidBlk x m w ((Rect.unit (s := S1024x2816) ![0, o] S1024x256.size is).emb z) := by
  idx_vars z
  rw [chunk_apply]
  simp only [mod_apply]
  have ho : o + 256 ≤ 2816 := is 1
  have hj := z1.isLt
  have ea : ∀ k : Fin 1024, View.ld w (Rect.unit (s := S1024x5632) ![0, o] S1024x256.size ia) (ix2 k z1)
      = w (ix2 k ⟨o + z1.val, by omega⟩) := fun k => View.ld_unit_apply_of _ _ _ _ _ _ fun a => by
    match a with
    | ⟨0, _⟩ => show k.val = 0 + k.val; omega
    | ⟨1, _⟩ => rfl
  have eu : ∀ k : Fin 1024, View.ld w (Rect.unit (s := S1024x5632) ![0, 2816 + o] S1024x256.size iu) (ix2 k z1)
      = w (ix2 k ⟨2816 + (o + z1.val), by omega⟩) := fun k => View.ld_unit_apply_of _ _ _ _ _ _ fun a => by
    match a with
    | ⟨0, _⟩ => show k.val = 0 + k.val; omega
    | ⟨1, _⟩ => show 2816 + (o + z1.val) = 2816 + o + z1.val; omega
  have er : ((Rect.unit (s := S1024x2816) ![0, o] S1024x256.size is).emb (ix2 z0 z1)) = ix2 z0 ⟨o + z1.val, by omega⟩ := by
    funext a
    apply Fin.ext
    match a with
    | ⟨0, _⟩ => show 0 + 1 * z0.val = z0.val; omega
    | ⟨1, _⟩ => show o + 1 * z1.val = o + z1.val; omega
  simp only [ea, eu]
  rw [er]
  rfl

/-- A load of the whole hidden buffer after stores that tile it, each of its columns of the hidden block, reads the block. -/
theorem readCov_hid {sig : RefSig} {κ : Kind} {sp : Space} (v : View sig κ sp S1024x2816 .bf16)
    (L : List (View.Piece (Elt Ideal) S1024x2816 .bf16)) (x : Vec Ideal S1x1024x1024 .f32) (m : Vec Ideal S1x3x1024 .f32)
    (w : Vec Ideal S1024x5632 .bf16) (inb : ∀ a, ![0, 0] a + S1024x2816.size a ≤ S1024x2816.size a)
    (hc : View.Piece.tiledL L S1024x256.size = true)
    (hp : ∀ p ∈ L, ∀ z : p.1.shape.Idx, p.2 z = hidBlk x m w (p.1.emb z)) :
    v.readCov L (Rect.unit (s := S1024x2816) ![0, 0] S1024x2816.size inb).toLoadRect = hidBlk x m w := by
  rw [View.readCov_eq_canon_ld _ _ _ (View.cover_of_tiledL L _ hc), View.ld_unit_zero (S := S1024x2816) hz2]
  exact funext fun y => View.canon_apply_of_pieces (Val := Elt Ideal) (e := .bf16) (hidBlk x m w) L hp y (View.cover_of_tiledL L _ hc y)

/-- A grid point leaves, at row `r` and column `d` of its block, the feed-forward row of row `r` of its block of `x`. -/
theorem out_apply (c : Dev nD) (i : grid0.Coords) (a2 : Memref sig .tc .vmem S1x1024x1024 .f32) (h2 : a2.IsWhole)
    (a3 : Memref sig .tc .vmem S1x3x1024 .f32) (h3 : a3.IsWhole) (a4 : Memref sig .tc .vmem S1024x5632 .bf16) (h4 : a4.IsWhole)
    (a5 : Memref sig .tc .vmem S2816x1024 .bf16) (h5 : a5.IsWhole) (a6 : Memref sig .tc .vmem S1x1024 .f32) (h6 : a6.IsWhole)
    (a7 : Memref sig .tc .vmem S1x1024 .f32) (h7 : a7.IsWhole) (a8 : Memref sig .tc .vmem S1x1024x1024 .f32) (h8 : a8.IsWhole)
    (a9 : Memref sig .tc .vmem S1024x2816 .bf16) (h9 : a9.IsWhole)
    (x : Vec Ideal S1x1024x1024 .f32) (m : Vec Ideal S1x3x1024 .f32) (w : Vec Ideal S1024x5632 .bf16)
    (v : Vec Ideal S2816x1024 .bf16) (g b : Vec Ideal S1x1024 .f32) (r d : Fin 1024) :
    out0_A_6 c i a2 h2 a3 h3 a4 h4 a5 h5 a6 h6 a7 h7 a8 h8 a9 h9 x m w v g b (ix3 0 r d)
      = row (fun k => x (ix3 0 r k)) (fun k => m (ix3 0 0 k)) (fun k => m (ix3 0 1 k)) (fun k => m (ix3 0 2 k))
          (fun k j => w (ix2 k j)) (fun j k => v (ix2 j k)) (fun k => g (ix2 0 k)) (fun k => b (ix2 0 k)) d := by
  unfold out0_A_6
  rw [View.read_writes_eq_canon _ _ _ (cover0_A_6 c i a2 h2 a3 h3 a4 h4 a5 h5 a6 h6 a7 h7 a8 h8 a9 h9 x m w v g b)]
  unfold kernelRun0_A
  dsimp only
  sl_unfold_words
  rw [View.canon_unit_zero hz3]
  simp only [View.readAt_eq_ld, h2.read_unread, h3.read_unread, h4.read_unread, h5.read_unread, h6.read_unread,
    h7.read_unread, View.ld_unit_zero (S := S1x1024x1024) hz3, View.ld_unit_zero (S := S1x3x1024) hz3,
    View.ld_unit_zero (S := S2816x1024) hz2, View.ld_unit_zero (S := S1x1024) hz2]
  rw [readCov_hid a9.view _ x m w _ (by sl_kernel_rfl)]
  · rw [tail_apply]
    rfl
  · repeat' refine List.forall_mem_cons.2 ⟨?_, ?_⟩
    · exact piece x m w 2560 _ _ inb_S1024x2816_S1024x256_0_2560
    · exact piece x m w 2304 _ _ inb_S1024x2816_S1024x256_0_2304
    · exact piece x m w 2048 _ _ inb_S1024x2816_S1024x256_0_2048
    · exact piece x m w 1792 _ _ inb_S1024x2816_S1024x256_0_1792
    · exact piece x m w 1536 _ _ inb_S1024x2816_S1024x256_0_1536
    · exact piece x m w 1280 _ _ inb_S1024x2816_S1024x256_0_1280
    · exact piece x m w 1024 _ _ inb_S1024x2816_S1024x256_0_1024
    · exact piece x m w 768 _ _ inb_S1024x2816_S1024x256_0_768
    · exact piece x m w 512 _ _ inb_S1024x2816_S1024x256_0_512
    · exact piece x m w 256 _ _ inb_S1024x2816_S1024x256_0_256
    · exact piece x m w 0 _ _ inb_S1024x2816_S1024x256_0_0
    · exact fun p hp => absurd hp (List.not_mem_nil)

end Cert.Ffn

end
-- ==== Proof.FfnRef.lean ====
/-
  The reference of the feed-forward block, read one row at a time: `Ffn.row` of the row of `x`, of the modulation triple of
  its batch entry and of the weights.
-/
module

public import proofs.«01_k».proof.Proof.Ffn
public import proofs.«01_k».proof.Proof.Gen.Reference2Ideal.Read

@[expose] public section

set_option maxRecDepth 16384

noncomputable section

namespace Cert.Ffn

open Idealize.ShloMosaic Cert.Reference2Ideal Cert.Reference2Ideal.Gen Cert.Reference2Ideal.Read

variable (x0 : (⟨S8x2048x1024, .f32⟩ : BufTy).Contents (Elt Ideal)) (x1 : (⟨S8x3x1024, .f32⟩ : BufTy).Contents (Elt Ideal))
  (x2 : (⟨S1024x5632, .f32⟩ : BufTy).Contents (Elt Ideal)) (x3 : (⟨S2816x1024, .f32⟩ : BufTy).Contents (Elt Ideal))
  (x4 x5 : (⟨S1024, .f32⟩ : BufTy).Contents (Elt Ideal))

/-- The reference's modulated rows. -/
theorem ref_mod (b : Fin 8) (t : Fin 2048) (k : Fin 1024) :
    val_main_v8 (F := Ideal) x0 x1 (ix3 b t k)
      = mod (fun k => x0 (ix3 b t k)) (fun k => x1 (ix3 b 0 k)) (fun k => x1 (ix3 b 1 k)) k := by
  pointwise [val_main_v8, val_main_v7, val_main_v6, val_main_v5, val_main_v4, val_main_v3, val_main_v2, val_main_v1,
    val_main_v0, val_main_cst, mod]

/-- The reference's modulated rows times the first weight matrix. -/
theorem ref_pre (b : Fin 8) (t : Fin 2048) (j : Fin 5632) :
    val_main_v9 (F := Ideal) x0 x1 x2 (ix3 b t j)
      = pre (mod (fun k => x0 (ix3 b t k)) (fun k => x1 (ix3 b 0 k)) (fun k => x1 (ix3 b 1 k))) (fun k j => x2 (ix2 k j)) j := by
  unfold val_main_v9 pre
  simp only [← ref_mod]
  generalize val_main_v8 (F := Ideal) x0 x1 = y
  pointwise

/-- The reference's gated hidden rows. -/
theorem ref_hid (b : Fin 8) (t : Fin 2048) (j : Fin 2816) :
    val_main_v13 (F := Ideal) x0 x1 x2 (ix3 b t j)
      = hid (mod (fun k => x0 (ix3 b t k)) (fun k => x1 (ix3 b 0 k)) (fun k => x1 (ix3 b 1 k))) (fun k j => x2 (ix2 k j)) j := by
  unfold hid
  simp only [← ref_pre]
  unfold val_main_v13 val_main_v12 val_main_v11 val_main_call0_v5 val_main_call0_v4 val_main_call0_v3 val_main_call0_v2
    val_main_call0_v1 val_main_call0_v0 val_main_v10 val_main_call0_cst val_main_call0_cst_0
  generalize val_main_v9 (F := Ideal) x0 x1 x2 = y
  pointwise [Ideal.logistic]

/-- The reference's residual sum. -/
theorem ref_res (b : Fin 8) (t : Fin 2048) (d : Fin 1024) :
    val_main_v23 (F := Ideal) x0 x1 x2 x3 (ix3 b t d) = res (fun k => x0 (ix3 b t k)) (fun k => x1 (ix3 b 2 k))
      (hid (mod (fun k => x0 (ix3 b t k)) (fun k => x1 (ix3 b 0 k)) (fun k => x1 (ix3 b 1 k))) fun k j => x2 (ix2 k j))
      (fun j d => x3 (ix2 j d)) d := by
  unfold res
  simp only [← ref_hid]
  unfold val_main_v23 val_main_v22 val_main_v21 val_main_v20 val_main_v19 val_main_v18 val_main_v17 val_main_v16
    val_main_v15 val_main_v14 val_main_v2 val_main_cst_0 val_main_cst_1 val_main_cst_2
  generalize val_main_v13 (F := Ideal) x0 x1 x2 = y
  pointwise [alpha, half]

/-- The reference's row means. -/
theorem ref_mean (b : Fin 8) (t : Fin 2048) :
    val_main_v27 (F := Ideal) x0 x1 x2 x3 (ix3 b t 0) = mean fun d => val_main_v23 (F := Ideal) x0 x1 x2 x3 (ix3 b t d) := by
  unfold val_main_v27 val_main_v26 val_main_v25 val_main_v24 val_main_cst_3 val_main_cst_4
  generalize val_main_v23 (F := Ideal) x0 x1 x2 x3 = y
  pointwise [mean, width]

/-- The reference's row variances. -/
theorem ref_var (b : Fin 8) (t : Fin 2048) :
    val_main_v34 (F := Ideal) x0 x1 x2 x3 (ix3 b t 0) = mean fun d =>
      (val_main_v23 (F := Ideal) x0 x1 x2 x3 (ix3 b t d) - mean fun e => val_main_v23 (F := Ideal) x0 x1 x2 x3 (ix3 b t e))
      * (val_main_v23 (F := Ideal) x0 x1 x2 x3 (ix3 b t d) - mean fun e => val_main_v23 (F := Ideal) x0 x1 x2 x3 (ix3 b t e)) := by
  simp only [← ref_mean]
  unfold val_main_v34 val_main_v33 val_main_v32 val_main_v31 val_main_v30 val_main_v29 val_main_v28 val_main_cst_5
    val_main_cst_6
  generalize val_main_v23 (F := Ideal) x0 x1 x2 x3 = y
  generalize val_main_v27 (F := Ideal) x0 x1 x2 x3 = u
  pointwise [mean, width]

/-- The reference's result at an index: the feed-forward row of the index's batch entry and token. -/
theorem ref_apply (b : Fin 8) (t : Fin 2048) (d : Fin 1024) :
    val_main_v47 (F := Ideal) x0 x1 x2 x3 x4 x5 (ix3 b t d)
      = row (fun k => x0 (ix3 b t k)) (fun k => x1 (ix3 b 0 k)) (fun k => x1 (ix3 b 1 k)) (fun k => x1 (ix3 b 2 k))
          (fun k j => x2 (ix2 k j)) (fun j k => x3 (ix2 j k)) (fun k => x4 (ix1 k)) (fun k => x5 (ix1 k)) d := by
  unfold row
  rw [show res _ _ _ _ = fun d => val_main_v23 (F := Ideal) x0 x1 x2 x3 (ix3 b t d) from
    funext fun d => (ref_res x0 x1 x2 x3 b t d).symm]
  unfold norm
  rw [← ref_var, ← ref_mean]
  unfold val_main_v47 val_main_v46 val_main_v45 val_main_v44 val_main_v43 val_main_v42 val_main_v41 val_main_v40
    val_main_v39 val_main_v38 val_main_v37 val_main_v36 val_main_v35 val_main_cst_7
  generalize val_main_v34 (F := Ideal) x0 x1 x2 x3 = v
  generalize val_main_v23 (F := Ideal) x0 x1 x2 x3 = y
  generalize val_main_v27 (F := Ideal) x0 x1 x2 x3 = u
  pointwise [eps]

end Cert.Ffn

end
-- ==== Proof.FfnValue.lean ====
/-
  The feed-forward kernel's result array after its run, and the claim that it is the reference's.
-/
module

public import proofs.«01_k».proof.Proof.FfnBlock
public import proofs.«01_k».proof.Proof.FfnRef
public import proofs.«01_k».proof.Defs

@[expose] public section

set_option maxRecDepth 16384

noncomputable section

namespace Cert.Ffn

open Idealize.ShloMosaic Idealize.ShloMosaic.TcCoe Idealize.SL.Sem
open Idealize.ShloMosaic.Pipeline (Dat)
open Cert.Kernel2Ideal Cert.Kernel2Ideal.Gen

variable (m : (ℓ : Loc nD τ sig) → Buf (Elt Ideal) ℓ) (c : Dev nD)

/-- The result array: at each index the feed-forward row of its batch entry and token. -/
def arr : Buf (Elt Ideal) ((c : Thread nD τ).loc main_v4) := fun (i : S8x2048x1024.Idx) =>
  row (fun k => m ((c : Thread nD τ).loc main_arg0) (ix3 (i 0) (i 1) k)) (fun k => m ((c : Thread nD τ).loc main_arg1) (ix3 (i 0) 0 k))
    (fun k => m ((c : Thread nD τ).loc main_arg1) (ix3 (i 0) 1 k)) (fun k => m ((c : Thread nD τ).loc main_arg1) (ix3 (i 0) 2 k))
    (fun k j => m ((c : Thread nD τ).loc main_arg2) (ix2 k j)) (fun j k => m ((c : Thread nD τ).loc main_arg3) (ix2 j k))
    (fun k => m ((c : Thread nD τ).loc main_arg4) (ix1 k)) (fun k => m ((c : Thread nD τ).loc main_arg5) (ix1 k)) (i 2)

/-- The two weight matrices as the launch finds them: the arguments, entry by entry. -/
theorem w13_apply (k : Fin 1024) (j : Fin 5632) : V m c main_v0 (ix2 k j) = m ((c : Thread nD τ).loc main_arg2) (ix2 k j) := rfl

theorem w2_apply (j : Fin 2816) (k : Fin 1024) : V m c main_v1 (ix2 j k) = m ((c : Thread nD τ).loc main_arg3) (ix2 j k) := rfl

/-- The normalisation's scale and shift as the launch finds them: the arguments as rows. -/
theorem g_apply (k : Fin 1024) : V m c main_v2 (ix2 0 k) = m ((c : Thread nD τ).loc main_arg4) (ix1 k) := by
  show shapeCast _ _ _ _ = _
  pointwise

theorem b_apply (k : Fin 1024) : V m c main_v3 (ix2 0 k) = m ((c : Thread nD τ).loc main_arg5) (ix1 k) := by
  show shapeCast _ _ _ _ = _
  pointwise

/-- Where each window's block lies at grid point `t`. -/
theorem index0 : ∀ t : Fin grid0.N, win0_0.index t 0 = t.val / 2 ∧ win0_0.index t 1 = t.val % 2 ∧ win0_0.index t 2 = 0 := by
  decide +kernel

theorem index1 : ∀ t : Fin grid0.N, win0_1.index t 0 = t.val / 2 ∧ win0_1.index t 1 = 0 ∧ win0_1.index t 2 = 0 := by
  decide +kernel

theorem index6 : ∀ t : Fin grid0.N, win0_6.index t 0 = t.val / 2 ∧ win0_6.index t 1 = t.val % 2 ∧ win0_6.index t 2 = 0 := by
  decide +kernel

/-- The token of row `r` of grid point `t`'s block. -/
abbrev tok (t : Fin cfg0.N) (r : Fin 1024) : Fin 2048 := ⟨t.val % 2 * 1024 + r.val, by omega⟩

/-- The batch entry of grid point `t`'s block. -/
abbrev bat (t : Fin cfg0.N) : Fin 8 := ⟨t.val / 2, by have h : t.val < 16 := lt_of_lt_of_eq t.isLt N_0; omega⟩

/-- Grid point `t`'s blocks, entry by entry, as entries of the arguments. -/
theorem blk_x (t : Fin cfg0.N) (r k : Fin 1024) :
    iblk m c 0 t (ix3 0 r k) = m ((c : Thread nD τ).loc main_arg0) (ix3 (bat t) (tok t r) k) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 2; omega
  | ⟨1, _⟩ => show win0_0.index t 1 * 1024 + 1 * r.val = t.val % 2 * 1024 + r.val; omega
  | ⟨2, _⟩ => show win0_0.index t 2 * 1024 + 1 * k.val = k.val; omega

theorem blk_mod (t : Fin cfg0.N) (s : Fin 3) (k : Fin 1024) :
    iblk m c 1 t (ix3 0 s k) = m ((c : Thread nD τ).loc main_arg1) (ix3 (bat t) s k) := by
  obtain ⟨h0, h1, h2⟩ := index1 t
  unfold iblk
  rw [View.read_apply]
  show V m c main_arg1 _ = _
  rw [V_main_arg1]
  congr 1
  funext a
  apply Fin.ext
  match a with
  | ⟨0, _⟩ => show win0_1.index t 0 * 1 + 1 * 0 = t.val / 2; omega
  | ⟨1, _⟩ => show win0_1.index t 1 * 3 + 1 * s.val = s.val; omega
  | ⟨2, _⟩ => show win0_1.index t 2 * 1024 + 1 * k.val = k.val; omega

theorem blk_w13 (t : Fin cfg0.N) (k : Fin 1024) (j : Fin 5632) :
    iblk m c 2 t (ix2 k j) = m ((c : Thread nD τ).loc main_arg2) (ix2 k j) := by
  refine Eq.trans ?_ (w13_apply m c k j)
  unfold iblk
  rw [View.read_apply]
  show V m c main_v0 _ = _
  congr 1
  funext a
  apply Fin.ext
  match a with
  | ⟨0, _⟩ => show 0 * 1024 + 1 * k.val = k.val; omega
  | ⟨1, _⟩ => show 0 * 5632 + 1 * j.val = j.val; omega

theorem blk_w2 (t : Fin cfg0.N) (j : Fin 2816) (k : Fin 1024) :
    iblk m c 3 t (ix2 j k) = m ((c : Thread nD τ).loc main_arg3) (ix2 j k) := by
  refine Eq.trans ?_ (w2_apply m c j k)
  unfold iblk
  rw [View.read_apply]
  show V m c main_v1 _ = _
  congr 1
  funext a
  apply Fin.ext
  match a with
  | ⟨0, _⟩ => show 0 * 2816 + 1 * j.val = j.val; omega
  | ⟨1, _⟩ => show 0 * 1024 + 1 * k.val = k.val; omega

theorem blk_g (t : Fin cfg0.N) (k : Fin 1024) : iblk m c 4 t (ix2 0 k) = m ((c : Thread nD τ).loc main_arg4) (ix1 k) := by
  refine Eq.trans ?_ (g_apply m c k)
  unfold iblk
  rw [View.read_apply]
  show V m c main_v2 _ = _
  congr 1
  funext a
  apply Fin.ext
  match a with
  | ⟨0, _⟩ => rfl
  | ⟨1, _⟩ => show 0 * 1024 + 1 * k.val = k.val; omega

theorem blk_b (t : Fin cfg0.N) (k : Fin 1024) : iblk m c 5 t (ix2 0 k) = m ((c : Thread nD τ).loc main_arg5) (ix1 k) := by
  refine Eq.trans ?_ (b_apply m c k)
  unfold iblk
  rw [View.read_apply]
  show V m c main_v3 _ = _
  congr 1
  funext a
  apply Fin.ext
  match a with
  | ⟨0, _⟩ => rfl
  | ⟨1, _⟩ => show 0 * 1024 + 1 * k.val = k.val; omega

/-- What grid point `t` writes back is its block of the result array. -/
theorem flushed (t : Fin cfg0.N) : (dats m 0 c).flushed 6 t = ((cfg0.win 6).blk t).view.read (Elt Ideal) (arr m c) := by
  obtain ⟨h0, h1, h2⟩ := index6 t
  rw [Value.flushed6_A m c t]
  funext j
  obtain ⟨j0, r, d, rfl⟩ : ∃ (a : Fin 1) (r d : Fin 1024), j = ix3 a r d := ⟨j 0, j 1, j 2, by funext a; fin_cases a <;> rfl⟩
  obtain rfl : j0 = 0 := Subsingleton.elim _ _
  rw [View.read_apply]
  refine (out_apply c _ _ _ _ _ _ _ _ _ _ _ _ _ _ _ _ _ _ _ _ _ _ _ r d).trans ?_
  simp only [blk_x, blk_mod, blk_w13, blk_w2, blk_g, blk_b]
  rw [show ((cfg0.win 6).blk t).view.emb (ix3 0 r d) = (ix3 (bat t) (tok t r) d : S8x2048x1024.Idx) from by
    funext a
    apply Fin.ext
    match a with
    | ⟨0, _⟩ => show win0_6.index t 0 * 1 + 1 * 0 = t.val / 2; omega
    | ⟨1, _⟩ => show win0_6.index t 1 * 1024 + 1 * r.val = t.val % 2 * 1024 + r.val; omega
    | ⟨2, _⟩ => show win0_6.index t 2 * 1024 + 1 * d.val = d.val; omega]
  rfl

/-- The blocks fill the result array. -/
theorem cover (i : S8x2048x1024.Idx) : ∃ t : Fin cfg0.N, (cfg0.win 6).flush t = true ∧ i ∈ ((cfg0.win 6).blk t).view.set := by
  have i0 : (i 0 : Nat) < 8 := (i 0).isLt
  have i1 : (i 1 : Nat) < 2048 := (i 1).isLt
  have i2 : (i 2 : Nat) < 1024 := (i 2).isLt
  have hN : grid0.N = 16 := N_0
  let t : Fin grid0.N := ⟨(i 0 : Nat) * 2 + (i 1 : Nat) / 1024, by omega⟩
  have ht : t.val = (i 0 : Nat) * 2 + (i 1 : Nat) / 1024 := rfl
  obtain ⟨h0, h1, h2⟩ := index6 t
  refine ⟨t, flush0_6 t, ?_⟩
  show i ∈ ((View.whole main_v4).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; omega
  | ⟨1, _⟩ => show win0_6.index t 1 * 1024 ≤ (i 1 : Nat) ∧ (i 1 : Nat) < win0_6.index t 1 * 1024 + 1024; omega
  | ⟨2, _⟩ => show win0_6.index t 2 * 1024 ≤ (i 2 : Nat) ∧ (i 2 : Nat) < win0_6.index t 2 * 1024 + 1024; omega

/-- So the result array ends holding the feed-forward rows. -/
theorem final : (dats m 0 c).arrAt 6 cfg0.N = arr m c :=
  (dats m 0 c).arrAt_eq_of_cover 6 (arr m c) (fun t _ => flushed m c t) cover

end Cert.Ffn

namespace Cert.Ffn

open Idealize.ShloMosaic Idealize.ShloMosaic.TcCoe Idealize.SL.Sem

/-- The feed-forward claim: from equal arguments the kernel and the reference end with equal results, arguments unchanged. -/
theorem algebraic : algebraic_Kernel2Ideal_Reference2Ideal := by
  intro m g m' g' _ h
  refine ⟨arr m, ?_, ?_⟩
  · refine (θ_run _ _ _).mono (fun r hr c => ?_) (Cert.Kernel2Ideal.Value.run_blocks m g)
    obtain ⟨h0, hr⟩ := hr c
    exact ⟨h0.trans (final m c), hr⟩
  · refine (θ_run _ _ _).mono (fun r hr c => ?_) (Cert.Reference2Ideal.Value.run m' g')
    obtain ⟨h0, hr⟩ := hr c
    obtain ⟨e0, e1, e2, e3, e4, e5⟩ := h c
    refine ⟨h0.trans ?_, hr⟩
    rw [Cert.Reference2Ideal.Read.val_main_v47_eq]
    rw [e0, e1, e2, e3, e4, e5]
    funext i
    obtain ⟨b, t, d, rfl⟩ : ∃ (b : Fin 8) (t : Fin 2048) (d : Fin 1024), i = ix3 b t d := ⟨i 0, i 1, i 2, by funext a; fin_cases a <;> rfl⟩
    exact ref_apply _ _ _ _ _ _ b t d

end Cert.Ffn

end
-- ==== Proof.Attn.lean ====
/-
  The attention core, one query row of one head at a time. A row of the result depends on one query row, on the keys and
  values of its batch entry and head, on the gain and on the four rows of `lam`; `Attn.row` says how, as the kernel
  computes it, over the extended reals. `blockN_apply` reads the kernel's payload for each of the four row groups of a block.
-/
module

public import proofs.«01_k».proof.Proof.Gen.KernelIdeal.Skeleton
public import Idealize.ShloMosaic.Lib.Pointwise

@[expose] public section

set_option maxRecDepth 16384

noncomputable section

namespace Cert.Attn

open Idealize.ShloMosaic Cert.KernelIdeal Cert.KernelIdeal.Gen

/-- The constants of the programs, as they spell them. -/
abbrev lamInit : EReal := Ideal.ofBits .f32 0x3F0E59D5#32
abbrev gainW : EReal := Ideal.ofBits .f32 0x3EE34C57#32
abbrev width : EReal := Ideal.ofBits .f32 0x43000000#32
abbrev eps : EReal := Ideal.ofBits .f32 0x3727C5AC#32
abbrev negInf : EReal := Ideal.ofBits .f32 0xFF800000#32

/-- The factor of the queries: the scale of the scores over the natural logarithm of two. -/
abbrev scl : EReal := Named.named (F := Ideal) (φ := .f32) κ "scale_log2e" 0x3E38AA3B#32

/-- The weight of the second softmax: `exp ⟨l0, l1⟩ - exp ⟨l2, l3⟩ + lamInit`. -/
def lamFull (l : Fin 4 → Fin 64 → EReal) : EReal :=
  Ideal.exp (∑ k : Fin 64, l 0 k * l 1 k) - Ideal.exp (∑ k : Fin 64, l 2 k * l 3 k) + lamInit

/-- A query row with its last 64 lanes cleared, and with its first 64 lanes cleared. -/
def low (q : Fin 128 → EReal) (k : Fin 128) : EReal := if k.val < 64 then q k else 0
def high (q : Fin 128 → EReal) (k : Fin 128) : EReal := if 64 ≤ k.val then q k else 0

/-- The score of a key. -/
def score (q : Fin 128 → EReal) (K : Fin 2304 → Fin 128 → EReal) (j : Fin 2304) : EReal := ∑ k : Fin 128, q k * K j k

/-- The unnormalised weight of a key: a power of two of its score less the largest score. -/
def wt (s : Fin 2304 → EReal) (j : Fin 2304) : EReal :=
  Ideal.exp2 (s j - Finset.univ.fold max negInf s)

/-- The values averaged with those weights. -/
def avg (s : Fin 2304 → EReal) (V : Fin 2304 → Fin 128 → EReal) (d : Fin 128) : EReal :=
  (∑ j : Fin 2304, wt s j * V j d) * Ideal.div 1 (∑ j : Fin 2304, wt s j)

/-- The first average less `lam` times the second. -/
def diff (lam : EReal) (q : Fin 128 → EReal) (K V : Fin 2304 → Fin 128 → EReal) (d : Fin 128) : EReal :=
  avg (score (low q) K) V d - lam * avg (score (high q) K) V d

/-- A row over the root of its mean square. -/
def rms (o : Fin 128 → EReal) (d : Fin 128) : EReal :=
  o d * Ideal.rsqrt (Ideal.div (∑ e : Fin 128, o e * o e) width + eps)

/-- One entry of a row of the attention core. -/
def row (l : Fin 4 → Fin 64 → EReal) (g q : Fin 128 → EReal) (K V : Fin 2304 → Fin 128 → EReal) (d : Fin 128) : EReal :=
  rms (diff (lamFull l) (fun k => q k * scl) K V) d * (g d * gainW)

theorem slt_apply : ∀ k : Fin 128, IntOp.cmpi .slt (BitVec.ofNat 32 k.val) 64#32 = if k.val < 64 then 1#1 else 0#1 := by
  decide +kernel

theorem sge_apply : ∀ k : Fin 128, IntOp.cmpi .sge (BitVec.ofNat 32 k.val) 64#32 = if 64 ≤ k.val then 1#1 else 0#1 := by
  decide +kernel

/-- A choice by the comparison of a lane with 64. -/
theorem sel_low (k : Fin 128) (a b : EReal) :
    Scalar.select (IntOp.cmpi .slt (BitVec.ofNat 32 k.val) 64#32) a b = if k.val < 64 then a else b := by
  rw [slt_apply]
  by_cases h : k.val < 64 <;> simp [h, Scalar.select]

theorem sel_high (k : Fin 128) (a b : EReal) :
    Scalar.select (IntOp.cmpi .sge (BitVec.ofNat 32 k.val) 64#32) (a * b) 0 = (if 64 ≤ k.val then a else 0) * b := by
  rw [sge_apply]
  by_cases h : 64 ≤ k.val <;> simp [h, Scalar.select]

theorem lam_apply (l : Vec Ideal S4x64 .f32) : k0_pay6 l (ix2 0 0) = lamFull fun a k => l (ix2 a k) := by
  pointwise [k0_pay6, lamFull]

theorem gain_apply (g : Vec Ideal S1x128 .f32) (d : Fin 128) : k0_pay7 g (ix2 0 d) = g (ix2 0 d) * gainW := by
  pointwise [k0_pay7]

theorem query_apply (q : Vec Ideal S1x256x128 .f32) (r : Fin 256) (k : Fin 128) :
    k0_pay8 q (ix2 r k) = q (ix3 0 r k) * scl := by
  pointwise [k0_pay8, scl]

theorem low_apply (q : Vec Ideal S1x256x128 .f32) (r : Fin 256) (k : Fin 128) :
    k0_pay9 q (ix2 r k) = low (fun k => q (ix3 0 r k) * scl) k := by
  pointwise [k0_pay9, k0_pay8, low, scl]
  rw [sel_low]

/-- The kernel's first row group before the gain. -/
theorem norm_apply (lam : FVec Ideal S1x1 .f32) (K V : Vec Ideal S2304x128 .bf16) (q ql : FVec Ideal S256x128 .bf16)
    (hl : ∀ r k, ql (ix2 r k) = low (fun k => q (ix2 r k)) k) (r : Fin 256) (d : Fin 128) :
    k0_pay10 lam K V q (iota .tc S256x128 32 [1] iota_S256x128_d1_w32) ql (constant S256x2304 .f32 0x00000000#32) (ix2 r d)
      = rms (diff (lam (ix2 0 0)) (fun k => q (ix2 r k)) (fun j k => K (ix2 j k)) fun j k => V (ix2 j k)) d := by
  pointwise [k0_pay10]
  simp only [hl, sel_high]
  rfl

/-- The first row group of a block at a row and a column. -/
theorem block0_apply (l : Vec Ideal S4x64 .f32) (g : Vec Ideal S1x128 .f32) (K V : Vec Ideal S2304x128 .bf16)
    (q : Vec Ideal S1x256x128 .f32) (r : Fin 256) (d : Fin 128) :
    k0_pay12 (k0_pay10 (k0_pay6 l) K V (k0_pay8 q) (iota .tc S256x128 32 [1] iota_S256x128_d1_w32) (k0_pay9 q)
        (constant S256x2304 .f32 0x00000000#32)) (k0_pay11 (k0_pay7 g)) (ix3 0 r d)
      = row (fun a k => l (ix2 a k)) (fun k => g (ix2 0 k)) (fun k => q (ix3 0 r k)) (fun j k => K (ix2 j k))
          (fun j k => V (ix2 j k)) d := by
  have e : ∀ n : FVec Ideal S256x128 .f32, k0_pay12 n (k0_pay11 (k0_pay7 g)) (ix3 0 r d)
      = n (ix2 r d) * (g (ix2 0 d) * gainW) := fun n => by
    pointwise [k0_pay12, k0_pay11, k0_pay7]
  rw [e, norm_apply _ _ _ _ _ (fun r k => by simp only [low_apply, query_apply]), lam_apply]
  simp only [query_apply]
  rfl

/-- The other row groups go through the same operations as the first. -/
theorem block1_eq (l : Vec Ideal S4x64 .f32) (g : Vec Ideal S1x128 .f32) (K V : Vec Ideal S2304x128 .bf16)
    (q : Vec Ideal S1x256x128 .f32) :
    k0_pay17 (k0_pay6 l) V (k0_pay7 g) (k0_pay14 K V q) (k0_pay15 K q) (k0_pay16 K q)
      = k0_pay12 (k0_pay10 (k0_pay6 l) K V (k0_pay8 q) (iota .tc S256x128 32 [1] iota_S256x128_d1_w32) (k0_pay9 q)
        (constant S256x2304 .f32 0x00000000#32)) (k0_pay11 (k0_pay7 g)) := rfl

theorem block2_eq (l : Vec Ideal S4x64 .f32) (g : Vec Ideal S1x128 .f32) (K V : Vec Ideal S2304x128 .bf16)
    (q : Vec Ideal S1x256x128 .f32) :
    k0_pay20 (k0_pay6 l) K V (k0_pay7 g) (k0_pay18 q) (iota .tc S256x128 32 [1] iota_S256x128_d1_w32) (k0_pay19 K q)
      = k0_pay12 (k0_pay10 (k0_pay6 l) K V (k0_pay8 q) (iota .tc S256x128 32 [1] iota_S256x128_d1_w32) (k0_pay9 q)
        (constant S256x2304 .f32 0x00000000#32)) (k0_pay11 (k0_pay7 g)) := rfl

theorem block3_eq (l : Vec Ideal S4x64 .f32) (g : Vec Ideal S1x128 .f32) (K V : Vec Ideal S2304x128 .bf16)
    (q : Vec Ideal S1x256x128 .f32) :
    k0_pay1 (k0_pay6 l) (k0_pay7 g) (k0_pay22 K V q) (k0_pay24 K V q) (k0_pay25 K q)
      = k0_pay12 (k0_pay10 (k0_pay6 l) K V (k0_pay8 q) (iota .tc S256x128 32 [1] iota_S256x128_d1_w32) (k0_pay9 q)
        (constant S256x2304 .f32 0x00000000#32)) (k0_pay11 (k0_pay7 g)) := rfl

end Cert.Attn

end
-- ==== Proof.AttnBlock.lean ====
/-
  What one grid point of the attention kernel leaves: at a head's first point the two buffers hold the head's keys and
  values (256 context rows, then 2048 latent rows), and at every point the block of the result is, row by row, `Attn.row`.
-/
module

public import proofs.«01_k».proof.Proof.Attn
public import proofs.«01_k».proof.Proof.Gen.KernelIdeal.Value
public import Idealize.ShloMosaic.Lib.Pipeline.Value
public import Idealize.ShloMosaic.Lib.Pointwise
public import Idealize.ShloMosaic.Lib.Tactic
public import Idealize.ShloMosaic.Lib.Pipeline.ValueKit.Tiles

@[expose] public section

set_option maxRecDepth 16384

noncomputable section

namespace Cert.Attn

open Idealize.ShloMosaic Idealize.ShloMosaic.TcCoe Idealize.SL.Sem
open Cert.KernelIdeal Cert.KernelIdeal.Gen

theorem hz2 : (![0, 0] : Fin 2 → Nat) = fun _ => 0 := funext fun a => by fin_cases a <;> rfl

theorem hz3 : (![0, 0, 0] : Fin 3 → Nat) = fun _ => 0 := funext fun a => by fin_cases a <;> rfl

/-- The rows a buffer holds for a head: 256 context rows `x`, then 2048 latent rows `y`. -/
def kvBlk (x : Vec Ideal S1x256x128 .bf16) (y : Vec Ideal S1x2048x128 .bf16) : S2304x128.Idx → EReal := fun z =>
  if h : (z 0).val < 256 then x (ix3 0 ⟨(z 0).val, h⟩ (z 1))
  else y (ix3 0 ⟨(z 0).val - 256, by have h2 : (z 0).val < 2304 := (z 0).isLt; omega⟩ (z 1))

/-- The block of the result over keys `K` and values `V`: its rows are the attention rows of the rows of `q`. -/
def outBlk (l : Vec Ideal S4x64 .f32) (g : Vec Ideal S1x128 .f32) (q : Vec Ideal S1x1024x128 .f32)
    (K V : Vec Ideal S2304x128 .bf16) : S1x1024x128.Idx → EReal := fun y =>
  row (fun a k => l (ix2 a k)) (fun k => g (ix2 0 k)) (fun k => q (ix3 0 (y 1) k)) (fun j k => K (ix2 j k))
    (fun j k => V (ix2 j k)) (y 2)

theorem pay2_apply (x : Vec Ideal S1x256x128 .bf16) (r : Fin 256) (d : Fin 128) :
    k0_pay2 x (ix2 r d) = x (ix3 0 r d) := by
  unfold k0_pay2
  pointwise

theorem pay3_apply (x : Vec Ideal S1x256x128 .bf16) (r : Fin 256) (d : Fin 128) :
    k0_pay3 x (ix2 r d) = x (ix3 0 r d) := by
  unfold k0_pay3
  pointwise

theorem pay4_apply (x : Vec Ideal S1x2048x128 .bf16) (r : Fin 2048) (d : Fin 128) :
    k0_pay4 x (ix2 r d) = x (ix3 0 r d) := by
  unfold k0_pay4
  pointwise

theorem pay5_apply (x : Vec Ideal S1x2048x128 .bf16) (r : Fin 2048) (d : Fin 128) :
    k0_pay5 x (ix2 r d) = x (ix3 0 r d) := by
  unfold k0_pay5
  pointwise

/-- A store of the 256 context rows writes the first 256 rows of the head's block. -/
theorem ctx_piece (x : Vec Ideal S1x256x128 .bf16) (y : Vec Ideal S1x2048x128 .bf16) (w : Vec Ideal S256x128 .bf16)
    (hw : ∀ r d, w (ix2 r d) = x (ix3 0 r d)) (z : S256x128.Idx) :
    w z = kvBlk x y ((Rect.unit (s := S2304x128) ![0, 0] S256x128.size inb_S2304x128_S256x128_0_0).emb z) := by
  idx_vars z
  have h0 := z0.isLt
  have er : (Rect.unit (s := S2304x128) ![0, 0] S256x128.size inb_S2304x128_S256x128_0_0).emb (ix2 z0 z1)
      = ix2 ⟨z0.val, by omega⟩ z1 := by
    funext a
    apply Fin.ext
    match a with
    | ⟨0, _⟩ => show 0 + 1 * z0.val = z0.val; omega
    | ⟨1, _⟩ => show 0 + 1 * z1.val = z1.val; omega
  rw [er, hw]
  refine Eq.trans ?_ (dif_pos h0).symm
  rfl

/-- A store of the 2048 latent rows writes the other rows of the head's block. -/
theorem lat_piece (x : Vec Ideal S1x256x128 .bf16) (y : Vec Ideal S1x2048x128 .bf16) (w : Vec Ideal S2048x128 .bf16)
    (hw : ∀ r d, w (ix2 r d) = y (ix3 0 r d)) (z : S2048x128.Idx) :
    w z = kvBlk x y ((Rect.unit (s := S2304x128) ![256, 0] S2048x128.size inb_S2304x128_S2048x128_256_0).emb z) := by
  idx_vars z
  have h0 := z0.isLt
  have er : (Rect.unit (s := S2304x128) ![256, 0] S2048x128.size inb_S2304x128_S2048x128_256_0).emb (ix2 z0 z1)
      = ix2 ⟨256 + z0.val, by omega⟩ z1 := by
    funext a
    apply Fin.ext
    match a with
    | ⟨0, _⟩ => show 256 + 1 * z0.val = 256 + z0.val; omega
    | ⟨1, _⟩ => show 0 + 1 * z1.val = z1.val; omega
  rw [er, hw]
  have hn : ¬ 256 + z0.val < 256 := by omega
  refine Eq.trans ?_ (dif_neg hn).symm
  refine congrArg y ?_
  funext a
  apply Fin.ext
  match a with
  | ⟨0, _⟩ => rfl
  | ⟨1, _⟩ => show z0.val = 256 + z0.val - 256; omega
  | ⟨2, _⟩ => rfl

/-- The two stores into a buffer, last first. -/
def kvPieces (w : Vec Ideal S256x128 .bf16) (w' : Vec Ideal S2048x128 .bf16) :
    List (View.Piece (Elt Ideal) S2304x128 .bf16) :=
  [⟨Rect.unit (s := S2304x128) ![256, 0] S2048x128.size inb_S2304x128_S2048x128_256_0, w'⟩,
    ⟨Rect.unit (s := S2304x128) ![0, 0] S256x128.size inb_S2304x128_S256x128_0_0, w⟩]

/-- The two stores cover the buffer. -/
theorem kvPieces_cover (w : Vec Ideal S256x128 .bf16) (w' : Vec Ideal S2048x128 .bf16) (y : S2304x128.Idx) :
    ∃ p ∈ kvPieces w w', y ∈ p.1.set := by
  refine View.cover_of_tiledBy (kvPieces w w') ![256, 128] ?_ y
  unfold kvPieces
  sl_kernel_rfl

/-- What the two stores leave in the buffer is the head's block. -/
theorem canon_kvPieces (x : Vec Ideal S1x256x128 .bf16) (y : Vec Ideal S1x2048x128 .bf16) (w : Vec Ideal S256x128 .bf16)
    (w' : Vec Ideal S2048x128 .bf16) (hw : ∀ r d, w (ix2 r d) = x (ix3 0 r d)) (hw' : ∀ r d, w' (ix2 r d) = y (ix3 0 r d)) :
    View.canon (kvPieces w w') = kvBlk x y := by
  refine funext fun z => View.canon_apply_of_pieces (Val := Elt Ideal) (e := .bf16) (kvBlk x y) (kvPieces w w') ?_ z
    (kvPieces_cover w w' z)
  unfold kvPieces
  refine List.forall_mem_cons.2 ⟨lat_piece x y w' hw', List.forall_mem_cons.2 ⟨ctx_piece x y w hw, ?_⟩⟩
  exact fun p hp => absurd hp (List.not_mem_nil)

/-- A load of the whole buffer after the two stores reads the head's block. -/
theorem readCov_kv {sig : RefSig} {κ : Kind} {sp : Space} (v : View sig κ sp S2304x128 .bf16)
    (x : Vec Ideal S1x256x128 .bf16) (y : Vec Ideal S1x2048x128 .bf16) (w : Vec Ideal S256x128 .bf16)
    (w' : Vec Ideal S2048x128 .bf16) (hw : ∀ r d, w (ix2 r d) = x (ix3 0 r d)) (hw' : ∀ r d, w' (ix2 r d) = y (ix3 0 r d))
    (inb : ∀ a, ![0, 0] a + S2304x128.size a ≤ S2304x128.size a) :
    v.readCov (kvPieces w w') (Rect.unit (s := S2304x128) ![0, 0] S2304x128.size inb).toLoadRect = kvBlk x y := by
  rw [View.readCov_eq_canon_ld _ _ _ (kvPieces_cover w w'), View.ld_unit_zero (S := S2304x128) hz2]
  exact canon_kvPieces x y w w' hw hw'

/-- A sub-block's store writes its 256 rows of the block of the result. -/
theorem out_piece (l : Vec Ideal S4x64 .f32) (g : Vec Ideal S1x128 .f32) (q : Vec Ideal S1x1024x128 .f32)
    (K V : Vec Ideal S2304x128 .bf16) (o : Nat) (iq : ∀ a, ![0, o, 0] a + S1x256x128.size a ≤ S1x1024x128.size a)
    (w : Vec Ideal S1x256x128 .bf16)
    (hw : w = k0_pay12 (k0_pay10 (k0_pay6 l) K V (k0_pay8 (View.ld q (Rect.unit (s := S1x1024x128) ![0, o, 0] S1x256x128.size iq)))
      (iota .tc S256x128 32 [1] iota_S256x128_d1_w32)
      (k0_pay9 (View.ld q (Rect.unit (s := S1x1024x128) ![0, o, 0] S1x256x128.size iq))) (constant S256x2304 .f32 0x00000000#32))
      (k0_pay11 (k0_pay7 g)))
    (z : S1x256x128.Idx) :
    w z = outBlk l g q K V ((Rect.unit (s := S1x1024x128) ![0, o, 0] S1x256x128.size iq).emb z) := by
  subst hw
  idx_vars z
  obtain rfl : z0 = 0 := Subsingleton.elim _ _
  rw [block0_apply]
  have ho : o + 256 ≤ 1024 := iq 1
  have h1 := z1.isLt
  have eq : ∀ k : Fin 128, View.ld q (Rect.unit (s := S1x1024x128) ![0, o, 0] S1x256x128.size iq) (ix3 0 z1 k)
      = q (ix3 0 ⟨o + z1.val, by omega⟩ k) := fun k => View.ld_unit_apply_of _ _ _ _ _ _ fun a => by
    match a with
    | ⟨0, _⟩ => rfl
    | ⟨1, _⟩ => rfl
    | ⟨2, _⟩ => show k.val = 0 + k.val; omega
  have er : ((Rect.unit (s := S1x1024x128) ![0, o, 0] S1x256x128.size iq).emb (ix3 0 z1 z2))
      = ix3 0 ⟨o + z1.val, by omega⟩ z2 := by
    funext a
    apply Fin.ext
    match a with
    | ⟨0, _⟩ => rfl
    | ⟨1, _⟩ => show o + 1 * z1.val = o + z1.val; omega
    | ⟨2, _⟩ => show 0 + 1 * z2.val = z2.val; omega
  simp only [eq]
  rw [er]
  rfl

section Points

variable (c : Dev nD) (i : grid0.Coords) (arg3 : Memref sig .tc .vmem S4x64 .f32) (harg3 : arg3.IsWhole)
  (arg4 : Memref sig .tc .vmem S1x128 .f32) (harg4 : arg4.IsWhole) (arg5 : Memref sig .tc .vmem S1x1024x128 .f32)
  (harg5 : arg5.IsWhole) (arg6 : Memref sig .tc .vmem S1x256x128 .bf16) (harg6 : arg6.IsWhole)
  (arg7 : Memref sig .tc .vmem S1x2048x128 .bf16) (harg7 : arg7.IsWhole) (arg8 : Memref sig .tc .vmem S1x256x128 .bf16)
  (harg8 : arg8.IsWhole) (arg9 : Memref sig .tc .vmem S1x2048x128 .bf16) (harg9 : arg9.IsWhole)
  (arg10 : Memref sig .tc .vmem S1x1024x128 .bf16) (harg10 : arg10.IsWhole) (arg11 : Memref sig .tc .vmem S2304x128 .bf16)
  (harg11 : arg11.IsWhole) (arg12 : Memref sig .tc .vmem S2304x128 .bf16) (harg12 : arg12.IsWhole)
  (x0 : Vec Ideal S4x64 .f32) (x1 : Vec Ideal S1x128 .f32) (x2 : Vec Ideal S1x1024x128 .f32)
  (x3 : Vec Ideal S1x256x128 .bf16) (x4 : Vec Ideal S1x2048x128 .bf16) (x5 : Vec Ideal S1x256x128 .bf16)
  (x6 : Vec Ideal S1x2048x128 .bf16)

/-- At a head's first point the key buffer is left holding the head's keys. -/
theorem keys_A (hc : cond0_0 i) :
    sout0_A_0 c i arg3 harg3 arg4 harg4 arg5 harg5 arg6 harg6 arg7 harg7 arg8 harg8 arg9 harg9 arg10 harg10 arg11 harg11
      arg12 harg12 hc x0 x1 x2 x3 x4 x5 x6 = kvBlk x3 x4 := by
  unfold sout0_A_0
  rw [View.read_writes_eq_canon _ _ _ (scover0_A_0 c i arg3 harg3 arg4 harg4 arg5 harg5 arg6 harg6 arg7 harg7 arg8 harg8 arg9
    harg9 arg10 harg10 arg11 harg11 arg12 harg12 hc x0 x1 x2 x3 x4 x5 x6)]
  unfold kernelRun0_A
  dsimp only
  sl_unfold_words
  simp only [View.readAt_eq_ld, harg6.read_unread, harg7.read_unread, View.ld_unit_zero (S := S1x256x128) hz3,
    View.ld_unit_zero (S := S1x2048x128) hz3]
  exact canon_kvPieces x3 x4 _ _ (pay2_apply x3) (pay4_apply x4)

/-- At a head's first point the value buffer is left holding the head's values. -/
theorem vals_A (hc : cond0_0 i) :
    sout0_A_1 c i arg3 harg3 arg4 harg4 arg5 harg5 arg6 harg6 arg7 harg7 arg8 harg8 arg9 harg9 arg10 harg10 arg11 harg11
      arg12 harg12 hc x0 x1 x2 x3 x4 x5 x6 = kvBlk x5 x6 := by
  unfold sout0_A_1
  rw [View.read_writes_eq_canon _ _ _ (scover0_A_1 c i arg3 harg3 arg4 harg4 arg5 harg5 arg6 harg6 arg7 harg7 arg8 harg8 arg9
    harg9 arg10 harg10 arg11 harg11 arg12 harg12 hc x0 x1 x2 x3 x4 x5 x6)]
  unfold kernelRun0_A
  dsimp only
  sl_unfold_words
  simp only [View.readAt_eq_ld, harg8.read_unread, harg9.read_unread, View.ld_unit_zero (S := S1x256x128) hz3,
    View.ld_unit_zero (S := S1x2048x128) hz3]
  exact canon_kvPieces x5 x6 _ _ (pay3_apply x5) (pay5_apply x6)

/-- A head's first point leaves the attention rows over the keys and values it has just gathered. -/
theorem out_A (hc : cond0_0 i) (y : S1x1024x128.Idx) :
    out0_A_7 c i arg3 harg3 arg4 harg4 arg5 harg5 arg6 harg6 arg7 harg7 arg8 harg8 arg9 harg9 arg10 harg10 arg11 harg11
      arg12 harg12 hc x0 x1 x2 x3 x4 x5 x6 y = outBlk x0 x1 x2 (kvBlk x3 x4) (kvBlk x5 x6) y := by
  unfold out0_A_7
  have hcov := cover0_A_7 c i arg3 harg3 arg4 harg4 arg5 harg5 arg6 harg6 arg7 harg7 arg8 harg8 arg9
    harg9 arg10 harg10 arg11 harg11 arg12 harg12 hc x0 x1 x2 x3 x4 x5 x6
  rw [View.read_writes_eq_canon _ _ _ hcov]
  refine View.canon_apply_of_pieces (Val := Elt Ideal) (e := .bf16) (outBlk x0 x1 x2 (kvBlk x3 x4) (kvBlk x5 x6)) _ ?_ y (hcov y)
  clear hcov
  unfold kernelRun0_A
  dsimp only
  sl_unfold_words
  simp only [View.readAt_eq_ld, harg3.read_unread, harg4.read_unread, harg5.read_unread, harg6.read_unread,
    harg7.read_unread, harg8.read_unread, harg9.read_unread, View.ld_unit_zero (S := S4x64) hz2,
    View.ld_unit_zero (S := S1x128) hz2, View.ld_unit_zero (S := S1x256x128) hz3, View.ld_unit_zero (S := S1x2048x128) hz3]
  have hK := readCov_kv arg11.view x3 x4 (k0_pay2 x3) (k0_pay4 x4) (pay2_apply x3) (pay4_apply x4) inb_S2304x128_S2304x128_0_0
  have hV := readCov_kv arg12.view x5 x6 (k0_pay3 x5) (k0_pay5 x6) (pay3_apply x5) (pay5_apply x6) inb_S2304x128_S2304x128_0_0
  unfold kvPieces at hK hV
  simp only [hK, hV]
  repeat' refine List.forall_mem_cons.2 ⟨?_, ?_⟩
  · exact out_piece x0 x1 x2 _ _ 768 _ _ (block3_eq x0 x1 _ _ _)
  · exact out_piece x0 x1 x2 _ _ 512 _ _ (block2_eq x0 x1 _ _ _)
  · exact out_piece x0 x1 x2 _ _ 256 _ _ (block1_eq x0 x1 _ _ _)
  · exact out_piece x0 x1 x2 _ _ 0 _ _ rfl
  · exact fun p hp => absurd hp (List.not_mem_nil)

/-- A head's second point leaves the attention rows over the keys and values the buffers hold. -/
theorem out_B (hc : ¬ cond0_0 i) (K V : Vec Ideal S2304x128 .bf16) (y : S1x1024x128.Idx) :
    out0_B_7 c i arg3 harg3 arg4 harg4 arg5 harg5 arg6 harg6 arg7 harg7 arg8 harg8 arg9 harg9 arg10 harg10 arg11 harg11
      arg12 harg12 hc x0 x1 x2 x3 x4 x5 x6 K V y = outBlk x0 x1 x2 K V y := by
  unfold out0_B_7
  have hcov := cover0_B_7 c i arg3 harg3 arg4 harg4 arg5 harg5 arg6 harg6 arg7 harg7 arg8 harg8 arg9
    harg9 arg10 harg10 arg11 harg11 arg12 harg12 hc x0 x1 x2 x3 x4 x5 x6 K V
  rw [View.read_writes_eq_canon _ _ _ hcov]
  refine View.canon_apply_of_pieces (Val := Elt Ideal) (e := .bf16) (outBlk x0 x1 x2 K V) _ ?_ y (hcov y)
  clear hcov
  unfold kernelRun0_B
  dsimp only
  sl_unfold_words
  simp only [View.readAt_eq_ld, harg3.read_unread, harg4.read_unread, harg5.read_unread, harg11.read_unread,
    harg12.read_unread, View.ld_unit_zero (S := S4x64) hz2,
    View.ld_unit_zero (S := S1x128) hz2, View.ld_unit_zero (S := S2304x128) hz2]
  repeat' refine List.forall_mem_cons.2 ⟨?_, ?_⟩
  · exact out_piece x0 x1 x2 _ _ 768 _ _ (block3_eq x0 x1 _ _ _)
  · exact out_piece x0 x1 x2 _ _ 512 _ _ (block2_eq x0 x1 _ _ _)
  · exact out_piece x0 x1 x2 _ _ 256 _ _ (block1_eq x0 x1 _ _ _)
  · exact out_piece x0 x1 x2 _ _ 0 _ _ rfl
  · exact fun p hp => absurd hp (List.not_mem_nil)

end Points

end Cert.Attn

end
-- ==== Proof.AttnAlgebra.lean ====
/-
  The two formulas for a row of the attention core agree on real numbers. The kernel weighs a key by a power of two of a
  rescaled score less the largest one and divides the weighted values by the sum of the weights; the reference weighs it by
  the softmax of its score and weighs the values by the difference of the two softmaxes. `row_eq` says that both give the
  same row.
-/
module

public import proofs.«01_k».proof.Proof.Attn

@[expose] public section

set_option maxRecDepth 16384

noncomputable section

namespace Cert.Attn

open Idealize.ShloMosaic

/-- The scale of the scores, as the reference spells it. -/
abbrev scale : EReal := Ideal.ofBits .f32 0x3E000000#32

/-- Lane `k` of head half `t`. -/
def lane (t : Fin 2) (k : Fin 64) : Fin 128 := ⟨64 * t.val + k.val, by omega⟩

/-- The reference's score of a key under one half of the lanes. -/
def refScore (q : Fin 128 → EReal) (K : Fin 2304 → Fin 128 → EReal) (t : Fin 2) (j : Fin 2304) : EReal :=
  (∑ k : Fin 64, q (lane t k) * K j (lane t k)) * scale

/-- The reference's unnormalised weight of a key. -/
def refWt (s : Fin 2304 → EReal) (j : Fin 2304) : EReal :=
  Ideal.exp (s j - max negInf (Finset.univ.fold max negInf s))

/-- The reference's softmax. -/
def refSoft (s : Fin 2304 → EReal) (j : Fin 2304) : EReal := Ideal.div (refWt s j) (∑ j : Fin 2304, refWt s j)

/-- The reference's values weighted by the difference of its two softmaxes. -/
def refDiff (lam : EReal) (q : Fin 128 → EReal) (K V : Fin 2304 → Fin 128 → EReal) (d : Fin 128) : EReal :=
  ∑ j : Fin 2304, V j d * (refSoft (refScore q K 0) j - lam * refSoft (refScore q K 1) j)

/-- One entry of the reference's row. -/
def refRow (l : Fin 4 → Fin 64 → EReal) (g q : Fin 128 → EReal) (K V : Fin 2304 → Fin 128 → EReal) (d : Fin 128) : EReal :=
  rms (refDiff (lamFull l) q K V) d * g d * gainW

theorem negInf_eq : negInf = ⊥ := by
  simp [negInf, Ideal.ofBits, Ideal.ieee]

theorem scale_eq : scale = (((1 : ℝ) / 8 : ℝ) : EReal) := by
  simp [scale, Ideal.ofBits, Ideal.ieee, -EReal.coe_mul]; norm_num

theorem scl_eq : scl = (((1 / 8) * (Real.log 2)⁻¹ : ℝ) : EReal) := rfl

theorem lamInit_real : ∃ r : ℝ, lamInit = r := by
  simp [lamInit, Ideal.ofBits, Ideal.ieee, -EReal.coe_mul]

/-- A sum of reals is a real. -/
theorem sum_coe {n : Nat} (f : Fin n → ℝ) : (∑ j : Fin n, (f j : EReal)) = ((∑ j : Fin n, f j : ℝ) : EReal) := by
  refine Finset.induction_on (motive := fun S => (∑ j ∈ S, (f j : EReal)) = ((∑ j ∈ S, f j : ℝ) : EReal)) Finset.univ ?_ ?_
  · simp
  · intro a S ha ih
    rw [Finset.sum_insert ha, Finset.sum_insert ha, ih, EReal.coe_add]

/-- The largest of finitely many reals is a real. -/
theorem fold_coe (s : Fin 2304 → ℝ) : ∃ m : ℝ, Finset.univ.fold max negInf (fun j => (s j : EReal)) = m := by
  rw [negInf_eq]
  have h : ∀ S : Finset (Fin 2304), S.fold max (⊥ : EReal) (fun j => (s j : EReal)) = ⊥ ∨
      ∃ m : ℝ, S.fold max (⊥ : EReal) (fun j => (s j : EReal)) = m := by
    intro S
    induction S using Finset.induction_on with
    | empty => left; simp
    | insert a S ha ih =>
      right
      rw [Finset.fold_insert ha]
      rcases ih with h | ⟨m, h⟩
      · exact ⟨s a, by rw [h]; simp⟩
      · exact ⟨max (s a) m, by
          rw [h]
          rcases le_total (s a) m with hm | hm
          · rw [max_eq_right hm, max_eq_right (EReal.coe_le_coe_iff.2 hm)]
          · rw [max_eq_left hm, max_eq_left (EReal.coe_le_coe_iff.2 hm)]⟩
  rcases h Finset.univ with h | h
  · exfalso
    have h0 : (0 : Fin 2304) ∈ (Finset.univ : Finset (Fin 2304)) := Finset.mem_univ _
    rw [← Finset.insert_erase h0, Finset.fold_insert (Finset.notMem_erase _ _)] at h
    have := le_max_left ((s 0 : ℝ) : EReal) ((Finset.univ.erase 0).fold max ⊥ fun j => (s j : EReal))
    rw [h] at this
    exact absurd (le_bot_iff.1 this) (EReal.coe_ne_bot _)
  · exact h

/-- A quotient of reals whose divisor is not zero. -/
theorem div_real (x y : ℝ) (h : y ≠ 0) : Ideal.div (x : EReal) (y : EReal) = ((x / y : ℝ) : EReal) := by
  rw [Ideal.div_coe h, ← EReal.coe_mul, mul_one_div]

/-- A sum of exponentials is positive. -/
theorem sum_exp_pos (x : Fin 2304 → ℝ) : 0 < ∑ j : Fin 2304, Real.exp (x j) :=
  Finset.sum_pos (fun _ _ => Real.exp_pos _) ⟨0, Finset.mem_univ _⟩

/-- The kernel's weighted values, as a quotient of two sums over exponentials: the shift by the largest score cancels. -/
theorem avg_eq (x : Fin 2304 → ℝ) (V : Fin 2304 → Fin 128 → ℝ) (d : Fin 128) :
    avg (fun j => ((x j * (Real.log 2)⁻¹ : ℝ) : EReal)) (fun j d => (V j d : EReal)) d
      = (((∑ j : Fin 2304, Real.exp (x j) * V j d) / ∑ j : Fin 2304, Real.exp (x j) : ℝ) : EReal) := by
  obtain ⟨m, hm⟩ := fold_coe fun j => x j * (Real.log 2)⁻¹
  have hl : Real.log 2 ≠ 0 := Real.log_ne_zero_of_pos_of_ne_one (by norm_num) (by norm_num)
  have hw : ∀ j, wt (fun j => ((x j * (Real.log 2)⁻¹ : ℝ) : EReal)) j
      = ((Real.exp (x j) * Real.exp (-(m * Real.log 2)) : ℝ) : EReal) := fun j => by
    show Ideal.exp2 (_ - _) = _
    rw [hm, ← EReal.coe_sub, Ideal.exp2_coe, ← Real.exp_add]
    refine congrArg (fun r : ℝ => (r : EReal)) ?_
    show (2 : ℝ) ^ (_ : ℝ) = _
    rw [Real.rpow_def_of_pos (by norm_num)]
    refine congrArg Real.exp ?_
    field_simp
    ring
  have hS := sum_exp_pos x
  have hE : Real.exp (-(m * Real.log 2)) ≠ 0 := Real.exp_ne_zero _
  unfold avg
  simp only [hw, ← EReal.coe_mul, sum_coe]
  rw [← EReal.coe_one, ← Finset.sum_mul, div_real _ _ (mul_ne_zero hS.ne' hE), ← EReal.coe_mul]
  refine congrArg (fun r : ℝ => (r : EReal)) ?_
  have : ∑ j : Fin 2304, Real.exp (x j) * Real.exp (-(m * Real.log 2)) * V j d
      = (∑ j : Fin 2304, Real.exp (x j) * V j d) * Real.exp (-(m * Real.log 2)) := by
    rw [Finset.sum_mul]
    exact Finset.sum_congr rfl fun j _ => by ring
  rw [this]
  field_simp

/-- The reference's softmax of real scores. -/
theorem refSoft_eq (x : Fin 2304 → ℝ) (j : Fin 2304) :
    refSoft (fun j => (x j : EReal)) j = ((Real.exp (x j) / ∑ j : Fin 2304, Real.exp (x j) : ℝ) : EReal) := by
  obtain ⟨m, hm⟩ := fold_coe x
  have hw : ∀ j, refWt (fun j => (x j : EReal)) j = ((Real.exp (x j) * Real.exp (-m) : ℝ) : EReal) := fun j => by
    show Ideal.exp (_ - max _ _) = _
    rw [hm, negInf_eq, max_eq_right bot_le, ← EReal.coe_sub, Ideal.exp_coe, ← Real.exp_add, sub_eq_add_neg]
  have hS := sum_exp_pos x
  have hE : Real.exp (-m) ≠ 0 := Real.exp_ne_zero _
  unfold refSoft
  simp only [hw, sum_coe]
  rw [← Finset.sum_mul, div_real _ _ (mul_ne_zero hS.ne' hE), mul_div_mul_right _ _ hE]

/-- A sum over 128 lanes, split into its two halves. -/
theorem sum_lanes (f : Fin 128 → ℝ) : ∑ k : Fin 128, f k = (∑ k : Fin 64, f (lane 0 k)) + ∑ k : Fin 64, f (lane 1 k) := by
  have h := Fin.sum_univ_add (a := 64) (b := 64) f
  refine h.trans ?_
  refine congrArg₂ (· + ·) ?_ ?_ <;> exact Finset.sum_congr rfl fun k _ => congrArg f (Fin.ext (by simp [lane, Nat.add_comm]))

/-- The kernel's two scores on reals: the reference's, over the logarithm of two. -/
theorem score_low (q : Fin 128 → ℝ) (K : Fin 2304 → Fin 128 → ℝ) (j : Fin 2304) :
    score (low fun k => (q k : EReal) * scl) (fun j k => (K j k : EReal)) j
      = ((((∑ k : Fin 64, q (lane 0 k) * K j (lane 0 k)) * (1 / 8)) * (Real.log 2)⁻¹ : ℝ) : EReal) := by
  have h : ∀ k : Fin 128, low (fun k => (q k : EReal) * scl) k * (K j k : EReal)
      = (((if k.val < 64 then q k * (1 / 8 * (Real.log 2)⁻¹) else 0) * K j k : ℝ) : EReal) := fun k => by
    unfold low
    rw [scl_eq]
    split <;> simp only [← EReal.coe_mul, ← EReal.coe_zero]
  unfold score
  simp only [h, sum_coe]
  refine congrArg (fun r : ℝ => (r : EReal)) ?_
  rw [sum_lanes]
  have h0 : ∀ k : Fin 64, (lane 0 k).val < 64 := fun k => by show 64 * 0 + k.val < 64; omega
  have h1 : ∀ k : Fin 64, ¬ (lane 1 k).val < 64 := fun k => by show ¬ 64 * 1 + k.val < 64; omega
  simp only [h0, h1, if_true, if_false, zero_mul, Finset.sum_const_zero, add_zero, Finset.sum_mul]
  exact Finset.sum_congr rfl fun k _ => by ring

theorem score_high (q : Fin 128 → ℝ) (K : Fin 2304 → Fin 128 → ℝ) (j : Fin 2304) :
    score (high fun k => (q k : EReal) * scl) (fun j k => (K j k : EReal)) j
      = ((((∑ k : Fin 64, q (lane 1 k) * K j (lane 1 k)) * (1 / 8)) * (Real.log 2)⁻¹ : ℝ) : EReal) := by
  have h : ∀ k : Fin 128, high (fun k => (q k : EReal) * scl) k * (K j k : EReal)
      = (((if 64 ≤ k.val then q k * (1 / 8 * (Real.log 2)⁻¹) else 0) * K j k : ℝ) : EReal) := fun k => by
    unfold high
    rw [scl_eq]
    split <;> simp only [← EReal.coe_mul, ← EReal.coe_zero]
  unfold score
  simp only [h, sum_coe]
  refine congrArg (fun r : ℝ => (r : EReal)) ?_
  rw [sum_lanes]
  have h0 : ∀ k : Fin 64, ¬ 64 ≤ (lane 0 k).val := fun k => by show ¬ 64 ≤ 64 * 0 + k.val; omega
  have h1 : ∀ k : Fin 64, 64 ≤ (lane 1 k).val := fun k => by show 64 ≤ 64 * 1 + k.val; omega
  simp only [h0, h1, if_true, if_false, zero_mul, Finset.sum_const_zero, zero_add, Finset.sum_mul]
  exact Finset.sum_congr rfl fun k _ => by ring

/-- The reference's score on reals. -/
theorem refScore_eq (q : Fin 128 → ℝ) (K : Fin 2304 → Fin 128 → ℝ) (t : Fin 2) (j : Fin 2304) :
    refScore (fun k => (q k : EReal)) (fun j k => (K j k : EReal)) t j
      = (((∑ k : Fin 64, q (lane t k) * K j (lane t k)) * (1 / 8) : ℝ) : EReal) := by
  unfold refScore
  simp only [scale_eq, ← EReal.coe_mul, sum_coe]

/-- `lam`'s weight is a real number when its entries are. -/
theorem lamFull_real (l : Fin 4 → Fin 64 → ℝ) : ∃ r : ℝ, lamFull (fun a k => (l a k : EReal)) = r := by
  obtain ⟨c, hc⟩ := lamInit_real
  refine ⟨Real.exp (∑ k : Fin 64, l 0 k * l 1 k) - Real.exp (∑ k : Fin 64, l 2 k * l 3 k) + c, ?_⟩
  unfold lamFull
  simp only [hc, ← EReal.coe_mul, sum_coe, Ideal.exp_coe, ← EReal.coe_sub, ← EReal.coe_add]

/-- The two differences agree on reals. -/
theorem diff_eq (lam : ℝ) (q : Fin 128 → ℝ) (K V : Fin 2304 → Fin 128 → ℝ) (d : Fin 128) :
    diff (lam : EReal) (fun k => (q k : EReal) * scl) (fun j k => (K j k : EReal)) (fun j k => (V j k : EReal)) d
      = refDiff (lam : EReal) (fun k => (q k : EReal)) (fun j k => (K j k : EReal)) (fun j k => (V j k : EReal)) d := by
  have hs : ∀ t, refScore (fun k => (q k : EReal)) (fun j k => (K j k : EReal)) t
      = fun j => (((∑ k : Fin 64, q (lane t k) * K j (lane t k)) * (1 / 8) : ℝ) : EReal) := fun t => funext fun j => refScore_eq q K t j
  unfold diff refDiff
  rw [funext (score_low q K), funext (score_high q K), avg_eq, avg_eq]
  simp only [hs, refSoft_eq, ← EReal.coe_mul, ← EReal.coe_sub, sum_coe]
  refine congrArg (fun r : ℝ => (r : EReal)) ?_
  generalize (fun j => (∑ k : Fin 64, q (lane 0 k) * K j (lane 0 k)) * (1 / 8)) = x
  generalize (fun j => (∑ k : Fin 64, q (lane 1 k) * K j (lane 1 k)) * (1 / 8)) = y
  simp only [Finset.sum_div, Finset.mul_sum, ← Finset.sum_sub_distrib]
  exact Finset.sum_congr rfl fun j _ => by ring

/-- The kernel's row is the reference's when `lam`, the queries, the keys and the values are real numbers. -/
theorem row_eq (l : Fin 4 → Fin 64 → EReal) (g q : Fin 128 → EReal) (K V : Fin 2304 → Fin 128 → EReal)
    (hl : ∀ a k, ∃ r : ℝ, l a k = r) (hq : ∀ k, ∃ r : ℝ, q k = r) (hK : ∀ j k, ∃ r : ℝ, K j k = r)
    (hV : ∀ j k, ∃ r : ℝ, V j k = r) (d : Fin 128) : row l g q K V d = refRow l g q K V d := by
  choose l' hl using hl
  choose q' hq using hq
  choose K' hK using hK
  choose V' hV using hV
  obtain rfl : l = fun a k => (l' a k : EReal) := funext fun a => funext fun k => hl a k
  obtain rfl : q = fun k => (q' k : EReal) := funext hq
  obtain rfl : K = fun j k => (K' j k : EReal) := funext fun a => funext fun k => hK a k
  obtain rfl : V = fun j k => (V' j k : EReal) := funext fun a => funext fun k => hV a k
  obtain ⟨c, hc⟩ := lamFull_real l'
  unfold row refRow
  rw [hc, mul_assoc, funext (diff_eq c q' K' V')]

end Cert.Attn

end
-- ==== Proof.AttnRef.lean ====
/-
  The reference of the attention core, read one row at a time: `Attn.refRow` of one query row, of the keys and values of
  its batch entry and head, of the gain and of `lam`.
-/
module

public import proofs.«01_k».proof.Proof.AttnAlgebra
public import proofs.«01_k».proof.Proof.Gen.ReferenceIdeal.Read

@[expose] public section

set_option maxRecDepth 16384

noncomputable section

namespace Cert.Attn

open Idealize.ShloMosaic Cert.ReferenceIdeal Cert.ReferenceIdeal.Gen Cert.ReferenceIdeal.Read

variable (x0 : (⟨S4x64, .f32⟩ : BufTy).Contents (Elt Ideal)) (x1 : (⟨S128, .f32⟩ : BufTy).Contents (Elt Ideal))
  (x2 : (⟨S8x2048x8x2x64, .f32⟩ : BufTy).Contents (Elt Ideal)) (x3 : (⟨S8x256x8x2x64, .f32⟩ : BufTy).Contents (Elt Ideal))
  (x4 : (⟨S8x2048x8x2x64, .f32⟩ : BufTy).Contents (Elt Ideal)) (x5 : (⟨S8x256x8x128, .f32⟩ : BufTy).Contents (Elt Ideal))
  (x6 : (⟨S8x2048x8x128, .f32⟩ : BufTy).Contents (Elt Ideal))

/-- The query row of a token and a head: lane `k` is entry `k % 64` of half `k / 64`. -/
def qRow (b : Fin 8) (t : Fin 2048) (h : Fin 8) (k : Fin 128) : EReal :=
  x2 (ix5 b t h (⟨k.val / 64, by omega⟩ : Fin 2) (⟨k.val % 64, by omega⟩ : Fin 64))

/-- The keys of a batch entry and a head: first the context's 256, then the latent stream's 2048. -/
def keys (b h : Fin 8) (j : Fin 2304) (k : Fin 128) : EReal :=
  if hj : j.val < 256 then x3 (ix5 b (⟨j.val, hj⟩ : Fin 256) h (⟨k.val / 64, by omega⟩ : Fin 2) (⟨k.val % 64, by omega⟩ : Fin 64))
  else x4 (ix5 b (⟨j.val - 256, by omega⟩ : Fin 2048) h (⟨k.val / 64, by omega⟩ : Fin 2) (⟨k.val % 64, by omega⟩ : Fin 64))

/-- The values of a batch entry and a head, in the same order. -/
def vals (b h : Fin 8) (j : Fin 2304) (d : Fin 128) : EReal :=
  if hj : j.val < 256 then x5 (ix4 b (⟨j.val, hj⟩ : Fin 256) h d) else x6 (ix4 b (⟨j.val - 256, by omega⟩ : Fin 2048) h d)

/-- Lane `k` of half `t`, taken apart again. -/
theorem lane_div (t : Fin 2) (k : Fin 64) (h : (lane t k).val / 64 < 2) : (⟨(lane t k).val / 64, h⟩ : Fin 2) = t :=
  Fin.ext (by show (64 * t.val + k.val) / 64 = t.val; omega)

theorem lane_mod (t : Fin 2) (k : Fin 64) (h : (lane t k).val % 64 < 64) : (⟨(lane t k).val % 64, h⟩ : Fin 64) = k :=
  Fin.ext (by show (64 * t.val + k.val) % 64 = k.val; omega)

/-- The weight of the second softmax. -/
theorem ref_lam (i : S_.Idx) : val_main_v15 (F := Ideal) x0 i = lamFull fun a k => x0 (ix2 a k) := by
  pointwise [val_main_v15, val_main_v14, val_main_v13, val_main_v12, val_main_v11, val_main_v10, val_main_v9, val_main_v8,
    val_main_v7, val_main_v6, val_main_v5, val_main_v4, val_main_v3, val_main_v2, val_main_v1, val_main_v0, val_main_cst,
    val_main_cst_0, val_main_cst_1, lamFull]

/-- The reference's joined keys. -/
theorem ref_keys (b h : Fin 8) (j : Fin 2304) (t : Fin 2) (k : Fin 64) :
    val_main_v16 (F := Ideal) x3 x4 (ix5 b j h t k) = keys x3 x4 b h j (lane t k) := by
  pointwise [val_main_v16]
  simp only [keys, lane_div, lane_mod]

/-- The reference's joined values. -/
theorem ref_vals (b h : Fin 8) (j : Fin 2304) (d : Fin 128) :
    val_main_v17 (F := Ideal) x5 x6 (ix4 b j h d) = vals x5 x6 b h j d := by
  pointwise [val_main_v17]
  rfl

/-- The reference's scaled scores. -/
theorem ref_score (b h : Fin 8) (s : Fin 2) (t : Fin 2048) (j : Fin 2304) :
    val_main_v20 (F := Ideal) x2 x3 x4 (ix5 b h s t j) = refScore (qRow x2 b t h) (keys x3 x4 b h) s j := by
  unfold refScore
  simp only [← ref_keys]
  unfold val_main_v20 val_main_v19 val_main_v18 val_main_cst_2
  generalize val_main_v16 (F := Ideal) x3 x4 = y
  pointwise
  simp only [qRow, lane_div, lane_mod]

/-- A maximum over the keys. -/
theorem reduce_max (y : FVec Ideal S8x8x2x2048x2304 .f32) (c : FVec Ideal S_ .f32) (b h : Fin 8) (s : Fin 2) (t : Fin 2048) :
    Host.reduce FloatOps.maximumf y c reducesTo_S8x8x2x2048x2304_S8x8x2x2048_d4 h_S_ (ix4 b h s t)
      = Finset.univ.fold max (c (Shape.Idx.first h_S_)) fun j : Fin 2304 => y (ix5 b h s t j) := by
  simp only [pointwise]

/-- The reference's largest score of a query. -/
theorem ref_max (b h : Fin 8) (s : Fin 2) (t : Fin 2048) :
    val_main_v23 (F := Ideal) x2 x3 x4 (ix4 b h s t)
      = max negInf (Finset.univ.fold max negInf fun j : Fin 2304 => val_main_v20 (F := Ideal) x2 x3 x4 (ix5 b h s t j)) := by
  rw [val_main_v23_apply, val_main_v22_apply]
  unfold val_main_v21
  generalize val_main_v20 (F := Ideal) x2 x3 x4 = y
  rw [reduce_max]
  rfl

/-- The reference's unnormalised weights. -/
theorem ref_wt (b h : Fin 8) (s : Fin 2) (t : Fin 2048) (j : Fin 2304) :
    val_main_v27 (F := Ideal) x2 x3 x4 (ix5 b h s t j)
      = refWt (fun j => val_main_v20 (F := Ideal) x2 x3 x4 (ix5 b h s t j)) j := by
  unfold refWt
  rw [← ref_max]
  unfold val_main_v27 val_main_v26 val_main_v25 val_main_v24
  generalize val_main_v23 (F := Ideal) x2 x3 x4 = z
  generalize val_main_v20 (F := Ideal) x2 x3 x4 = y
  pointwise

/-- The reference's softmax. -/
theorem ref_soft (b h : Fin 8) (s : Fin 2) (t : Fin 2048) (j : Fin 2304) :
    val_main_v31 (F := Ideal) x2 x3 x4 (ix5 b h s t j) = refSoft (refScore (qRow x2 b t h) (keys x3 x4 b h) s) j := by
  have e : refScore (qRow x2 b t h) (keys x3 x4 b h) s = fun j => val_main_v20 (F := Ideal) x2 x3 x4 (ix5 b h s t j) :=
    funext fun j => (ref_score x2 x3 x4 b h s t j).symm
  rw [e]
  unfold refSoft
  simp only [← ref_wt]
  unfold val_main_v31 val_main_v30 val_main_v29 val_main_v28 val_main_cst_5
  generalize val_main_v27 (F := Ideal) x2 x3 x4 = y
  pointwise

/-- The reference's first softmax less `lam` times its second. -/
theorem ref_weight (b h : Fin 8) (t : Fin 2048) (j : Fin 2304) :
    val_main_v38 (F := Ideal) x0 x2 x3 x4 (ix4 b h t j)
      = val_main_v31 (F := Ideal) x2 x3 x4 (ix5 b h 0 t j)
        - val_main_v15 (F := Ideal) x0 ix0 * val_main_v31 (F := Ideal) x2 x3 x4 (ix5 b h 1 t j) := by
  have e0 : idx_main_v32 (idx_main_v33 (ix4 b h t j)) = ix5 b h 0 t j := by
    funext a
    apply Fin.ext
    match a with
    | ⟨0, _⟩ => show (((b.val * 8 + h.val) * 2048 + t.val) * 2304 + j.val) / 37748736 = b.val; omega
    | ⟨1, _⟩ => show (((b.val * 8 + h.val) * 2048 + t.val) * 2304 + j.val) / 4718592 % 8 = h.val; omega
    | ⟨2, _⟩ => rfl
    | ⟨3, _⟩ => show (((b.val * 8 + h.val) * 2048 + t.val) * 2304 + j.val) / 2304 % 2048 = t.val; omega
    | ⟨4, _⟩ => show (((b.val * 8 + h.val) * 2048 + t.val) * 2304 + j.val) % 2304 = j.val; omega
  have e1 : idx_main_v34 (idx_main_v35 (ix4 b h t j)) = ix5 b h 1 t j := by
    funext a
    apply Fin.ext
    match a with
    | ⟨0, _⟩ => show (((b.val * 8 + h.val) * 2048 + t.val) * 2304 + j.val) / 37748736 = b.val; omega
    | ⟨1, _⟩ => show (((b.val * 8 + h.val) * 2048 + t.val) * 2304 + j.val) / 4718592 % 8 = h.val; omega
    | ⟨2, _⟩ => rfl
    | ⟨3, _⟩ => show (((b.val * 8 + h.val) * 2048 + t.val) * 2304 + j.val) / 2304 % 2048 = t.val; omega
    | ⟨4, _⟩ => show (((b.val * 8 + h.val) * 2048 + t.val) * 2304 + j.val) % 2304 = j.val; omega
  rw [val_main_v38_apply, val_main_v37_apply, val_main_v36_apply, val_main_v35_apply, val_main_v34_apply, val_main_v33_apply,
    val_main_v32_apply, e0, e1, show idx_main_v36 (ix4 b h t j) = ix0 from funext fun a => a.elim0]
  generalize val_main_v31 (F := Ideal) x2 x3 x4 = p
  generalize val_main_v15 (F := Ideal) x0 = l
  rfl

/-- The reference's weighted values. -/
theorem ref_diff (b h : Fin 8) (t : Fin 2048) (d : Fin 128) :
    val_main_v40 (F := Ideal) x0 x2 x3 x4 x5 x6 (ix4 b t h d)
      = refDiff (lamFull fun a k => x0 (ix2 a k)) (qRow x2 b t h) (keys x3 x4 b h) (vals x5 x6 b h) d := by
  have e : val_main_v40 (F := Ideal) x0 x2 x3 x4 x5 x6 (ix4 b t h d)
      = ∑ j : Fin 2304, val_main_v17 (F := Ideal) x5 x6 (ix4 b j h d) * val_main_v38 (F := Ideal) x0 x2 x3 x4 (ix4 b h t j) := by
    unfold val_main_v40 val_main_v39
    generalize val_main_v38 (F := Ideal) x0 x2 x3 x4 = p
    generalize val_main_v17 (F := Ideal) x5 x6 = v
    pointwise
  rw [e]
  simp only [ref_weight, ref_soft, ref_vals, ref_lam]
  rfl

/-- The reference's result at a token and a column: the row of the column's head. -/
theorem ref_apply_attn (b : Fin 8) (t : Fin 2048) (e : Fin 1024) :
    val_main_v57 (F := Ideal) x0 x1 x2 x3 x4 x5 x6 (ix3 b t e)
      = refRow (fun a k => x0 (ix2 a k)) (fun k => x1 (ix1 k)) (qRow x2 b t ⟨e.val / 128, by omega⟩)
          (keys x3 x4 b ⟨e.val / 128, by omega⟩) (vals x5 x6 b ⟨e.val / 128, by omega⟩) ⟨e.val % 128, by omega⟩ := by
  unfold refRow rms
  simp only [← ref_diff]
  unfold val_main_v57 val_main_v56 val_main_v55 val_main_v54 val_main_v53 val_main_v52 val_main_v51 val_main_v50
    val_main_v49 val_main_v48 val_main_v47 val_main_v46 val_main_v45 val_main_v44 val_main_v43 val_main_v42 val_main_v41
    val_main_cst_6 val_main_cst_7 val_main_cst_8 val_main_cst_9
  generalize val_main_v40 (F := Ideal) x0 x2 x3 x4 x5 x6 = y
  pointwise

end Cert.Attn

end
-- ==== Proof.AttnValue.lean ====
/-
  The attention kernel's result array after its run, and the claim that on finite arguments it is the reference's.
-/
module

public import proofs.«01_k».proof.Proof.AttnBlock
public import proofs.«01_k».proof.Proof.AttnRef
public import proofs.«01_k».proof.Proof.Gen.Pre_finite
public import proofs.«01_k».proof.Proof.Gen.ReferenceIdeal.Run
public import proofs.«01_k».proof.Defs

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen

/-! ## The arrays the host prepares -/

/-- Eight heads of two halves of 64 lanes laid side by side. -/
theorem join5 (x : FVec Ideal S8x2048x8x2x64 .f32) (b : Fin 8) (t : Fin 2048) (h : Fin 8) (d : Fin 128) (e : Fin 1024)
    (he : e.val = h.val * 128 + d.val) :
    shapeCast S8x2048x1024 x shapeCasts_S8x2048x8x2x64_S8x2048x1024 (ix3 b t e)
      = x (ix5 b t h (⟨d.val / 64, by omega⟩ : Fin 2) (⟨d.val % 64, by omega⟩ : Fin 64)) := by
  simp only [pointwise]
  refine congrArg x ?_
  funext a
  apply Fin.ext
  match a with
  | ⟨0, _⟩ => rfl
  | ⟨1, _⟩ => rfl
  | ⟨2, _⟩ => show e.val / 128 = h.val; omega
  | ⟨3, _⟩ => show e.val / 64 % 2 = d.val / 64; omega
  | ⟨4, _⟩ => show e.val % 64 = d.val % 64; omega

/-- The same of the context's rows, whose eight batch entries are laid one after the other. -/
theorem join5c (x : FVec Ideal S8x256x8x2x64 .f32) (b : Fin 8) (j : Fin 256) (h : Fin 8) (d : Fin 128) (t : Fin 2048)
    (e : Fin 1024) (ht : t.val = b.val * 256 + j.val) (he : e.val = h.val * 128 + d.val) :
    shapeCast S1x2048x1024 x shapeCasts_S8x256x8x2x64_S1x2048x1024 (ix3 0 t e)
      = x (ix5 b j h (⟨d.val / 64, by omega⟩ : Fin 2) (⟨d.val % 64, by omega⟩ : Fin 64)) := by
  simp only [pointwise]
  refine congrArg x ?_
  funext a
  apply Fin.ext
  match a with
  | ⟨0, _⟩ => show t.val / 256 = b.val; omega
  | ⟨1, _⟩ => show t.val % 256 = j.val; omega
  | ⟨2, _⟩ => show e.val / 128 = h.val; omega
  | ⟨3, _⟩ => show e.val / 64 % 2 = d.val / 64; omega
  | ⟨4, _⟩ => show e.val % 64 = d.val % 64; omega

/-- Eight heads of 128 lanes laid side by side. -/
theorem join4 (x : FVec Ideal S8x2048x8x128 .f32) (b : Fin 8) (t : Fin 2048) (h : Fin 8) (d : Fin 128) (e : Fin 1024)
    (he : e.val = h.val * 128 + d.val) :
    shapeCast S8x2048x1024 x shapeCasts_S8x2048x8x128_S8x2048x1024 (ix3 b t e) = x (ix4 b t h d) := by
  simp only [pointwise]
  refine congrArg x ?_
  funext a
  apply Fin.ext
  match a with
  | ⟨0, _⟩ => rfl
  | ⟨1, _⟩ => rfl
  | ⟨2, _⟩ => show e.val / 128 = h.val; omega
  | ⟨3, _⟩ => show e.val % 128 = d.val; omega

/-- The same of the context's rows. -/
theorem join4c (x : FVec Ideal S8x256x8x128 .f32) (b : Fin 8) (j : Fin 256) (h : Fin 8) (d : Fin 128) (t : Fin 2048)
    (e : Fin 1024) (ht : t.val = b.val * 256 + j.val) (he : e.val = h.val * 128 + d.val) :
    shapeCast S1x2048x1024 x shapeCasts_S8x256x8x128_S1x2048x1024 (ix3 0 t e) = x (ix4 b j h d) := by
  simp only [pointwise]
  refine congrArg x ?_
  funext a
  apply Fin.ext
  match a with
  | ⟨0, _⟩ => show t.val / 256 = b.val; omega
  | ⟨1, _⟩ => show t.val % 256 = j.val; omega
  | ⟨2, _⟩ => show e.val / 128 = h.val; omega
  | ⟨3, _⟩ => show e.val % 128 = d.val; omega

/-- The first eight planes of the joined array are the latent stream's. -/
theorem concat_lat (x : FVec Ideal S8x2048x1024 .f32) (y : FVec Ideal S1x2048x1024 .f32) (b : Fin 8) (n : Fin 9)
    (t : Fin 2048) (e : Fin 1024) (hn : n.val = b.val) :
    concatenate S9x2048x1024 0 [⟨S8x2048x1024, x⟩, ⟨S1x2048x1024, y⟩] concatenates_S8x2048x1024_S1x2048x1024_S9x2048x1024_d0
      (ix3 n t e) = x (ix3 b t e) :=
  concatenate_pair_apply_left (t := S9x2048x1024) (0 : Fin 3) x y
    concatenates_S8x2048x1024_S1x2048x1024_S9x2048x1024_d0 (ix3 n t e) rfl (ix3 b t e) fun a => by
    match a with
    | ⟨0, _⟩ => exact hn.symm
    | ⟨1, _⟩ => rfl
    | ⟨2, _⟩ => rfl

/-- Its ninth plane is the context's. -/
theorem concat_ctx (x : FVec Ideal S8x2048x1024 .f32) (y : FVec Ideal S1x2048x1024 .f32) (n : Fin 9)
    (t : Fin 2048) (e : Fin 1024) (hn : n.val = 8) :
    concatenate S9x2048x1024 0 [⟨S8x2048x1024, x⟩, ⟨S1x2048x1024, y⟩] concatenates_S8x2048x1024_S1x2048x1024_S9x2048x1024_d0
      (ix3 n t e) = y (ix3 0 t e) :=
  concatenate_pair_apply_right (t := S9x2048x1024) (0 : Fin 3) x y
    concatenates_S8x2048x1024_S1x2048x1024_S9x2048x1024_d0 (ix3 n t e) rfl rfl (ix3 0 t e) (fun a ha => by
    match a with
    | ⟨0, _⟩ => exact absurd rfl ha
    | ⟨1, _⟩ => rfl
    | ⟨2, _⟩ => rfl) (by show 0 + 8 = n.val; omega)

variable (m : (ℓ : Loc nD τ sig) → Buf (Elt Ideal) ℓ) (c : Dev nD)

/-- The argument arrays. -/
abbrev lamA : FVec Ideal S4x64 .f32 := m ((c : Thread nD τ).loc main_arg0)
abbrev gainA : FVec Ideal S128 .f32 := m ((c : Thread nD τ).loc main_arg1)
abbrev queryA : FVec Ideal S8x2048x8x2x64 .f32 := m ((c : Thread nD τ).loc main_arg2)
abbrev keyC : FVec Ideal S8x256x8x2x64 .f32 := m ((c : Thread nD τ).loc main_arg3)
abbrev keyL : FVec Ideal S8x2048x8x2x64 .f32 := m ((c : Thread nD τ).loc main_arg4)
abbrev valC : FVec Ideal S8x256x8x128 .f32 := m ((c : Thread nD τ).loc main_arg5)
abbrev valL : FVec Ideal S8x2048x8x128 .f32 := m ((c : Thread nD τ).loc main_arg6)

/-- The result array: at each index the attention row of its batch entry, token and head. -/
def arr : Buf (Elt Ideal) ((c : Thread nD τ).loc main_v10) := fun (i : S8x2048x1024.Idx) =>
  row (fun a k => lamA m c (ix2 a k)) (fun k => gainA m c (ix1 k))
    (qRow (queryA m c) (i 0) (i 1) ⟨(i 2).val / 128, by have h : (i 2).val < 1024 := (i 2).isLt; omega⟩)
    (keys (keyC m c) (keyL m c) (i 0) ⟨(i 2).val / 128, by have h : (i 2).val < 1024 := (i 2).isLt; omega⟩)
    (vals (valC m c) (valL m c) (i 0) ⟨(i 2).val / 128, by have h : (i 2).val < 1024 := (i 2).isLt; omega⟩)
    ⟨(i 2).val % 128, by omega⟩

/-- The arrays the launch finds: the queries, the joined keys, the joined values and the gain. -/
theorem found_q : V m c main_v0 = shapeCast S8x2048x1024 (queryA m c) shapeCasts_S8x2048x8x2x64_S8x2048x1024 := rfl

theorem found_k : V m c main_v4 = (concatenate S9x2048x1024 0
    [⟨S8x2048x1024, shapeCast S8x2048x1024 (keyL m c) shapeCasts_S8x2048x8x2x64_S8x2048x1024⟩,
      ⟨S1x2048x1024, shapeCast S1x2048x1024 (keyC m c) shapeCasts_S8x256x8x2x64_S1x2048x1024⟩]
    concatenates_S8x2048x1024_S1x2048x1024_S9x2048x1024_d0 : FVec Ideal S9x2048x1024 .f32) := rfl

theorem found_v : V m c main_v8 = (concatenate S9x2048x1024 0
    [⟨S8x2048x1024, shapeCast S8x2048x1024 (valL m c) shapeCasts_S8x2048x8x128_S8x2048x1024⟩,
      ⟨S1x2048x1024, shapeCast S1x2048x1024 (valC m c) shapeCasts_S8x256x8x128_S1x2048x1024⟩]
    concatenates_S8x2048x1024_S1x2048x1024_S9x2048x1024_d0 : FVec Ideal S9x2048x1024 .f32) := rfl

theorem found_g (k : Fin 128) : V m c main_v9 (ix2 0 k) = gainA m c (ix1 k) := by
  show shapeCast _ _ _ _ = _
  pointwise

/-! ## The blocks of a grid point -/

/-- Where each window's block lies at grid point `t`. -/
theorem index2 : ∀ t : Fin grid0.N,
    win0_2.index t 0 = t.val / 16 ∧ win0_2.index t 1 = t.val % 2 ∧ win0_2.index t 2 = t.val / 2 % 8 := by
  decide +kernel

theorem index3 : ∀ t : Fin grid0.N,
    win0_3.index t 0 = 8 ∧ win0_3.index t 1 = t.val / 16 ∧ win0_3.index t 2 = t.val / 2 % 8 := by
  decide +kernel

theorem index4 : ∀ t : Fin grid0.N,
    win0_4.index t 0 = t.val / 16 ∧ win0_4.index t 1 = 0 ∧ win0_4.index t 2 = t.val / 2 % 8 := by
  decide +kernel

theorem index5 : ∀ t : Fin grid0.N,
    win0_5.index t 0 = 8 ∧ win0_5.index t 1 = t.val / 16 ∧ win0_5.index t 2 = t.val / 2 % 8 := by
  decide +kernel

theorem index6 : ∀ t : Fin grid0.N,
    win0_6.index t 0 = t.val / 16 ∧ win0_6.index t 1 = 0 ∧ win0_6.index t 2 = t.val / 2 % 8 := by
  decide +kernel

theorem index7 : ∀ t : Fin grid0.N,
    win0_7.index t 0 = t.val / 16 ∧ win0_7.index t 1 = t.val % 2 ∧ win0_7.index t 2 = t.val / 2 % 8 := by
  decide +kernel

/-- The batch entry, the head and, of row `r`, the token of grid point `t`. -/
abbrev bat (t : Fin cfg0.N) : Fin 8 := ⟨t.val / 16, by have h : t.val < 128 := lt_of_lt_of_eq t.isLt N_0; omega⟩
abbrev head (t : Fin cfg0.N) : Fin 8 := ⟨t.val / 2 % 8, by omega⟩
abbrev tok (t : Fin cfg0.N) (r : Fin 1024) : Fin 2048 := ⟨t.val % 2 * 1024 + r.val, by omega⟩

/-- The column of lane `d` of grid point `t`'s head. -/
abbrev col (t : Fin cfg0.N) (d : Fin 128) : Fin 1024 := ⟨(head t).val * 128 + d.val, by have h := (head t).isLt; omega⟩

theorem blk_l (t : Fin cfg0.N) (a : Fin 4) (k : Fin 64) : iblk m c 0 t (ix2 a k) = lamA m c (ix2 a k) := by
  unfold iblk
  rw [View.read_apply]
  show V m c main_arg0 _ = _
  rw [V_main_arg0]
  congr 1
  funext a
  apply Fin.ext
  match a with
  | ⟨0, _⟩ => show 0 * 4 + 1 * _ = _; omega
  | ⟨1, _⟩ => show 0 * 64 + 1 * k.val = k.val; omega

theorem blk_g (t : Fin cfg0.N) (k : Fin 128) : iblk m c 1 t (ix2 0 k) = gainA m c (ix1 k) := by
  refine Eq.trans ?_ (found_g m c k)
  unfold iblk
  rw [View.read_apply]
  show V m c main_v9 _ = _
  congr 1
  funext a
  apply Fin.ext
  match a with
  | ⟨0, _⟩ => rfl
  | ⟨1, _⟩ => show 0 * 128 + 1 * k.val = k.val; omega

theorem blk_q (t : Fin cfg0.N) (r : Fin 1024) (k : Fin 128) :
    iblk m c 2 t (ix3 0 r k) = qRow (queryA m c) (bat t) (tok t r) (head t) k := by
  obtain ⟨h0, h1, h2⟩ := index2 t
  refine Eq.trans ?_ (join5 (queryA m c) (bat t) (tok t r) (head t) k (col t k) rfl)
  rw [← found_q]
  unfold iblk
  rw [View.read_apply]
  show V m c main_v0 _ = _
  congr 1
  funext a
  apply Fin.ext
  match a with
  | ⟨0, _⟩ => show win0_2.index t 0 * 1 + 1 * 0 = t.val / 16; omega
  | ⟨1, _⟩ => show win0_2.index t 1 * 1024 + 1 * r.val = t.val % 2 * 1024 + r.val; omega
  | ⟨2, _⟩ => show win0_2.index t 2 * 128 + 1 * k.val = t.val / 2 % 8 * 128 + k.val; omega

theorem blk_kc (t : Fin cfg0.N) (j : Fin 256) (k : Fin 128) :
    iblk m c 3 t (ix3 0 j k) = keyC m c (ix5 (bat t) j (head t) (⟨k.val / 64, by omega⟩ : Fin 2) (⟨k.val % 64, by omega⟩ : Fin 64)) := by
  obtain ⟨h0, h1, h2⟩ := index3 t
  have hb := (bat t).isLt
  refine Eq.trans ?_ (join5c (keyC m c) (bat t) j (head t) k ⟨(bat t).val * 256 + j.val, by omega⟩ (col t k) rfl rfl)
  refine Eq.trans ?_ (concat_ctx (shapeCast S8x2048x1024 (keyL m c) shapeCasts_S8x2048x8x2x64_S8x2048x1024) _ 8 _ _ rfl)
  rw [← found_k]
  unfold iblk
  rw [View.read_apply]
  show V m c main_v4 _ = _
  congr 1
  funext a
  apply Fin.ext
  match a with
  | ⟨0, _⟩ => show win0_3.index t 0 * 1 + 1 * 0 = 8; omega
  | ⟨1, _⟩ => show win0_3.index t 1 * 256 + 1 * j.val = t.val / 16 * 256 + j.val; omega
  | ⟨2, _⟩ => show win0_3.index t 2 * 128 + 1 * k.val = t.val / 2 % 8 * 128 + k.val; omega

theorem blk_kl (t : Fin cfg0.N) (j : Fin 2048) (k : Fin 128) :
    iblk m c 4 t (ix3 0 j k) = keyL m c (ix5 (bat t) j (head t) (⟨k.val / 64, by omega⟩ : Fin 2) (⟨k.val % 64, by omega⟩ : Fin 64)) := by
  obtain ⟨h0, h1, h2⟩ := index4 t
  have hb := (bat t).isLt
  refine Eq.trans ?_ (join5 (keyL m c) (bat t) j (head t) k (col t k) rfl)
  refine Eq.trans ?_ (concat_lat _ (shapeCast S1x2048x1024 (keyC m c) shapeCasts_S8x256x8x2x64_S1x2048x1024) (bat t)
    ⟨(bat t).val, by omega⟩ _ _ rfl)
  rw [← found_k]
  unfold iblk
  rw [View.read_apply]
  show V m c main_v4 _ = _
  congr 1
  funext a
  apply Fin.ext
  match a with
  | ⟨0, _⟩ => show win0_4.index t 0 * 1 + 1 * 0 = t.val / 16; omega
  | ⟨1, _⟩ => show win0_4.index t 1 * 2048 + 1 * j.val = j.val; omega
  | ⟨2, _⟩ => show win0_4.index t 2 * 128 + 1 * k.val = t.val / 2 % 8 * 128 + k.val; omega

theorem blk_vc (t : Fin cfg0.N) (j : Fin 256) (k : Fin 128) :
    iblk m c 5 t (ix3 0 j k) = valC m c (ix4 (bat t) j (head t) k) := by
  obtain ⟨h0, h1, h2⟩ := index5 t
  have hb := (bat t).isLt
  refine Eq.trans ?_ (join4c (valC m c) (bat t) j (head t) k ⟨(bat t).val * 256 + j.val, by omega⟩ (col t k) rfl rfl)
  refine Eq.trans ?_ (concat_ctx (shapeCast S8x2048x1024 (valL m c) shapeCasts_S8x2048x8x128_S8x2048x1024) _ 8 _ _ rfl)
  rw [← found_v]
  unfold iblk
  rw [View.read_apply]
  show V m c main_v8 _ = _
  congr 1
  funext a
  apply Fin.ext
  match a with
  | ⟨0, _⟩ => show win0_5.index t 0 * 1 + 1 * 0 = 8; omega
  | ⟨1, _⟩ => show win0_5.index t 1 * 256 + 1 * j.val = t.val / 16 * 256 + j.val; omega
  | ⟨2, _⟩ => show win0_5.index t 2 * 128 + 1 * k.val = t.val / 2 % 8 * 128 + k.val; omega

theorem blk_vl (t : Fin cfg0.N) (j : Fin 2048) (k : Fin 128) :
    iblk m c 6 t (ix3 0 j k) = valL m c (ix4 (bat t) j (head t) k) := by
  obtain ⟨h0, h1, h2⟩ := index6 t
  have hb := (bat t).isLt
  refine Eq.trans ?_ (join4 (valL m c) (bat t) j (head t) k (col t k) rfl)
  refine Eq.trans ?_ (concat_lat _ (shapeCast S1x2048x1024 (valC m c) shapeCasts_S8x256x8x128_S1x2048x1024) (bat t)
    ⟨(bat t).val, by omega⟩ _ _ rfl)
  rw [← found_v]
  unfold iblk
  rw [View.read_apply]
  show V m c main_v8 _ = _
  congr 1
  funext a
  apply Fin.ext
  match a with
  | ⟨0, _⟩ => show win0_6.index t 0 * 1 + 1 * 0 = t.val / 16; omega
  | ⟨1, _⟩ => show win0_6.index t 1 * 2048 + 1 * j.val = j.val; omega
  | ⟨2, _⟩ => show win0_6.index t 2 * 128 + 1 * k.val = t.val / 2 % 8 * 128 + k.val; omega

/-- The keys gathered at grid point `t` are those of its batch entry and head. -/
theorem kv_keys (t : Fin cfg0.N) (j : Fin 2304) (k : Fin 128) :
    kvBlk (iblk m c 3 t) (iblk m c 4 t) (ix2 j k) = keys (keyC m c) (keyL m c) (bat t) (head t) j k := by
  unfold kvBlk keys
  by_cases h : j.val < 256
  · refine (dif_pos h).trans (Eq.trans ?_ (dif_pos h).symm)
    exact blk_kc m c t ⟨j.val, h⟩ k
  · refine (dif_neg h).trans (Eq.trans ?_ (dif_neg h).symm)
    exact blk_kl m c t ⟨j.val - 256, by omega⟩ k

/-- So are the values. -/
theorem kv_vals (t : Fin cfg0.N) (j : Fin 2304) (k : Fin 128) :
    kvBlk (iblk m c 5 t) (iblk m c 6 t) (ix2 j k) = vals (valC m c) (valL m c) (bat t) (head t) j k := by
  unfold kvBlk vals
  by_cases h : j.val < 256
  · refine (dif_pos h).trans (Eq.trans ?_ (dif_pos h).symm)
    exact blk_vc m c t ⟨j.val, h⟩ k
  · refine (dif_neg h).trans (Eq.trans ?_ (dif_neg h).symm)
    exact blk_vl m c t ⟨j.val - 256, by omega⟩ k

/-! ## The result array -/

/-- Over the keys and values of its batch entry and head, a grid point's block is its block of the result array. -/
theorem blk_out (t : Fin cfg0.N) (K W : Vec Ideal S2304x128 .bf16)
    (hK : ∀ j k, K (ix2 j k) = keys (keyC m c) (keyL m c) (bat t) (head t) j k)
    (hW : ∀ j k, W (ix2 j k) = vals (valC m c) (valL m c) (bat t) (head t) j k) (r : Fin 1024) (d : Fin 128) :
    outBlk (iblk m c 0 t) (iblk m c 1 t) (iblk m c 2 t) K W (ix3 0 r d) = arr m c (ix3 (bat t) (tok t r) (col t d)) := by
  have hh := (head t).isLt
  have p1 : (col t d).val / 128 < 8 := by omega
  have p2 : (col t d).val % 128 < 128 := by omega
  have e1 : (⟨(col t d).val / 128, p1⟩ : Fin 8) = head t :=
    Fin.ext (by show (t.val / 2 % 8 * 128 + d.val) / 128 = t.val / 2 % 8; omega)
  have e2 : (⟨(col t d).val % 128, p2⟩ : Fin 128) = d :=
    Fin.ext (by show (t.val / 2 % 8 * 128 + d.val) % 128 = d.val; omega)
  show row (fun a k => iblk m c 0 t (ix2 a k)) (fun k => iblk m c 1 t (ix2 0 k)) (fun k => iblk m c 2 t (ix3 0 r k))
      (fun j k => K (ix2 j k)) (fun j k => W (ix2 j k)) d
    = row (fun a k => lamA m c (ix2 a k)) (fun k => gainA m c (ix1 k))
      (qRow (queryA m c) (bat t) (tok t r) ⟨(col t d).val / 128, p1⟩)
      (keys (keyC m c) (keyL m c) (bat t) ⟨(col t d).val / 128, p1⟩)
      (vals (valC m c) (valL m c) (bat t) ⟨(col t d).val / 128, p1⟩) ⟨(col t d).val % 128, p2⟩
  rw [e1, e2]
  simp only [blk_l, blk_g, blk_q, hK, hW]

/-- What grid point `t` leaves in its block of the result is the attention rows over the keys and values of its batch
    entry and head: at a head's first point those it gathers, at its second those the point before left. -/
theorem left (t : Fin cfg0.N) (r : Fin 1024) (d : Fin 128) :
    (outsAt0 m c t.val t.isLt).1 (ix3 0 r d) = arr m c (ix3 (bat t) (tok t r) (col t d)) := by
  by_cases h0 : t.val % 2 = 0
  · rw [outsAt0_A m c t h0]
    dsimp only
    rw [out_A]
    exact blk_out m c t _ _ (kv_keys m c t) (kv_vals m c t) r d
  · have hlt : t.val - 1 < cfg0.N := Nat.lt_of_le_of_lt (Nat.sub_le _ _) t.isLt
    have hb : bat ⟨t.val - 1, hlt⟩ = bat t := Fin.ext (by show (t.val - 1) / 16 = t.val / 16; omega)
    have hh : head ⟨t.val - 1, hlt⟩ = head t := Fin.ext (by show (t.val - 1) / 2 % 8 = t.val / 2 % 8; omega)
    have hp := outsAt0_A m c ⟨t.val - 1, hlt⟩ (by show (t.val - 1) % 2 = 0; omega)
    dsimp only at hp
    rw [outsAt0_B m c t h0]
    dsimp only
    rw [out_B]
    refine blk_out m c t _ _ (fun j k => ?_) (fun j k => ?_) r d
    · rw [hp]
      dsimp only
      rw [keys_A, kv_keys, hb, hh]
    · rw [hp]
      dsimp only
      rw [vals_A, kv_vals, hb, hh]

/-- What grid point `t` writes back is its block of the result array. -/
theorem flushed (t : Fin cfg0.N) : (dats m 0 c).flushed 7 t = ((cfg0.win 7).blk t).view.read (Elt Ideal) (arr m c) := by
  obtain ⟨h0, h1, h2⟩ := index7 t
  rw [Value.flushed7 m c t]
  funext j
  obtain ⟨j0, r, d, rfl⟩ : ∃ (a : Fin 1) (r : Fin 1024) (d : Fin 128), j = ix3 a r d :=
    ⟨j 0, j 1, j 2, by funext a; fin_cases a <;> rfl⟩
  obtain rfl : j0 = 0 := Subsingleton.elim _ _
  rw [View.read_apply]
  refine (left m c t r d).trans ?_
  rw [show ((cfg0.win 7).blk t).view.emb (ix3 0 r d) = (ix3 (bat t) (tok t r) (col t d) : S8x2048x1024.Idx) from by
    funext a
    apply Fin.ext
    match a with
    | ⟨0, _⟩ => show win0_7.index t 0 * 1 + 1 * 0 = t.val / 16; omega
    | ⟨1, _⟩ => show win0_7.index t 1 * 1024 + 1 * r.val = t.val % 2 * 1024 + r.val; omega
    | ⟨2, _⟩ => show win0_7.index t 2 * 128 + 1 * d.val = t.val / 2 % 8 * 128 + d.val; omega]
  rfl

/-- The blocks fill the result array. -/
theorem cover (i : S8x2048x1024.Idx) : ∃ t : Fin cfg0.N, (cfg0.win 7).flush t = true ∧ i ∈ ((cfg0.win 7).blk t).view.set := by
  have i0 : (i 0 : Nat) < 8 := (i 0).isLt
  have i1 : (i 1 : Nat) < 2048 := (i 1).isLt
  have i2 : (i 2 : Nat) < 1024 := (i 2).isLt
  have hN : grid0.N = 128 := N_0
  let t : Fin grid0.N := ⟨(i 0 : Nat) * 16 + (i 2 : Nat) / 128 * 2 + (i 1 : Nat) / 1024, by omega⟩
  have ht : t.val = (i 0 : Nat) * 16 + (i 2 : Nat) / 128 * 2 + (i 1 : Nat) / 1024 := rfl
  obtain ⟨h0, h1, h2⟩ := index7 t
  refine ⟨t, flush0_7 t, ?_⟩
  show i ∈ ((View.whole main_v10).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; omega
  | ⟨1, _⟩ => show win0_7.index t 1 * 1024 ≤ (i 1 : Nat) ∧ (i 1 : Nat) < win0_7.index t 1 * 1024 + 1024; omega
  | ⟨2, _⟩ => show win0_7.index t 2 * 128 ≤ (i 2 : Nat) ∧ (i 2 : Nat) < win0_7.index t 2 * 128 + 128; omega

/-- So the result array ends holding the attention rows. -/
theorem final : (dats m 0 c).arrAt 7 cfg0.N = arr m c :=
  (dats m 0 c).arrAt_eq_of_cover 7 (arr m c) (fun t _ => flushed m c t) cover

end Cert.Attn

namespace Cert.Attn

open Idealize.ShloMosaic Idealize.ShloMosaic.TcCoe Idealize.SL.Sem

/-- An extended real whose absolute value is below infinity is a real. -/
theorem real_of_abs (x : EReal) (h : max x (-x) < ⊤) : ∃ r : ℝ, x = (r : EReal) := by
  induction x using EReal.rec with
  | bot => simp at h
  | top => simp at h
  | coe r => exact ⟨r, rfl⟩

/-- An array every entry of which passes the finiteness test has real entries. -/
theorem real_of_test {s : Shape} (x bnd : FVec Ideal s .f32) (hb : ∀ i, bnd i = (⊤ : EReal))
    (h : cmpf .olt (Host.absf x) bnd = fun _ => 1#1) (i : s.Idx) : ∃ r : ℝ, x i = (r : EReal) := by
  have hi := congrFun h i
  refine real_of_abs (x i) ?_
  by_contra hn
  have e : cmpf .olt (Host.absf x) bnd i = BitVec.ofBool (decide (max (x i) (-(x i)) < bnd i)) := rfl
  rw [e, hb, decide_eq_false hn] at hi
  exact absurd hi (by decide)

/-- The bound of the finiteness test is infinity. -/
theorem bound_top : Ideal.ofBits .f32 0x7F800000#32 = (⊤ : EReal) := by
  simp [Ideal.ofBits, Ideal.ieee]

/-- What the precondition says: every argument but the gain has real entries. -/
theorem real_of_pre (x0 : FVec Ideal Cert.KernelIdeal.S4x64 .f32) (x1 : FVec Ideal Cert.KernelIdeal.S128 .f32)
    (x2 : FVec Ideal Cert.KernelIdeal.S8x2048x8x2x64 .f32) (x3 : FVec Ideal Cert.KernelIdeal.S8x256x8x2x64 .f32)
    (x4 : FVec Ideal Cert.KernelIdeal.S8x2048x8x2x64 .f32) (x5 : FVec Ideal Cert.KernelIdeal.S8x256x8x128 .f32)
    (x6 : FVec Ideal Cert.KernelIdeal.S8x2048x8x128 .f32)
    (h : (Cert.Pre_finite.fn x0 x1 x2 x3 x4 x5 x6).1 = (fun _ => 1#1)
      ∧ (Cert.Pre_finite.fn x0 x1 x2 x3 x4 x5 x6).2.1 = (fun _ => 1#1)
      ∧ (Cert.Pre_finite.fn x0 x1 x2 x3 x4 x5 x6).2.2.1 = (fun _ => 1#1)
      ∧ (Cert.Pre_finite.fn x0 x1 x2 x3 x4 x5 x6).2.2.2.1 = (fun _ => 1#1)
      ∧ (Cert.Pre_finite.fn x0 x1 x2 x3 x4 x5 x6).2.2.2.2.1 = (fun _ => 1#1)
      ∧ (Cert.Pre_finite.fn x0 x1 x2 x3 x4 x5 x6).2.2.2.2.2 = (fun _ => 1#1)) :
    (∀ i, ∃ r : ℝ, x0 i = r) ∧ (∀ i, ∃ r : ℝ, x2 i = r) ∧ (∀ i, ∃ r : ℝ, x3 i = r) ∧ (∀ i, ∃ r : ℝ, x4 i = r)
      ∧ (∀ i, ∃ r : ℝ, x5 i = r) ∧ (∀ i, ∃ r : ℝ, x6 i = r) := by
  obtain ⟨h0, h2, h3, h4, h5, h6⟩ := h
  exact ⟨real_of_test x0 _ (fun _ => bound_top) h0, real_of_test x2 _ (fun _ => bound_top) h2,
    real_of_test x3 _ (fun _ => bound_top) h3, real_of_test x4 _ (fun _ => bound_top) h4,
    real_of_test x5 _ (fun _ => bound_top) h5, real_of_test x6 _ (fun _ => bound_top) h6⟩

/-- The attention claim: from equal finite arguments the kernel and the reference end with equal results, arguments
    unchanged. -/
theorem algebraic : algebraic_KernelIdeal_ReferenceIdeal_pre_finite := by
  intro m g m' g' hpre h
  refine ⟨arr m, ?_, ?_⟩
  · refine (θ_run _ _ _).mono (fun r hr c => ?_) (Cert.KernelIdeal.Value.run_blocks m g)
    obtain ⟨h0, hr⟩ := hr c
    exact ⟨h0.trans (final m c), hr⟩
  · refine (θ_run _ _ _).mono (fun r hr c => ?_) (Cert.ReferenceIdeal.Value.run m' g')
    obtain ⟨h0, hr⟩ := hr c
    obtain ⟨e0, e1, e2, e3, e4, e5, e6⟩ := h c
    obtain ⟨f0, f2, f3, f4, f5, f6⟩ := real_of_pre _ _ _ _ _ _ _ (hpre c)
    refine ⟨h0.trans ?_, hr⟩
    rw [Cert.ReferenceIdeal.Read.val_main_v57_eq]
    rw [e0, e1, e2, e3, e4, e5, e6]
    funext i
    obtain ⟨b, t, e, rfl⟩ : ∃ (b : Fin 8) (t : Fin 2048) (e : Fin 1024), i = ix3 b t e :=
      ⟨i 0, i 1, i 2, by funext a; fin_cases a <;> rfl⟩
    refine (ref_apply_attn _ _ _ _ _ _ _ b t e).trans (row_eq _ _ _ _ _ (fun a k => f0 _) (fun k => f2 _) (fun j k => ?_)
      (fun j k => ?_) _).symm
    · unfold keys
      split
      · exact f3 _
      · exact f4 _
    · unfold vals
      split
      · exact f5 _
      · exact f6 _

end Cert.Attn

end
-- ==== Proof.Proj.lean ====
/-
  The output projection with its norm, one row at a time. A row of the result depends on one row of the stream, on one row of
  the mixer's output, on the gate of its batch entry and on the weights; `Proj.row` says how. `out_apply` says that one grid
  point of the kernel leaves these rows in its block of the result.
-/
module

public import proofs.«01_k».proof.Proof.Ffn
public import proofs.«01_k».proof.Proof.Gen.Kernel3Ideal.Value
public import Idealize.ShloMosaic.Lib.Pipeline.Value
public import Idealize.ShloMosaic.Lib.Pointwise

@[expose] public section

set_option maxRecDepth 16384

noncomputable section

namespace Cert.Proj

open Idealize.ShloMosaic Cert.Kernel3Ideal Cert.Kernel3Ideal.Gen
open Cert.Ffn (alpha width eps mean norm)

/-- One entry of the residual sum before its normalisation. -/
def res {K : ℕ} (x gt : Fin 1024 → EReal) (y : Fin K → EReal) (w : Fin K → Fin 1024 → EReal) (b : Fin 1024 → EReal) (d : Fin 1024) : EReal :=
  alpha * x d + (1 + gt d) * ((∑ k : Fin K, y k * w k d) + b d)

/-- One entry of a row of the result. -/
def row {K : ℕ} (x gt : Fin 1024 → EReal) (y : Fin K → EReal) (w : Fin K → Fin 1024 → EReal) (b g h : Fin 1024 → EReal) (d : Fin 1024) :
    EReal :=
  norm (res x gt y w b) g h d

/-- The kernel's payload for the residual sum less its row mean. -/
theorem centred_apply (y : Vec Ideal S1x1024x1024 .bf16) (w : Vec Ideal S1024x1024 .bf16) (b : Vec Ideal S1x1024 .f32)
    (x : Vec Ideal S1x1024x1024 .f32) (gt : Vec Ideal S1x1x1024 .f32) (r d : Fin 1024) :
    k0_pay4 y w b x gt (ix2 r d)
      = res (fun k => x (ix3 0 r k)) (fun k => gt (ix3 0 0 k)) (fun k => y (ix3 0 r k)) (fun k d => w (ix2 k d)) (fun k => b (ix2 0 k)) d
        - mean (res (fun k => x (ix3 0 r k)) (fun k => gt (ix3 0 0 k)) (fun k => y (ix3 0 r k)) (fun k d => w (ix2 k d)) fun k => b (ix2 0 k)) := by
  pointwise [k0_pay4, res, mean, alpha, width]

/-- The kernel's payload for the sum of squares of a row. -/
theorem squares_apply (y : Vec Ideal S1x1024x1024 .bf16) (w : Vec Ideal S1024x1024 .bf16) (b : Vec Ideal S1x1024 .f32)
    (x : Vec Ideal S1x1024x1024 .f32) (gt : Vec Ideal S1x1x1024 .f32) (r : Fin 1024) :
    k0_pay5 y w b x gt (ix2 r 0) = ∑ d : Fin 1024, k0_pay4 y w b x gt (ix2 r d) * k0_pay4 y w b x gt (ix2 r d) := by
  unfold k0_pay5
  generalize k0_pay4 y w b x gt = z
  pointwise

/-- The kernel's payload for the result, from the centred rows and their sums of squares. -/
theorem scaled_apply (g h : Vec Ideal S1x1024 .f32) (z : FVec Ideal S1024x1024 .f32) (s : FVec Ideal S1024x1 .f32) (r d : Fin 1024) :
    k0_pay1 (k0_pay2 g) (k0_pay3 h) z s k0_pay6 (ix3 0 r d)
      = z (ix2 r d) * Ideal.rsqrt (Ideal.div (s (ix2 r 0)) width + eps) * g (ix2 0 d) + h (ix2 0 d) := by
  pointwise [k0_pay1, k0_pay2, k0_pay3, k0_pay6, width, eps]

theorem hz2 : (![0, 0] : Fin 2 → Nat) = fun _ => 0 := funext fun a => by fin_cases a <;> rfl

theorem hz3 : (![0, 0, 0] : Fin 3 → Nat) = fun _ => 0 := funext fun a => by fin_cases a <;> rfl

/-- A grid point leaves, at row `r` and column `d` of its block, the row of the blocks it has loaded. -/
theorem out_apply (x : Vec Ideal S1x1024x1024 .f32) (y : Vec Ideal S1x1024x1024 .bf16) (gt : Vec Ideal S1x1x1024 .f32)
    (w : Vec Ideal S1024x1024 .bf16) (b g h : Vec Ideal S1x1024 .f32) (r d : Fin 1024) :
    out0_7 x y gt w b g h (ix3 0 r d)
      = row (fun k => x (ix3 0 r k)) (fun k => gt (ix3 0 0 k)) (fun k => y (ix3 0 r k)) (fun k d => w (ix2 k d))
          (fun k => b (ix2 0 k)) (fun k => g (ix2 0 k)) (fun k => h (ix2 0 k)) d := by
  unfold out0_7 r0_0 r0_1 r0_2 r0_3
  rw [View.canon_unit_zero hz3]
  simp only [View.ld_unit_zero (S := S1x1024x1024) hz3, View.ld_unit_zero (S := S1x1x1024) hz3,
    View.ld_unit_zero (S := S1024x1024) hz2, View.ld_unit_zero (S := S1x1024) hz2]
  rw [scaled_apply, squares_apply]
  simp only [centred_apply]
  rfl

end Cert.Proj

end
-- ==== Proof.ProjRef.lean ====
/-
  The reference of the output projection, read one row at a time: `Proj.row` of the rows of the stream and of the mixer's
  output, of the gate of the batch entry and of the weights.
-/
module

public import proofs.«01_k».proof.Proof.Proj
public import proofs.«01_k».proof.Proof.Gen.Reference3Ideal.Read

@[expose] public section

set_option maxRecDepth 16384

noncomputable section

namespace Cert.Proj

open Idealize.ShloMosaic Cert.Reference3Ideal Cert.Reference3Ideal.Gen Cert.Reference3Ideal.Read
open Cert.Ffn (alpha width eps mean norm)

variable (x0 x1 : (⟨S8x2048x1024, .f32⟩ : BufTy).Contents (Elt Ideal)) (x2 : (⟨S8x1x1024, .f32⟩ : BufTy).Contents (Elt Ideal))
  (x3 : (⟨S1024x1024, .f32⟩ : BufTy).Contents (Elt Ideal)) (x4 x5 x6 : (⟨S1024, .f32⟩ : BufTy).Contents (Elt Ideal))

/-- The reference multiplies by the residual weight one, which changes nothing. -/
theorem one_word : Ideal.ofBits .f32 0x3F800000#32 = (1 : EReal) := by
  simp [Ideal.ofBits, Ideal.ieee]
  exact_mod_cast (by norm_num : (8388608 : ℝ) * (2 ^ 23)⁻¹ = 1)

/-- The reference's residual sum. -/
theorem ref_res (b : Fin 8) (t : Fin 2048) (d : Fin 1024) :
    val_main_v12 (F := Ideal) x0 x1 x2 x3 x4 (ix3 b t d) = res (fun k => x0 (ix3 b t k)) (fun k => x2 (ix3 b 0 k))
      (fun k => x1 (ix3 b t k)) (fun k d => x3 (ix2 k d)) (fun k => x4 (ix1 k)) d := by
  have h1 := one_word
  pointwise [val_main_v12, val_main_v11, val_main_v10, val_main_v9, val_main_v8, val_main_v7, val_main_v6, val_main_v5,
    val_main_v4, val_main_v3, val_main_v2, val_main_v1, val_main_v0, val_main_cst, val_main_cst_0, val_main_cst_1, res, alpha]

/-- The reference's row means. -/
theorem ref_mean (b : Fin 8) (t : Fin 2048) :
    val_main_v16 (F := Ideal) x0 x1 x2 x3 x4 (ix3 b t 0) = mean fun d => val_main_v12 (F := Ideal) x0 x1 x2 x3 x4 (ix3 b t d) := by
  unfold val_main_v16 val_main_v15 val_main_v14 val_main_v13 val_main_cst_2 val_main_cst_3
  generalize val_main_v12 (F := Ideal) x0 x1 x2 x3 x4 = y
  pointwise [mean, width]

/-- The reference's row variances. -/
theorem ref_var (b : Fin 8) (t : Fin 2048) :
    val_main_v23 (F := Ideal) x0 x1 x2 x3 x4 (ix3 b t 0) = mean fun d =>
      (val_main_v12 (F := Ideal) x0 x1 x2 x3 x4 (ix3 b t d) - mean fun e => val_main_v12 (F := Ideal) x0 x1 x2 x3 x4 (ix3 b t e))
      * (val_main_v12 (F := Ideal) x0 x1 x2 x3 x4 (ix3 b t d) - mean fun e => val_main_v12 (F := Ideal) x0 x1 x2 x3 x4 (ix3 b t e)) := by
  simp only [← ref_mean]
  unfold val_main_v23 val_main_v22 val_main_v21 val_main_v20 val_main_v19 val_main_v18 val_main_v17 val_main_cst_4
    val_main_cst_5
  generalize val_main_v12 (F := Ideal) x0 x1 x2 x3 x4 = y
  generalize val_main_v16 (F := Ideal) x0 x1 x2 x3 x4 = u
  pointwise [mean, width]

/-- The reference's result at an index: the row of the index's batch entry and token. -/
theorem ref_apply (b : Fin 8) (t : Fin 2048) (d : Fin 1024) :
    val_main_v36 (F := Ideal) x0 x1 x2 x3 x4 x5 x6 (ix3 b t d)
      = row (fun k => x0 (ix3 b t k)) (fun k => x2 (ix3 b 0 k)) (fun k => x1 (ix3 b t k)) (fun k d => x3 (ix2 k d))
          (fun k => x4 (ix1 k)) (fun k => x5 (ix1 k)) (fun k => x6 (ix1 k)) d := by
  unfold row
  rw [show res _ _ _ _ _ = fun d => val_main_v12 (F := Ideal) x0 x1 x2 x3 x4 (ix3 b t d) from
    funext fun d => (ref_res x0 x1 x2 x3 x4 b t d).symm]
  unfold Ffn.norm
  rw [← ref_var, ← ref_mean]
  unfold val_main_v36 val_main_v35 val_main_v34 val_main_v33 val_main_v32 val_main_v31 val_main_v30 val_main_v29
    val_main_v28 val_main_v27 val_main_v26 val_main_v25 val_main_v24 val_main_cst_6
  generalize val_main_v23 (F := Ideal) x0 x1 x2 x3 x4 = v
  generalize val_main_v12 (F := Ideal) x0 x1 x2 x3 x4 = y
  generalize val_main_v16 (F := Ideal) x0 x1 x2 x3 x4 = u
  pointwise [eps]

end Cert.Proj

end
-- ==== Proof.ProjValue.lean ====
/-
  The output projection's result array after its run, and the claim that it is the reference's.
-/
module

public import proofs.«01_k».proof.Proof.ProjRef
public import proofs.«01_k».proof.Defs
public import Idealize.ShloMosaic.Lib.Tactic

@[expose] public section

set_option maxRecDepth 16384

noncomputable section

namespace Cert.Proj

open Idealize.ShloMosaic Idealize.ShloMosaic.TcCoe Idealize.SL.Sem
open Idealize.ShloMosaic.Pipeline (Dat)
open Cert.Kernel3Ideal Cert.Kernel3Ideal.Gen

variable (m : (ℓ : Loc nD τ sig) → Buf (Elt Ideal) ℓ) (c : Dev nD)

/-- The result array: at each index the row of its batch entry and token. -/
def arr : Buf (Elt Ideal) ((c : Thread nD τ).loc main_v5) := fun (i : S8x2048x1024.Idx) =>
  row (fun k => m ((c : Thread nD τ).loc main_arg0) (ix3 (i 0) (i 1) k)) (fun k => m ((c : Thread nD τ).loc main_arg2) (ix3 (i 0) 0 k))
    (fun k => m ((c : Thread nD τ).loc main_arg1) (ix3 (i 0) (i 1) k)) (fun k d => m ((c : Thread nD τ).loc main_arg3) (ix2 k d))
    (fun k => m ((c : Thread nD τ).loc main_arg4) (ix1 k)) (fun k => m ((c : Thread nD τ).loc main_arg5) (ix1 k))
    (fun k => m ((c : Thread nD τ).loc main_arg6) (ix1 k)) (i 2)

/-- The three vectors as the launch finds them: the arguments as rows. -/
theorem b_apply (k : Fin 1024) : V m c main_v2 (ix2 0 k) = m ((c : Thread nD τ).loc main_arg4) (ix1 k) := by
  show shapeCast _ _ _ _ = _
  pointwise

theorem g_apply (k : Fin 1024) : V m c main_v3 (ix2 0 k) = m ((c : Thread nD τ).loc main_arg5) (ix1 k) := by
  show shapeCast _ _ _ _ = _
  pointwise

theorem h_apply (k : Fin 1024) : V m c main_v4 (ix2 0 k) = m ((c : Thread nD τ).loc main_arg6) (ix1 k) := by
  show shapeCast _ _ _ _ = _
  pointwise

/-- Where the blocks of the stream, of the mixer's output, of the gate and of the result lie at grid point `t`. -/
theorem index0 : ∀ t : Fin grid0.N, win0_0.index t 0 = t.val / 2 ∧ win0_0.index t 1 = t.val % 2 ∧ win0_0.index t 2 = 0 := by
  decide +kernel

theorem index1 : ∀ t : Fin grid0.N, win0_1.index t 0 = t.val / 2 ∧ win0_1.index t 1 = t.val % 2 ∧ win0_1.index t 2 = 0 := by
  decide +kernel

theorem index2 : ∀ t : Fin grid0.N, win0_2.index t 0 = t.val / 2 ∧ win0_2.index t 1 = 0 ∧ win0_2.index t 2 = 0 := by
  decide +kernel

theorem index7 : ∀ t : Fin grid0.N, win0_7.index t 0 = t.val / 2 ∧ win0_7.index t 1 = t.val % 2 ∧ win0_7.index t 2 = 0 := by
  decide +kernel

/-- The token of row `r` of grid point `t`'s block. -/
abbrev tok (t : Fin cfg0.N) (r : Fin 1024) : Fin 2048 := ⟨t.val % 2 * 1024 + r.val, by omega⟩

/-- The batch entry of grid point `t`'s block. -/
abbrev bat (t : Fin cfg0.N) : Fin 8 := ⟨t.val / 2, by have h : t.val < 16 := lt_of_lt_of_eq t.isLt N_0; omega⟩

/-- Grid point `t`'s blocks, entry by entry, as entries of the arguments. -/
theorem blk_x (t : Fin cfg0.N) (r k : Fin 1024) :
    iblk m c 0 t (ix3 0 r k) = m ((c : Thread nD τ).loc main_arg0) (ix3 (bat t) (tok t r) k) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 2; omega
  | ⟨1, _⟩ => show win0_0.index t 1 * 1024 + 1 * r.val = t.val % 2 * 1024 + r.val; omega
  | ⟨2, _⟩ => show win0_0.index t 2 * 1024 + 1 * k.val = k.val; omega

theorem blk_y (t : Fin cfg0.N) (r k : Fin 1024) :
    iblk m c 1 t (ix3 0 r k) = m ((c : Thread nD τ).loc main_arg1) (ix3 (bat t) (tok t r) k) := by
  obtain ⟨h0, h1, h2⟩ := index1 t
  unfold iblk
  rw [View.read_apply]
  show m ((c : Thread nD τ).loc main_arg1) _ = _
  congr 1
  funext a
  apply Fin.ext
  match a with
  | ⟨0, _⟩ => show win0_1.index t 0 * 1 + 1 * 0 = t.val / 2; omega
  | ⟨1, _⟩ => show win0_1.index t 1 * 1024 + 1 * r.val = t.val % 2 * 1024 + r.val; omega
  | ⟨2, _⟩ => show win0_1.index t 2 * 1024 + 1 * k.val = k.val; omega

theorem blk_gt (t : Fin cfg0.N) (k : Fin 1024) :
    iblk m c 2 t (ix3 0 0 k) = m ((c : Thread nD τ).loc main_arg2) (ix3 (bat t) 0 k) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = t.val / 2; omega
  | ⟨1, _⟩ => show win0_2.index t 1 * 1 + 1 * 0 = 0; omega
  | ⟨2, _⟩ => show win0_2.index t 2 * 1024 + 1 * k.val = k.val; omega

theorem blk_w (t : Fin cfg0.N) (k d : Fin 1024) : iblk m c 3 t (ix2 k d) = m ((c : Thread nD τ).loc main_arg3) (ix2 k d) := by
  unfold iblk
  rw [View.read_apply]
  show m ((c : Thread nD τ).loc main_arg3) _ = _
  congr 1
  funext a
  apply Fin.ext
  match a with
  | ⟨0, _⟩ => show 0 * 1024 + 1 * k.val = k.val; omega
  | ⟨1, _⟩ => show 0 * 1024 + 1 * d.val = d.val; omega

/-- The only row of a block of one row, read at column `k`. -/
theorem vec_at (k : Fin 1024) (j : S1x1024.Idx) (h : (j 1).val = 0 * 1024 + 1 * k.val) : j = ix2 0 k := by
  funext a
  match a with
  | ⟨0, _⟩ => exact Subsingleton.elim (α := Fin 1) _ _
  | ⟨1, _⟩ => exact Fin.ext (by show (j 1).val = k.val; omega)

theorem blk_b (t : Fin cfg0.N) (k : Fin 1024) : iblk m c 4 t (ix2 0 k) = m ((c : Thread nD τ).loc main_arg4) (ix1 k) := by
  refine Eq.trans ?_ (b_apply m c k)
  unfold iblk
  rw [View.read_apply]
  exact congrArg (V m c main_v2) (vec_at k _ rfl)

theorem blk_g (t : Fin cfg0.N) (k : Fin 1024) : iblk m c 5 t (ix2 0 k) = m ((c : Thread nD τ).loc main_arg5) (ix1 k) := by
  refine Eq.trans ?_ (g_apply m c k)
  unfold iblk
  rw [View.read_apply]
  exact congrArg (V m c main_v3) (vec_at k _ rfl)

theorem blk_h (t : Fin cfg0.N) (k : Fin 1024) : iblk m c 6 t (ix2 0 k) = m ((c : Thread nD τ).loc main_arg6) (ix1 k) := by
  refine Eq.trans ?_ (h_apply m c k)
  unfold iblk
  rw [View.read_apply]
  exact congrArg (V m c main_v4) (vec_at k _ rfl)

/-- What grid point `t` writes back is its block of the result array. -/
theorem flushed (t : Fin cfg0.N) : (dats m 0 c).flushed 7 t = ((cfg0.win 7).blk t).view.read (Elt Ideal) (arr m c) := by
  obtain ⟨h0, h1, h2⟩ := index7 t
  rw [Value.flushed7 m c t]
  funext j
  obtain ⟨j0, r, d, rfl⟩ : ∃ (a : Fin 1) (r d : Fin 1024), j = ix3 a r d := ⟨j 0, j 1, j 2, by funext a; fin_cases a <;> rfl⟩
  obtain rfl : j0 = 0 := Subsingleton.elim _ _
  rw [View.read_apply]
  refine (out_apply _ _ _ _ _ _ _ r d).trans ?_
  simp only [blk_x, blk_y, blk_gt, blk_w, blk_b, blk_g, blk_h]
  rw [show ((cfg0.win 7).blk t).view.emb (ix3 0 r d) = (ix3 (bat t) (tok t r) d : S8x2048x1024.Idx) from by
    funext a
    apply Fin.ext
    match a with
    | ⟨0, _⟩ => show win0_7.index t 0 * 1 + 1 * 0 = t.val / 2; omega
    | ⟨1, _⟩ => show win0_7.index t 1 * 1024 + 1 * r.val = t.val % 2 * 1024 + r.val; omega
    | ⟨2, _⟩ => show win0_7.index t 2 * 1024 + 1 * d.val = d.val; omega]
  rfl

/-- The blocks fill the result array. -/
theorem cover (i : S8x2048x1024.Idx) : ∃ t : Fin cfg0.N, (cfg0.win 7).flush t = true ∧ i ∈ ((cfg0.win 7).blk t).view.set := by
  have i0 : (i 0 : Nat) < 8 := (i 0).isLt
  have i1 : (i 1 : Nat) < 2048 := (i 1).isLt
  have i2 : (i 2 : Nat) < 1024 := (i 2).isLt
  have hN : grid0.N = 16 := N_0
  let t : Fin grid0.N := ⟨(i 0 : Nat) * 2 + (i 1 : Nat) / 1024, by omega⟩
  have ht : t.val = (i 0 : Nat) * 2 + (i 1 : Nat) / 1024 := rfl
  obtain ⟨h0, h1, h2⟩ := index7 t
  refine ⟨t, flush0_7 t, ?_⟩
  show i ∈ ((View.whole main_v5).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; omega
  | ⟨1, _⟩ => show win0_7.index t 1 * 1024 ≤ (i 1 : Nat) ∧ (i 1 : Nat) < win0_7.index t 1 * 1024 + 1024; omega
  | ⟨2, _⟩ => show win0_7.index t 2 * 1024 ≤ (i 2 : Nat) ∧ (i 2 : Nat) < win0_7.index t 2 * 1024 + 1024; omega

/-- So the result array ends holding these rows. -/
theorem final : (dats m 0 c).arrAt 7 cfg0.N = arr m c :=
  (dats m 0 c).arrAt_eq_of_cover 7 (arr m c) (fun t _ => flushed m c t) cover

end Cert.Proj

namespace Cert.Proj

open Idealize.ShloMosaic Idealize.ShloMosaic.TcCoe Idealize.SL.Sem

/-- The claim: from equal arguments the kernel and the reference end with equal results, arguments unchanged. -/
theorem algebraic : algebraic_Kernel3Ideal_Reference3Ideal := by
  intro m g m' g' _ h
  refine ⟨arr m, ?_, ?_⟩
  · refine (θ_run _ _ _).mono (fun r hr c => ?_) (Cert.Kernel3Ideal.Value.run_blocks m g)
    obtain ⟨h0, hr⟩ := hr c
    exact ⟨h0.trans (final m c), hr⟩
  · refine (θ_run _ _ _).mono (fun r hr c => ?_) (Cert.Reference3Ideal.Value.run m' g')
    obtain ⟨h0, hr⟩ := hr c
    obtain ⟨e0, e1, e2, e3, e4, e5, e6⟩ := h c
    refine ⟨h0.trans ?_, hr⟩
    rw [Cert.Reference3Ideal.Read.val_main_v36_eq]
    rw [e0, e1, e2, e3, e4, e5, e6]
    funext i
    obtain ⟨b, t, d, rfl⟩ : ∃ (b : Fin 8) (t : Fin 2048) (d : Fin 1024), i = ix3 b t d := ⟨i 0, i 1, i 2, by funext a; fin_cases a <;> rfl⟩
    exact ref_apply _ _ _ _ _ _ _ b t d

end Cert.Proj

end
-- ==== Proof.Qkv.lean ====
/-
  The attention's three projections as functions of their arguments: `flat` is an entry of one of the three products of the
  modulated streams with the weights, `turn` the rotary turn of a row of such entries, `heads` what the queries and the keys
  hold. Token `t` of the latent stream stands at row `t / 64`, column `t % 64` of its grid.
-/
module

public import proofs.«01_k».proof.Proof.Proj
public import Idealize.ShloMosaic.Lib.Pointwise
public import Idealize.ShloMosaic.Lib.Tactic

@[expose] public section

noncomputable section

namespace Cert.Qkv

open Idealize.ShloMosaic

/-- The `j`-th of the sixteen frequencies. -/
def freq (j : ℕ) : EReal :=
  Ideal.pow (Ideal.ofBits .f32 1176256512#32)
    (Ideal.div (-(FloatOps.sitofp (F := Ideal) .f32 (BitVec.ofNat 32 j) : EReal)) (Ideal.ofBits .f32 1098907648#32))

/-- The angle of grid coordinate `n` at frequency `j`. -/
def angle (n j : ℕ) : EReal := (FloatOps.sitofp (F := Ideal) .f32 (BitVec.ofNat 32 n) : EReal) * freq j

/-- The coordinate that lane `l` turns by at token `t`: the row on the first 32 of each 64 lanes, the column on the others. -/
def coord (t l : ℕ) : ℕ := if l % 64 < 32 then t / 64 else t % 64

/-- The other lane of the pair of lane `e`: sixteen further on in the first half of a group of 32 lanes, sixteen back in the second. -/
def other (e : Fin 1024) : Fin 1024 := ⟨if e.val % 32 < 16 then e.val + 16 else e.val - 16, by split <;> omega⟩

/-- The rotary turn at token `t` of a row of 1024 lanes. -/
def turn (t : ℕ) (p : Fin 1024 → EReal) (e : Fin 1024) : EReal :=
  p e * Ideal.cos (angle (coord t e.val) (e.val % 16))
    + (if e.val % 32 < 16 then -p (other e) else p (other e)) * Ideal.sin (angle (coord t e.val) (e.val % 16))

/-- One entry of a product: the modulated row of a stream times a column of the weights. -/
def proj (x sh sc : Fin 1024 → EReal) (w : Fin 1024 → EReal) : EReal := ∑ k : Fin 1024, (x k * (1 + sc k) + sh k) * w k

/-- The column of the weights for lane `e` of result `s`. -/
def col (s : Fin 3) (e : Fin 1024) : Fin 3072 := ⟨s.val * 1024 + e.val, by omega⟩

section Results

variable (lat : Fin 8 → Fin 2048 → Fin 1024 → EReal) (ctx : Fin 8 → Fin 256 → Fin 1024 → EReal)
  (ml : Fin 8 → Fin 2 → Fin 1024 → EReal) (mc : Fin 2 → Fin 1024 → EReal) (w : Fin 1024 → Fin 3072 → EReal)

/-- The two streams laid one after the other: the latents' eight batch entries, then the eight of the context as a ninth. -/
def stream (n : Fin 9) (t : Fin 2048) : Fin 1024 → EReal :=
  if h : n.val < 8 then lat ⟨n.val, h⟩ t else ctx ⟨t.val / 256, by omega⟩ ⟨t.val % 256, by omega⟩

/-- Their shifts (row 0) and scales (row 1): one pair for each batch entry of the latents, one pair for the context. -/
def modul (n : Fin 9) : Fin 2 → Fin 1024 → EReal := if h : n.val < 8 then ml ⟨n.val, h⟩ else mc

/-- Lane `e` of result `s` (queries, keys, values) before any turn. -/
def flat (s : Fin 3) (n : Fin 9) (t : Fin 2048) (e : Fin 1024) : EReal :=
  proj (stream lat ctx n t) (modul ml mc n 0) (modul ml mc n 1) (fun k => w k (col s e))

/-- Lane `e` of the queries or the keys: the latents' rows are turned, the context's are not. -/
def heads (s : Fin 3) (n : Fin 9) (t : Fin 2048) (e : Fin 1024) : EReal :=
  if n.val < 8 then turn t.val (flat lat ctx ml mc w s n t) e else flat lat ctx ml mc w s n t e

end Results

end Cert.Qkv

end
-- ==== Proof.QkvHost.lean ====
/-
  What the host lays out for the attention's projections: the two streams and their modulations one after the other, the
  weights, and the tables of cosines and of signed sines.
-/
module

public import proofs.«01_k».proof.Proof.Gen.Kernel4Ideal.Frame
public import proofs.«01_k».proof.Proof.Qkv
public import Idealize.ShloMosaic.Lib.StableHlo.ReadAt

@[expose] public section

set_option maxRecDepth 16384

noncomputable section

namespace Cert.Qkv

open Idealize.ShloMosaic Idealize.ShloMosaic.TcCoe Idealize.SL.Sem
open Cert.Kernel4Ideal Cert.Kernel4Ideal.Gen

variable (m : (ℓ : Loc nD τ sig) → Buf (Elt Ideal) ℓ) (c : Dev nD)

/-- Floor division and remainder by 64, as the host computes them on 32-bit words. -/
theorem v4_apply (t : Fin 2048) : V m c main_v4 (ix1 t) = (BitVec.ofNat 32 (t.val / 64) : BitVec 32) := by
  unfold V
  after_reads_at
  revert t
  decide +kernel

/-- A token's column, with 64 tokens to a row. -/
theorem v6_apply (t : Fin 2048) : V m c main_v6 (ix1 t) = (BitVec.ofNat 32 (t.val % 64) : BitVec 32) := by
  unfold V
  after_reads_at
  revert t
  decide +kernel

/-- The angles by a token's row. -/
theorem v18_apply (t : Fin 2048) (e : Fin 16) : V m c main_v18 (ix2 t e) = (angle (t.val / 64) e.val : EReal) := by
  have h : V m c main_v18 (ix2 t e) = (FloatOps.sitofp (F := Ideal) .f32 (V m c main_v4 (ix1 t)) * freq e.val : EReal) := by
    unfold V freq
    after_reads_at
  rw [h, v4_apply]
  rfl

/-- The angles by its column. -/
theorem v23_apply (t : Fin 2048) (e : Fin 16) : V m c main_v23 (ix2 t e) = (angle (t.val % 64) e.val : EReal) := by
  have h : V m c main_v23 (ix2 t e) = (FloatOps.sitofp (F := Ideal) .f32 (V m c main_v6 (ix1 t)) * freq e.val : EReal) := by
    unfold V freq
    after_reads_at
  rw [h, v6_apply]
  rfl

/-- The sign of a first half. -/
theorem v26_apply (e : Fin 16) : V m c main_v26 (ix1 e) = (-1 : EReal) := by
  unfold V
  after_reads_at

/-- The sign of a second half. -/
theorem v27_apply (e : Fin 16) : V m c main_v27 (ix1 e) = (1 : EReal) := by
  unfold V
  after_reads_at

/-- The tables by rows and by columns and the two runs of signs, named. -/
def tab18 (i : S2048x16.Idx) : EReal := V m c main_v18 i
def tab23 (i : S2048x16.Idx) : EReal := V m c main_v23 i
def tab26 (i : S16.Idx) : EReal := V m c main_v26 i
def tab27 (i : S16.Idx) : EReal := V m c main_v27 i

/-- Their entries. -/
theorem tab18_apply (t : Fin 2048) (e : Fin 16) : tab18 m c (ix2 t e) = angle (t.val / 64) e.val := v18_apply m c t e
theorem tab23_apply (t : Fin 2048) (e : Fin 16) : tab23 m c (ix2 t e) = angle (t.val % 64) e.val := v23_apply m c t e
theorem tab26_apply (e : Fin 16) : tab26 m c (ix1 e) = -1 := v26_apply m c e
theorem tab27_apply (e : Fin 16) : tab27 m c (ix1 e) = 1 := v27_apply m c e

/-- A lane's angle as the four joined tables of sixteen lanes give it. -/
theorem table_apply (t : Fin 2048) (l : Fin 128) :
    ((if h : l.val % 64 < 16 then tab18 m c (ix2 t ⟨l.val % 64, h⟩)
      else if h : l.val % 64 - 16 < 16 then tab18 m c (ix2 t ⟨l.val % 64 - 16, h⟩)
      else if h : l.val % 64 - 16 - 16 < 16 then tab23 m c (ix2 t ⟨l.val % 64 - 16 - 16, h⟩)
      else tab23 m c (ix2 t ⟨l.val % 64 - 16 - 16 - 16, by omega⟩)) : EReal)
      = angle (coord t.val l.val) (l.val % 16) := by
  unfold coord
  by_cases h1 : l.val % 64 < 16
  · rw [dif_pos h1, if_pos (by omega), tab18_apply]
    congr 1
    show l.val % 64 = l.val % 16
    omega
  rw [dif_neg h1]
  by_cases h2 : l.val % 64 - 16 < 16
  · rw [dif_pos h2, if_pos (by omega), tab18_apply]
    congr 1
    show l.val % 64 - 16 = l.val % 16
    omega
  rw [dif_neg h2, if_neg (by omega)]
  by_cases h3 : l.val % 64 - 16 - 16 < 16
  · rw [dif_pos h3, tab23_apply]
    congr 1
    show l.val % 64 - 16 - 16 = l.val % 16
    omega
  · rw [dif_neg h3, tab23_apply]
    congr 1
    show l.val % 64 - 16 - 16 - 16 = l.val % 16
    omega

/-- A lane's sign as the four joined runs of sixteen lanes give it. -/
theorem sign_apply (l : Fin 128) :
    ((if h : l.val % 64 < 16 then tab26 m c (ix1 ⟨l.val % 64, h⟩)
      else if h : l.val % 64 - 16 < 16 then tab27 m c (ix1 ⟨l.val % 64 - 16, h⟩)
      else if h : l.val % 64 - 16 - 16 < 16 then tab26 m c (ix1 ⟨l.val % 64 - 16 - 16, h⟩)
      else tab27 m c (ix1 ⟨l.val % 64 - 16 - 16 - 16, by omega⟩)) : EReal)
      = if l.val % 32 < 16 then -1 else 1 := by
  by_cases h1 : l.val % 64 < 16
  · rw [dif_pos h1, if_pos (by omega), tab26_apply]
  rw [dif_neg h1]
  by_cases h2 : l.val % 64 - 16 < 16
  · rw [dif_pos h2, if_neg (by omega), tab27_apply]
  rw [dif_neg h2]
  by_cases h3 : l.val % 64 - 16 - 16 < 16
  · rw [dif_pos h3, if_pos (by omega), tab26_apply]
  · rw [dif_neg h3, if_neg (by omega), tab27_apply]

/-- What the cosines and sines read of them is the same four tables. -/
theorem upto18 : StableHlo.upto [hostOps0, hostOps0_1, hostOps0_2, hostOps0_3, hostOps0_4].flatten (fun b => m (c, b)) 64
    (Proc.tc.devRef main_v18) = tab18 m c := rfl
theorem upto23 : StableHlo.upto [hostOps0, hostOps0_1, hostOps0_2, hostOps0_3, hostOps0_4].flatten (fun b => m (c, b)) 64
    (Proc.tc.devRef main_v23) = tab23 m c := rfl
theorem upto26 : StableHlo.upto [hostOps0, hostOps0_1, hostOps0_2, hostOps0_3, hostOps0_4].flatten (fun b => m (c, b)) 70
    (Proc.tc.devRef main_v26) = tab26 m c := rfl
theorem upto27 : StableHlo.upto [hostOps0, hostOps0_1, hostOps0_2, hostOps0_3, hostOps0_4].flatten (fun b => m (c, b)) 70
    (Proc.tc.devRef main_v27) = tab27 m c := rfl

set_option maxHeartbeats 1000000 in
/-- The latents' cosines, as the host joins them of the tables. -/
theorem cos_read (t : Fin 2048) (l : Fin 128) (y : EReal)
    (hy : (Ideal.cos (if h : l.val % 64 < 16 then tab18 m c (ix2 t ⟨l.val % 64, h⟩)
      else if h : l.val % 64 - 16 < 16 then tab18 m c (ix2 t ⟨l.val % 64 - 16, h⟩)
      else if h : l.val % 64 - 16 - 16 < 16 then tab23 m c (ix2 t ⟨l.val % 64 - 16 - 16, h⟩)
      else tab23 m c (ix2 t ⟨l.val % 64 - 16 - 16 - 16, by omega⟩)) : EReal) = y) :
    V m c main_v43 (ix3 0 t l) = y := by
  unfold V
  after_reads_simp [Matrix.cons_val]
  all_goals try simp -implicitDefEqProofs only [StableHlo.TRef.toBuf, StableHlo.TRef.ofBuf, cast_cast, cast_eq]
  clean_types
  pointwise
  refine Eq.trans (congrArg Ideal.cos ?_) hy
  refine dite_congr rfl (fun h => ?_) (fun h => ?_)
  · exact congrFun (upto18 m c) _
  refine dite_congr rfl (fun h => ?_) (fun h => ?_)
  · exact congrFun (upto18 m c) _
  refine dite_congr rfl (fun h => ?_) (fun h => ?_)
  · exact congrFun (upto23 m c) _
  · exact congrFun (upto23 m c) _

/-- The cosines of the latents' tokens. -/
theorem cos_lat (a : Fin 2) (ha : a.val = 0) (t : Fin 2048) (l : Fin 128) :
    V m c main_v43 (ix3 a t l) = (Ideal.cos (angle (coord t.val l.val) (l.val % 16)) : EReal) := by
  obtain rfl : a = 0 := Fin.ext ha
  exact cos_read m c t l _ (congrArg Ideal.cos (table_apply m c t l))

/-- In place of the context's: ones. -/
theorem cos_ctx (a : Fin 2) (ha : a.val = 1) (t : Fin 2048) (l : Fin 128) : V m c main_v43 (ix3 a t l) = (1 : EReal) := by
  obtain rfl : a = 1 := Fin.ext ha
  unfold V
  after_reads_simp [Matrix.cons_val]
  all_goals try simp -implicitDefEqProofs only [StableHlo.TRef.toBuf, StableHlo.TRef.ofBuf, cast_cast, cast_eq]
  clean_types
  pointwise

set_option maxHeartbeats 1000000 in
/-- Their signed sines. -/
theorem sin_read (t : Fin 2048) (l : Fin 128) (y : EReal)
    (hy : (Ideal.sin (if h : l.val % 64 < 16 then tab18 m c (ix2 t ⟨l.val % 64, h⟩)
      else if h : l.val % 64 - 16 < 16 then tab18 m c (ix2 t ⟨l.val % 64 - 16, h⟩)
      else if h : l.val % 64 - 16 - 16 < 16 then tab23 m c (ix2 t ⟨l.val % 64 - 16 - 16, h⟩)
      else tab23 m c (ix2 t ⟨l.val % 64 - 16 - 16 - 16, by omega⟩))
      * (if h : l.val % 64 < 16 then tab26 m c (ix1 ⟨l.val % 64, h⟩)
      else if h : l.val % 64 - 16 < 16 then tab27 m c (ix1 ⟨l.val % 64 - 16, h⟩)
      else if h : l.val % 64 - 16 - 16 < 16 then tab26 m c (ix1 ⟨l.val % 64 - 16 - 16, h⟩)
      else tab27 m c (ix1 ⟨l.val % 64 - 16 - 16 - 16, by omega⟩)) : EReal) = y) :
    V m c main_v47 (ix3 0 t l) = y := by
  unfold V
  after_reads_simp [Matrix.cons_val]
  all_goals try simp -implicitDefEqProofs only [StableHlo.TRef.toBuf, StableHlo.TRef.ofBuf, cast_cast, cast_eq]
  clean_types
  pointwise
  refine Eq.trans (congrArg₂ (fun a b => Ideal.sin a * b) ?_ ?_) hy
  · refine dite_congr rfl (fun h => ?_) (fun h => ?_)
    · exact congrFun (upto18 m c) _
    refine dite_congr rfl (fun h => ?_) (fun h => ?_)
    · exact congrFun (upto18 m c) _
    refine dite_congr rfl (fun h => ?_) (fun h => ?_)
    · exact congrFun (upto23 m c) _
    · exact congrFun (upto23 m c) _
  · refine dite_congr rfl (fun h => ?_) (fun h => ?_)
    · exact congrFun (upto26 m c) _
    refine dite_congr rfl (fun h => ?_) (fun h => ?_)
    · exact congrFun (upto27 m c) _
    refine dite_congr rfl (fun h => ?_) (fun h => ?_)
    · exact congrFun (upto26 m c) _
    · exact congrFun (upto27 m c) _

/-- The signed sines of the latents' tokens. -/
theorem sin_lat (a : Fin 2) (ha : a.val = 0) (t : Fin 2048) (l : Fin 128) :
    V m c main_v47 (ix3 a t l)
      = (Ideal.sin (angle (coord t.val l.val) (l.val % 16)) * (if l.val % 32 < 16 then -1 else 1) : EReal) := by
  obtain rfl : a = 0 := Fin.ext ha
  refine sin_read m c t l _ ?_
  rw [table_apply, sign_apply]

/-- In place of the context's: zeros. -/
theorem sin_ctx (a : Fin 2) (ha : a.val = 1) (t : Fin 2048) (l : Fin 128) : V m c main_v47 (ix3 a t l) = (0 : EReal) := by
  obtain rfl : a = 1 := Fin.ext ha
  unfold V
  after_reads_simp [Matrix.cons_val]
  all_goals try simp -implicitDefEqProofs only [StableHlo.TRef.toBuf, StableHlo.TRef.ofBuf, cast_cast, cast_eq]
  clean_types
  pointwise

/-- The stream's rows as the launch finds them. -/
theorem x_apply (n : Fin 9) (t : Fin 2048) (k : Fin 1024) :
    V m c main_v1 (ix3 n t k) = (stream (fun b t k => m ((c : Thread nD τ).loc main_arg0) (ix3 b t k))
      (fun b j k => m ((c : Thread nD τ).loc main_arg1) (ix3 b j k)) n t k : EReal) := by
  unfold V stream
  after_reads_at
  split_ifs <;> rfl

/-- Their shifts and scales. -/
theorem v_apply (n : Fin 9) (a : Fin 2) (k : Fin 1024) :
    V m c main_v2 (ix3 n a k) = (modul (fun b a k => m ((c : Thread nD τ).loc main_arg2) (ix3 b a k))
      (fun a k => m ((c : Thread nD τ).loc main_arg3) (ix3 0 a k)) n a k : EReal) := by
  unfold V modul
  after_reads_at
  by_cases h : n.val < 8
  · rw [dif_pos h, dif_pos h]
  · obtain rfl : n = 8 := Fin.ext (by show n.val = 8; omega)
    rfl

/-- The weights. -/
theorem w_apply (k : Fin 1024) (d : Fin 3072) :
    V m c main_v48 (ix2 k d) = (m ((c : Thread nD τ).loc main_arg4) (ix2 k d) : EReal) := by
  unfold V
  after_reads_at

end Cert.Qkv

end
-- ==== Proof.QkvRow.lean ====
/-
  What one grid point of the kernel leaves in its blocks of the queries, the keys and the values, lane by lane.
-/
module

public import proofs.«01_k».proof.Proof.Gen.Kernel4Ideal.Frame
public import proofs.«01_k».proof.Proof.Qkv
public import Idealize.ShloMosaic.Lib.Pipeline.ReadBack

@[expose] public section

set_option maxRecDepth 16384

noncomputable section

namespace Cert.Qkv

open Idealize.ShloMosaic Idealize.ShloMosaic.TcCoe Idealize.SL.Sem
open Cert.Kernel4Ideal Cert.Kernel4Ideal.Gen

/-- Lane `l` of head `h`. -/
def lane (h : Fin 8) (l : Fin 128) : Fin 1024 := ⟨h.val * 128 + l.val, by omega⟩

/-- The kernel's turn of a row `p` by a row `a` of cosines and a row `b` of signed sines, the same for every head. -/
def spin (p : Fin 1024 → EReal) (a b : Fin 128 → EReal) (e : Fin 1024) : EReal :=
  p e * a ⟨e.val % 128, by omega⟩ + p (other e) * b ⟨e.val % 128, by omega⟩

/-- The lanes of the first half of a group of 32. -/
theorem mask_apply (r : Fin 512) (l : Fin 128) :
    k0_pay6 (ix2 r l) = if l.val % 32 < 16 then (1#1 : BitVec 1) else 0#1 := by
  pointwise [k0_pay6]
  revert l
  decide +kernel

/-- Selecting by that mask takes the lane sixteen on or sixteen back. -/
theorem pick (p : Fin 1024 → EReal) (h : Fin 8) (l : Fin 128) (u v : Fin 1024) (s : BitVec 1)
    (hs : s = if l.val % 32 < 16 then (1#1 : BitVec 1) else 0#1)
    (hu : u.val = h.val * 128 + (l.val + 128 - 112) % 128) (hv : v.val = h.val * 128 + (l.val + 128 - 16) % 128) :
    Scalar.select s (p u) (p v) = p (other (lane h l)) := by
  subst hs
  by_cases hl : l.val % 32 < 16
  · rw [if_pos hl]
    refine (if_pos rfl : Scalar.select _ _ _ = p u).trans (congrArg p (Fin.ext ?_))
    show u.val = if (h.val * 128 + l.val) % 32 < 16 then _ else _
    rw [if_pos (by omega), hu]
    show _ = h.val * 128 + l.val + 16
    omega
  · rw [if_neg hl]
    refine (if_neg (by decide) : Scalar.select _ _ _ = p v).trans (congrArg p (Fin.ext ?_))
    show v.val = if (h.val * 128 + l.val) % 32 < 16 then _ else _
    rw [if_neg (by omega), hv]
    show _ = h.val * 128 + l.val - 16
    omega

/-- One lane of the turn, from the three entries that it reads. -/
theorem spin_lane (p : Fin 1024 → EReal) (a b : Fin 128 → EReal) (h : Fin 8) (base : ℕ) (hb : base = h.val * 128) (l : Fin 128)
    (x u v : Fin 1024) (s : BitVec 1) (hs : s = if l.val % 32 < 16 then (1#1 : BitVec 1) else 0#1)
    (hx : x.val = base + l.val) (hu : u.val = base + (l.val + 128 - 112) % 128) (hv : v.val = base + (l.val + 128 - 16) % 128) :
    p x * a l + Scalar.select s (p u) (p v) * b l = spin p a b (lane h l) := by
  rw [pick p h l u v s hs (by omega) (by omega)]
  have h1 : x = lane h l := Fin.ext (by show x.val = h.val * 128 + l.val; omega)
  have h2 : (⟨(lane h l).val % 128, by omega⟩ : Fin 128) = l := Fin.ext (by show (h.val * 128 + l.val) % 128 = l.val; omega)
  unfold spin
  rw [h1, h2]

section Payloads

variable (a b : FVec Ideal S512x128 .f32) (s : IVec S512x128 1) (q : FVec Ideal S512x1024 .f32) (r : Fin 512) (l : Fin 128)
  (hs : ∀ (r : Fin 512) (l : Fin 128), s (ix2 r l) = if l.val % 32 < 16 then (1#1 : BitVec 1) else 0#1)

include hs

/-- The other seven lane tiles of the queries. -/
theorem q1_apply : (k0_pay9 a b s q) (ix3 0 r l) = spin (fun e => q (ix2 r e)) (fun l => a (ix2 r l)) (fun l => b (ix2 r l)) (lane 1 l) := by
  pointwise [k0_pay9]
  exact spin_lane (fun e => q (ix2 r e)) (fun l => a (ix2 r l)) (fun l => b (ix2 r l)) 1 128 rfl l _ _ _ _ (hs r l) rfl rfl rfl

theorem q2_apply : (k0_pay10 a b s q) (ix3 0 r l) = spin (fun e => q (ix2 r e)) (fun l => a (ix2 r l)) (fun l => b (ix2 r l)) (lane 2 l) := by
  pointwise [k0_pay10]
  exact spin_lane (fun e => q (ix2 r e)) (fun l => a (ix2 r l)) (fun l => b (ix2 r l)) 2 256 rfl l _ _ _ _ (hs r l) rfl rfl rfl

theorem q3_apply : (k0_pay11 a b s q) (ix3 0 r l) = spin (fun e => q (ix2 r e)) (fun l => a (ix2 r l)) (fun l => b (ix2 r l)) (lane 3 l) := by
  pointwise [k0_pay11]
  exact spin_lane (fun e => q (ix2 r e)) (fun l => a (ix2 r l)) (fun l => b (ix2 r l)) 3 384 rfl l _ _ _ _ (hs r l) rfl rfl rfl

theorem q4_apply : (k0_pay13 (k0_pay12 a b s q)) (ix3 0 r l) = spin (fun e => q (ix2 r e)) (fun l => a (ix2 r l)) (fun l => b (ix2 r l)) (lane 4 l) := by
  pointwise [k0_pay13, k0_pay12]
  exact spin_lane (fun e => q (ix2 r e)) (fun l => a (ix2 r l)) (fun l => b (ix2 r l)) 4 512 rfl l _ _ _ _ (hs r l) rfl rfl rfl

theorem q5_apply : (k0_pay14 a b s q) (ix3 0 r l) = spin (fun e => q (ix2 r e)) (fun l => a (ix2 r l)) (fun l => b (ix2 r l)) (lane 5 l) := by
  pointwise [k0_pay14]
  exact spin_lane (fun e => q (ix2 r e)) (fun l => a (ix2 r l)) (fun l => b (ix2 r l)) 5 640 rfl l _ _ _ _ (hs r l) rfl rfl rfl

theorem q6_apply : (k0_pay15 a b s q) (ix3 0 r l) = spin (fun e => q (ix2 r e)) (fun l => a (ix2 r l)) (fun l => b (ix2 r l)) (lane 6 l) := by
  pointwise [k0_pay15]
  exact spin_lane (fun e => q (ix2 r e)) (fun l => a (ix2 r l)) (fun l => b (ix2 r l)) 6 768 rfl l _ _ _ _ (hs r l) rfl rfl rfl

theorem q7_apply : (k0_pay16 a b s q) (ix3 0 r l) = spin (fun e => q (ix2 r e)) (fun l => a (ix2 r l)) (fun l => b (ix2 r l)) (lane 7 l) := by
  pointwise [k0_pay16]
  exact spin_lane (fun e => q (ix2 r e)) (fun l => a (ix2 r l)) (fun l => b (ix2 r l)) 7 896 rfl l _ _ _ _ (hs r l) rfl rfl rfl

/-- The same for the keys' tiles. -/
theorem k1_apply : (k0_pay20 a b s q) (ix3 0 r l) = spin (fun e => q (ix2 r e)) (fun l => a (ix2 r l)) (fun l => b (ix2 r l)) (lane 1 l) := by
  pointwise [k0_pay20]
  exact spin_lane (fun e => q (ix2 r e)) (fun l => a (ix2 r l)) (fun l => b (ix2 r l)) 1 128 rfl l _ _ _ _ (hs r l) rfl rfl rfl

theorem k2_apply : (k0_pay21 a b s q) (ix3 0 r l) = spin (fun e => q (ix2 r e)) (fun l => a (ix2 r l)) (fun l => b (ix2 r l)) (lane 2 l) := by
  pointwise [k0_pay21]
  exact spin_lane (fun e => q (ix2 r e)) (fun l => a (ix2 r l)) (fun l => b (ix2 r l)) 2 256 rfl l _ _ _ _ (hs r l) rfl rfl rfl

theorem k3_apply : (k0_pay23 (k0_pay22 a b s q)) (ix3 0 r l) = spin (fun e => q (ix2 r e)) (fun l => a (ix2 r l)) (fun l => b (ix2 r l)) (lane 3 l) := by
  pointwise [k0_pay23, k0_pay22]
  exact spin_lane (fun e => q (ix2 r e)) (fun l => a (ix2 r l)) (fun l => b (ix2 r l)) 3 384 rfl l _ _ _ _ (hs r l) rfl rfl rfl

theorem k4_apply : (k0_pay24 a b s q) (ix3 0 r l) = spin (fun e => q (ix2 r e)) (fun l => a (ix2 r l)) (fun l => b (ix2 r l)) (lane 4 l) := by
  pointwise [k0_pay24]
  exact spin_lane (fun e => q (ix2 r e)) (fun l => a (ix2 r l)) (fun l => b (ix2 r l)) 4 512 rfl l _ _ _ _ (hs r l) rfl rfl rfl

theorem k5_apply : (k0_pay25 a b s q) (ix3 0 r l) = spin (fun e => q (ix2 r e)) (fun l => a (ix2 r l)) (fun l => b (ix2 r l)) (lane 5 l) := by
  pointwise [k0_pay25]
  exact spin_lane (fun e => q (ix2 r e)) (fun l => a (ix2 r l)) (fun l => b (ix2 r l)) 5 640 rfl l _ _ _ _ (hs r l) rfl rfl rfl

theorem k6_apply : (k0_pay26 a b s q) (ix3 0 r l) = spin (fun e => q (ix2 r e)) (fun l => a (ix2 r l)) (fun l => b (ix2 r l)) (lane 6 l) := by
  pointwise [k0_pay26]
  exact spin_lane (fun e => q (ix2 r e)) (fun l => a (ix2 r l)) (fun l => b (ix2 r l)) 6 768 rfl l _ _ _ _ (hs r l) rfl rfl rfl

theorem k7_apply : (k0_pay1 a b s (k0_pay27 q) 112#32) (ix3 0 r l) = spin (fun e => q (ix2 r e)) (fun l => a (ix2 r l)) (fun l => b (ix2 r l)) (lane 7 l) := by
  pointwise [k0_pay1, k0_pay27]
  exact spin_lane (fun e => q (ix2 r e)) (fun l => a (ix2 r l)) (fun l => b (ix2 r l)) 7 896 rfl l _ _ _ _ (hs r l) rfl rfl rfl

/-- The keys' first tile. -/
theorem k0_apply (z : FVec Ideal S512x1024 .bf16) (w : Vec Ideal S1024x1024 .bf16) (hq : k0_pay17 z w = q) :
    (k0_pay19 a b s (k0_pay18 z w)) (ix3 0 r l) = spin (fun e => q (ix2 r e)) (fun l => a (ix2 r l)) (fun l => b (ix2 r l)) (lane 0 l) := by
  unfold k0_pay18
  rw [hq]
  pointwise [k0_pay19]
  exact spin_lane (fun e => q (ix2 r e)) (fun l => a (ix2 r l)) (fun l => b (ix2 r l)) 0 0 rfl l _ _ _ _ (hs r l) (Nat.zero_add _).symm (Nat.zero_add _).symm (Nat.zero_add _).symm

omit hs in
/-- The queries' first tile. -/
theorem q0_apply (x : Vec Ideal S1x512x1024 .f32) (v : Vec Ideal S1x2x1024 .f32) (cs sn : Vec Ideal S1x512x128 .f32)
    (w : Vec Ideal S1024x1024 .bf16) (hq : k0_pay7 x v w = q) (ha : k0_pay4 cs = a) (hb : k0_pay5 sn = b) :
    (k0_pay8 x v cs sn w) (ix3 0 r l) = spin (fun e => q (ix2 r e)) (fun l => a (ix2 r l)) (fun l => b (ix2 r l)) (lane 0 l) := by
  unfold k0_pay8
  rw [hq, ha, hb]
  pointwise
  exact spin_lane (fun e => q (ix2 r e)) (fun l => a (ix2 r l)) (fun l => b (ix2 r l)) 0 0 rfl l _ _ _ _ (mask_apply r l) (Nat.zero_add _).symm (Nat.zero_add _).symm (Nat.zero_add _).symm

end Payloads

/-- A block of 128 lanes at head `h` lies there. -/
theorem emb_lane (off : ℕ) (inb : ∀ a, (![0, 0, off] : Fin 3 → ℕ) a + S1x512x128.size a ≤ S1x512x1024.size a) (h : Fin 8)
    (hoff : off = h.val * 128) (r : Fin 512) (l : Fin 128) :
    (Rect.unit (s := S1x512x1024) ![0, 0, off] S1x512x128.size inb).emb (ix3 0 r l) = (ix3 0 r (lane h l) : S1x512x1024.Idx) := by
  funext a
  apply Fin.ext
  match a with
  | ⟨0, _⟩ => show 0 + 1 * 0 = 0; rfl
  | ⟨1, _⟩ => show 0 + 1 * r.val = r.val; omega
  | ⟨2, _⟩ => show off + 1 * l.val = h.val * 128 + l.val; omega

/-- So a block that agrees with `G` lane by lane is the block of `G` there. -/
theorem tile_of {e : EltTy} (G : S1x512x1024.Idx → Elt Ideal e) (p : Vec Ideal S1x512x128 e) (off : ℕ)
    (inb : ∀ a, (![0, 0, off] : Fin 3 → ℕ) a + S1x512x128.size a ≤ S1x512x1024.size a) (h : Fin 8) (hoff : off = h.val * 128)
    (hp : ∀ (r : Fin 512) (l : Fin 128), p (ix3 0 r l) = G (ix3 0 r (lane h l))) (y : S1x512x128.Idx) :
    p y = G ((Rect.unit (s := S1x512x1024) ![0, 0, off] S1x512x128.size inb).emb y) := by
  obtain ⟨j0, r, l, rfl⟩ : ∃ (a : Fin 1) (r : Fin 512) (l : Fin 128), y = ix3 a r l :=
    ⟨y 0, y 1, y 2, by funext a; fin_cases a <;> rfl⟩
  obtain rfl : j0 = 0 := Subsingleton.elim _ _
  rw [hp r l, emb_lane off inb h hoff r l]

/-- Eight such blocks, one for each head, leave `G`. -/
theorem tiles {e : EltTy} (G : S1x512x1024.Idx → Elt Ideal e) (p0 p1 p2 p3 p4 p5 p6 p7 : Vec Ideal S1x512x128 e)
    (h0 : ∀ (r : Fin 512) (l : Fin 128), p0 (ix3 0 r l) = G (ix3 0 r (lane 0 l)))
    (h1 : ∀ (r : Fin 512) (l : Fin 128), p1 (ix3 0 r l) = G (ix3 0 r (lane 1 l)))
    (h2 : ∀ (r : Fin 512) (l : Fin 128), p2 (ix3 0 r l) = G (ix3 0 r (lane 2 l)))
    (h3 : ∀ (r : Fin 512) (l : Fin 128), p3 (ix3 0 r l) = G (ix3 0 r (lane 3 l)))
    (h4 : ∀ (r : Fin 512) (l : Fin 128), p4 (ix3 0 r l) = G (ix3 0 r (lane 4 l)))
    (h5 : ∀ (r : Fin 512) (l : Fin 128), p5 (ix3 0 r l) = G (ix3 0 r (lane 5 l)))
    (h6 : ∀ (r : Fin 512) (l : Fin 128), p6 (ix3 0 r l) = G (ix3 0 r (lane 6 l)))
    (h7 : ∀ (r : Fin 512) (l : Fin 128), p7 (ix3 0 r l) = G (ix3 0 r (lane 7 l))) :
    View.canon (Val := Elt Ideal) [⟨r0_11, p7⟩, ⟨r0_10, p6⟩, ⟨r0_9, p5⟩, ⟨r0_8, p4⟩, ⟨r0_7, p3⟩, ⟨r0_6, p2⟩, ⟨r0_5, p1⟩, ⟨r0_4, p0⟩] = G := by
  funext y
  exact View.canon_append_of_piecesOf G []
    [⟨r0_11, p7⟩, ⟨r0_10, p6⟩, ⟨r0_9, p5⟩, ⟨r0_8, p4⟩, ⟨r0_7, p3⟩, ⟨r0_6, p2⟩, ⟨r0_5, p1⟩, ⟨r0_4, p0⟩]
    ⟨tile_of G p7 896 inb_S1x512x1024_S1x512x128_0_0_896 7 rfl h7, tile_of G p6 768 inb_S1x512x1024_S1x512x128_0_0_768 6 rfl h6, tile_of G p5 640 inb_S1x512x1024_S1x512x128_0_0_640 5 rfl h5, tile_of G p4 512 inb_S1x512x1024_S1x512x128_0_0_512 4 rfl h4,
      tile_of G p3 384 inb_S1x512x1024_S1x512x128_0_0_384 3 rfl h3, tile_of G p2 256 inb_S1x512x1024_S1x512x128_0_0_256 2 rfl h2, tile_of G p1 128 inb_S1x512x1024_S1x512x128_0_0_128 1 rfl h1, tile_of G p0 0 inb_S1x512x1024_S1x512x128_0_0_0 0 rfl h0, trivial⟩ y
    (View.cover_of_tiled [⟨r0_11, p7⟩, ⟨r0_10, p6⟩, ⟨r0_9, p5⟩, ⟨r0_8, p4⟩, ⟨r0_7, p3⟩, ⟨r0_6, p2⟩, ⟨r0_5, p1⟩, ⟨r0_4, p0⟩]
      S1x512x128.size (by rfl) y)

/-! ## The body's results -/

section Body

variable (x : Vec Ideal S1x512x1024 .f32) (v : Vec Ideal S1x2x1024 .f32) (w : Vec Ideal S1024x3072 .bf16)
  (cs sn : Vec Ideal S1x512x128 .f32) (r : Fin 512) (e : Fin 1024)

/-- Row `r` of the body's product with the columns of result `s`. -/
def prod (s : Fin 3) (d : Fin 1024) : EReal :=
  proj (fun k => x (ix3 0 r k)) (fun k => v (ix3 0 0 k)) (fun k => v (ix3 0 1 k)) (fun k => w (ix2 k (col s d)))

/-- What the body loads of its blocks. -/
theorem ld_x : View.ld x r0_0 = x := View.ld_unit_zero (S := S1x512x1024) Proj.hz3 _ x
theorem ld_v : View.ld v r0_1 = v := View.ld_unit_zero (S := S1x2x1024) Proj.hz3 _ v
theorem ld_t : View.ld cs r0_2 = cs := View.ld_unit_zero (S := S1x512x128) Proj.hz3 _ cs

theorem ld_w0 (k d : Fin 1024) : View.ld w r0_3 (ix2 k d) = w (ix2 k (col 0 d)) := by
  show w _ = _
  congr 1
  funext a
  apply Fin.ext
  match a with
  | ⟨0, _⟩ => show 0 + 1 * k.val = k.val; omega
  | ⟨1, _⟩ => show 0 + 1 * d.val = 0 * 1024 + d.val; omega

theorem ld_w1 (k d : Fin 1024) : View.ld w r0_12 (ix2 k d) = w (ix2 k (col 1 d)) := by
  show w _ = _
  congr 1
  funext a
  apply Fin.ext
  match a with
  | ⟨0, _⟩ => show 0 + 1 * k.val = k.val; omega
  | ⟨1, _⟩ => show 1024 + 1 * d.val = 1 * 1024 + d.val; omega

theorem ld_w2 (k d : Fin 1024) : View.ld w r0_13 (ix2 k d) = w (ix2 k (col 2 d)) := by
  show w _ = _
  congr 1
  funext a
  apply Fin.ext
  match a with
  | ⟨0, _⟩ => show 0 + 1 * k.val = k.val; omega
  | ⟨1, _⟩ => show 2048 + 1 * d.val = 2 * 1024 + d.val; omega

/-- The modulated rows. -/
theorem mod_apply (k : Fin 1024) : (k0_pay3 x v) (ix2 r k) = (x (ix3 0 r k) * (1 + v (ix3 0 1 k)) + v (ix3 0 0 k) : EReal) := by
  pointwise [k0_pay3]

/-- Their products with the three parts of the weights. -/
theorem q_apply (d : Fin 1024) : (k0_pay7 x v (View.ld w r0_3)) (ix2 r d) = prod x v w r 0 d := by
  have h : (k0_pay7 x v (View.ld w r0_3)) (ix2 r d) = (∑ k : Fin 1024, (k0_pay3 x v) (ix2 r k) * View.ld w r0_3 (ix2 k d) : EReal) := by
    pointwise [k0_pay7]
  rw [h]
  unfold prod proj
  exact Finset.sum_congr rfl fun k _ => by rw [mod_apply, ld_w0]

theorem k_apply (d : Fin 1024) : (k0_pay17 (k0_pay3 x v) (View.ld w r0_12)) (ix2 r d) = prod x v w r 1 d := by
  have h : (k0_pay17 (k0_pay3 x v) (View.ld w r0_12)) (ix2 r d)
      = (∑ k : Fin 1024, (k0_pay3 x v) (ix2 r k) * View.ld w r0_12 (ix2 k d) : EReal) := by
    pointwise [k0_pay17]
  rw [h]
  unfold prod proj
  exact Finset.sum_congr rfl fun k _ => by rw [mod_apply, ld_w1]

theorem v_apply' (d : Fin 1024) : (k0_pay2 (k0_pay3 x v) (View.ld w r0_13)) (ix3 0 r d) = prod x v w r 2 d := by
  have h : (k0_pay2 (k0_pay3 x v) (View.ld w r0_13)) (ix3 0 r d)
      = (∑ k : Fin 1024, (k0_pay3 x v) (ix2 r k) * View.ld w r0_13 (ix2 k d) : EReal) := by
    pointwise [k0_pay2]
  rw [h]
  unfold prod proj
  exact Finset.sum_congr rfl fun k _ => by rw [mod_apply, ld_w2]

/-- The two tables' rows. -/
theorem cos_apply (l : Fin 128) : (k0_pay4 cs) (ix2 r l) = (cs (ix3 0 r l) : EReal) := by pointwise [k0_pay4]
theorem sin_apply (l : Fin 128) : (k0_pay5 sn) (ix2 r l) = (sn (ix3 0 r l) : EReal) := by pointwise [k0_pay5]

/-- Row `r` of the product with the columns of result `s`, turned by the rows of the two tables. -/
def spun (s : Fin 3) (i : S1x512x1024.Idx) : EReal :=
  spin (prod x v w (i 1) s) (fun l => cs (ix3 0 (i 1) l)) (fun l => sn (ix3 0 (i 1) l)) (i 2)

/-- The block of the queries. -/
theorem out5 : out0_5 x v w cs sn = spun x v w cs sn 0 := by
  unfold_out out0_5
  rw [ld_x, ld_v, ld_t, ld_t]
  have E : ∀ (r : Fin 512) (h : Fin 8) (l : Fin 128),
      spin (fun e => (k0_pay7 x v (View.ld w r0_3)) (ix2 r e)) (fun l => (k0_pay4 cs) (ix2 r l)) (fun l => (k0_pay5 sn) (ix2 r l)) (lane h l)
        = spun x v w cs sn 0 (ix3 0 r (lane h l)) := by
    intro r h l
    simp only [q_apply, cos_apply, sin_apply]
    rfl
  exact tiles (e := .f32) (spun x v w cs sn 0) _ _ _ _ _ _ _ _
    (fun r l => (q0_apply _ _ _ r l x v cs sn _ rfl rfl rfl).trans (E r 0 l))
    (fun r l => (q1_apply _ _ _ _ r l mask_apply).trans (E r 1 l))
    (fun r l => (q2_apply _ _ _ _ r l mask_apply).trans (E r 2 l))
    (fun r l => (q3_apply _ _ _ _ r l mask_apply).trans (E r 3 l))
    (fun r l => (q4_apply _ _ _ _ r l mask_apply).trans (E r 4 l))
    (fun r l => (q5_apply _ _ _ _ r l mask_apply).trans (E r 5 l))
    (fun r l => (q6_apply _ _ _ _ r l mask_apply).trans (E r 6 l))
    (fun r l => (q7_apply _ _ _ _ r l mask_apply).trans (E r 7 l))

/-- The block of the keys. -/
theorem out6 : out0_6 x v w cs sn = spun x v w cs sn 1 := by
  unfold_out out0_6
  rw [ld_x, ld_v, ld_t, ld_t]
  have E : ∀ (r : Fin 512) (h : Fin 8) (l : Fin 128),
      spin (fun e => (k0_pay17 (k0_pay3 x v) (View.ld w r0_12)) (ix2 r e)) (fun l => (k0_pay4 cs) (ix2 r l)) (fun l => (k0_pay5 sn) (ix2 r l)) (lane h l)
        = spun x v w cs sn 1 (ix3 0 r (lane h l)) := by
    intro r h l
    simp only [k_apply, cos_apply, sin_apply]
    rfl
  exact tiles (e := .bf16) (spun x v w cs sn 1) _ _ _ _ _ _ _ _
    (fun r l => (k0_apply _ _ _ _ r l mask_apply _ _ rfl).trans (E r 0 l))
    (fun r l => (k1_apply _ _ _ _ r l mask_apply).trans (E r 1 l))
    (fun r l => (k2_apply _ _ _ _ r l mask_apply).trans (E r 2 l))
    (fun r l => (k3_apply _ _ _ _ r l mask_apply).trans (E r 3 l))
    (fun r l => (k4_apply _ _ _ _ r l mask_apply).trans (E r 4 l))
    (fun r l => (k5_apply _ _ _ _ r l mask_apply).trans (E r 5 l))
    (fun r l => (k6_apply _ _ _ _ r l mask_apply).trans (E r 6 l))
    (fun r l => (k7_apply _ _ _ _ r l mask_apply).trans (E r 7 l))

/-- The block of the values. -/
theorem out7 : out0_7 x v w cs sn (ix3 0 r e) = prod x v w r 2 e := by
  unfold_out out0_7
  rw [ld_x, ld_v, View.canon_unit_zero Proj.hz3]
  exact v_apply' x v w r e

end Body

end Cert.Qkv

end
-- ==== Proof.QkvRef.lean ====
/-
  The reference's three results, lane by lane.
-/
module

public import proofs.«01_k».proof.Proof.Gen.Reference4Ideal.Read
public import proofs.«01_k».proof.Proof.Qkv
public import Idealize.ShloMosaic.Lib.ValueIdxRank6

@[expose] public section

set_option maxRecDepth 16384

noncomputable section

namespace Cert.Qkv

open Idealize.ShloMosaic
open Cert.Reference4Ideal Cert.Reference4Ideal.Gen Cert.Reference4Ideal.Read

variable (x0 : (⟨S8x2048x1024, .f32⟩ : BufTy).Contents (Elt Ideal)) (x1 : (⟨S8x256x1024, .f32⟩ : BufTy).Contents (Elt Ideal))
  (x2 : (⟨S8x2x1024, .f32⟩ : BufTy).Contents (Elt Ideal)) (x3 : (⟨S1x2x1024, .f32⟩ : BufTy).Contents (Elt Ideal))
  (x4 : (⟨S1024x3072, .f32⟩ : BufTy).Contents (Elt Ideal))

/-- The context's and the latents' products, before they are cut in three. -/
theorem ref_v8 (b : Fin 8) (j : Fin 256) (d : Fin 3072) :
    val_main_v8 (F := Ideal) x1 x3 x4 (ix3 b j d) = proj (fun k => x1 (ix3 b j k)) (fun k => x3 (ix3 0 0 k))
      (fun k => x3 (ix3 0 1 k)) (fun k => x4 (ix2 k d)) := by
  pointwise [val_main_v8, val_main_v7, val_main_v6, val_main_v5, val_main_v4, val_main_v3, val_main_v2, val_main_v1,
    val_main_v0, val_main_cst, proj]

/-- The latents' product with the weights, entry by entry. -/
theorem ref_v23 (b : Fin 8) (t : Fin 2048) (d : Fin 3072) :
    val_main_v23 (F := Ideal) x0 x2 x4 (ix3 b t d) = proj (fun k => x0 (ix3 b t k)) (fun k => x2 (ix3 b 0 k))
      (fun k => x2 (ix3 b 1 k)) (fun k => x4 (ix2 k d)) := by
  pointwise [val_main_v23, val_main_v22, val_main_v21, val_main_v20, val_main_v19, val_main_v18, val_main_v17, val_main_v16,
    val_main_v15, val_main_cst_0, proj]

/-- The angles of the rows and of the columns. -/
theorem ref_v48 (t : Fin 2048) (j : Fin 16) : val_main_v48 (F := Ideal) (ix2 t j) = angle (t.val / 64) j.val := by
  pointwise [val_main_v48, val_main_v47, val_main_v46, val_main_v45, val_main_v44, val_main_v43, val_main_v42, val_main_v41,
    val_main_v40, val_main_v39, val_main_v38, val_main_v33, val_main_v32, val_main_v31, val_main_v30, val_main_cst_1, val_main_cst_2, angle, freq]

/-- The reference's angles by a token's column. -/
theorem ref_v53 (t : Fin 2048) (j : Fin 16) : val_main_v53 (F := Ideal) (ix2 t j) = angle (t.val % 64) j.val := by
  pointwise [val_main_v53, val_main_v52, val_main_v51, val_main_v50, val_main_v49, val_main_v43, val_main_v42, val_main_v41,
    val_main_v40, val_main_v39, val_main_v38, val_main_v37, val_main_v36, val_main_v35, val_main_v34, val_main_cst_1, val_main_cst_2, angle, freq]

/-- The angles of both, repeated. -/
theorem ref_v57 (t : Fin 2048) (a : Fin 2) (j : Fin 32) :
    val_main_v57 (F := Ideal) (ix3 t a j) = angle (if a.val = 0 then t.val / 64 else t.val % 64) (j.val % 16) := by
  pointwise [val_main_v57, val_main_v56, val_main_v55, val_main_v54]
  simp only [ref_v48, ref_v53]
  split_ifs <;> first | (exfalso; omega) | (congr 1; omega)

/-- Undoing the split of a row in heads, halves, axes and lanes. -/
theorem join6 (x : FVec Ideal S8x2048x8x2x2x32 .f32) (b : Fin 8) (t : Fin 2048) (e : Fin 1024) :
    shapeCast S8x2048x1024 (shapeCast S8x2048x8x2x64 x shapeCasts_S8x2048x8x2x2x32_S8x2048x8x2x64)
      shapeCasts_S8x2048x8x2x64_S8x2048x1024 (ix3 b t e)
      = x (ix6 b t (⟨e.val / 128, by omega⟩ : Fin 8) (⟨e.val / 64 % 2, by omega⟩ : Fin 2) (⟨e.val / 32 % 2, by omega⟩ : Fin 2)
          (⟨e.val % 32, by omega⟩ : Fin 32)) := by
  refine (shapeCast_apply _ _ _ (ix5 b t (⟨e.val / 128, by omega⟩ : Fin 8) (⟨e.val / 64 % 2, by omega⟩ : Fin 2) (⟨e.val % 64, by omega⟩ : Fin 64)) ?_).trans
    (shapeCast_apply _ _ _ _ ?_)
  · refine (Shape.rowMajor_val_five _).trans (Eq.trans ?_ (Shape.rowMajor_val_three _).symm)
    show (((b.val * 2048 + t.val) * 8 + e.val / 128) * 2 + e.val / 64 % 2) * 64 + e.val % 64 = (b.val * 2048 + t.val) * 1024 + e.val
    omega
  · refine (Shape.rowMajor_val_six _).trans (Eq.trans ?_ (Shape.rowMajor_val_five _).symm)
    show ((((b.val * 2048 + t.val) * 8 + e.val / 128) * 2 + e.val / 64 % 2) * 2 + e.val / 32 % 2) * 32 + e.val % 32
      = (((b.val * 2048 + t.val) * 8 + e.val / 128) * 2 + e.val / 64 % 2) * 64 + e.val % 64
    omega

/-- Splitting a row in heads, halves, axes and lanes. -/
theorem split6 (x : FVec Ideal S8x2048x1024 .f32) (b : Fin 8) (t : Fin 2048) (h : Fin 8) (i a : Fin 2) (f : Fin 32) (e : Fin 1024)
    (he : e.val = h.val * 128 + i.val * 64 + a.val * 32 + f.val) :
    shapeCast S8x2048x8x2x2x32 (shapeCast S8x2048x8x2x64 x shapeCasts_S8x2048x1024_S8x2048x8x2x64)
      shapeCasts_S8x2048x8x2x64_S8x2048x8x2x2x32 (ix6 b t h i a f) = x (ix3 b t e) := by
  refine (shapeCast_apply _ _ _ (ix5 b t h i (⟨a.val * 32 + f.val, by omega⟩ : Fin 64)) ?_).trans
    (shapeCast_apply _ _ _ _ ?_)
  · refine (Shape.rowMajor_val_five _).trans (Eq.trans ?_ (Shape.rowMajor_val_six _).symm)
    show (((b.val * 2048 + t.val) * 8 + h.val) * 2 + i.val) * 64 + (a.val * 32 + f.val)
      = ((((b.val * 2048 + t.val) * 8 + h.val) * 2 + i.val) * 2 + a.val) * 32 + f.val
    omega
  · refine (Shape.rowMajor_val_three _).trans (Eq.trans ?_ (Shape.rowMajor_val_five _).symm)
    show (b.val * 2048 + t.val) * 1024 + e.val = (((b.val * 2048 + t.val) * 8 + h.val) * 2 + i.val) * 64 + (a.val * 32 + f.val)
    omega

/-- One lane of a turned row, from the split row's entries. -/
theorem turn6 (X : FVec Ideal S8x2048x8x2x2x32 .f32) (p : Fin 1024 → EReal) (b : Fin 8) (t : Fin 2048) (h : Fin 8) (i a : Fin 2) (f : Fin 32)
    (e : Fin 1024) (he : e.val = h.val * 128 + i.val * 64 + a.val * 32 + f.val)
    (hX : ∀ (f : Fin 32) (e : Fin 1024), e.val = h.val * 128 + i.val * 64 + a.val * 32 + f.val → X (ix6 b t h i a f) = p e) :
    X (ix6 b t h i a f) * Ideal.cos (val_main_v57 (F := Ideal) (ix3 t a f))
      + (if g : f.val < 16 then -X (ix6 b t h i a ⟨16 + f.val, by omega⟩) else X (ix6 b t h i a ⟨f.val - 16, by omega⟩))
        * Ideal.sin (val_main_v57 (F := Ideal) (ix3 t a f)) = turn t.val p e := by
  have hv : val_main_v57 (F := Ideal) (ix3 t a f) = angle (coord t.val e.val) (e.val % 16) := by
    rw [ref_v57]
    unfold coord
    congr 1
    · split_ifs <;> first | (exfalso; omega) | rfl
    · omega
  rw [hv, hX f e he]
  unfold turn
  congr 2
  by_cases g : f.val < 16
  · rw [dif_pos g, if_pos (by omega), hX _ (other e) ?_]
    show (if e.val % 32 < 16 then e.val + 16 else e.val - 16) = h.val * 128 + i.val * 64 + a.val * 32 + (16 + f.val)
    rw [if_pos (by omega)]
    omega
  · rw [dif_neg g, if_neg (by omega), hX _ (other e) ?_]
    show (if e.val % 32 < 16 then e.val + 16 else e.val - 16) = h.val * 128 + i.val * 64 + a.val * 32 + (f.val - 16)
    rw [if_neg (by omega)]
    omega

/-- The latents' queries, split. -/
theorem ref_v71 (b : Fin 8) (t : Fin 2048) (h : Fin 8) (i a : Fin 2) (f : Fin 32) (e : Fin 1024)
    (he : e.val = h.val * 128 + i.val * 64 + a.val * 32 + f.val) :
    val_main_v71 (F := Ideal) x0 x2 x4 (ix6 b t h i a f) = turn t.val (fun d => val_main_v24 (F := Ideal) x0 x2 x4 (ix3 b t d)) e := by
  pointwise [val_main_v71, val_main_v70, val_main_v69, val_main_v68, val_main_v67, val_main_v66, val_main_v65, val_main_v64, val_main_v63, val_main_v62, val_main_v61, val_main_v58, val_main_v59]
  exact turn6 (val_main_v60 (F := Ideal) x0 x2 x4) _ b t h i a f e he fun f e he => by
    unfold val_main_v60 val_main_v27
    exact split6 _ b t h i a f e he

/-- The latents' keys, split. -/
theorem ref_v84 (b : Fin 8) (t : Fin 2048) (h : Fin 8) (i a : Fin 2) (f : Fin 32) (e : Fin 1024)
    (he : e.val = h.val * 128 + i.val * 64 + a.val * 32 + f.val) :
    val_main_v84 (F := Ideal) x0 x2 x4 (ix6 b t h i a f) = turn t.val (fun d => val_main_v25 (F := Ideal) x0 x2 x4 (ix3 b t d)) e := by
  pointwise [val_main_v84, val_main_v83, val_main_v82, val_main_v81, val_main_v80, val_main_v79, val_main_v78, val_main_v77, val_main_v76, val_main_v75, val_main_v74, val_main_v58, val_main_v59]
  exact turn6 (val_main_v73 (F := Ideal) x0 x2 x4) _ b t h i a f e he fun f e he => by
    unfold val_main_v73 val_main_v28
    exact split6 _ b t h i a f e he

/-! ## The joined results -/

/-- The first eight planes of the joined array are the latent stream's. -/
theorem join_lat (x : FVec Ideal S8x2048x1024 .f32) (y : FVec Ideal S1x2048x1024 .f32) (n : Fin 9) (hn : n.val < 8)
    (t : Fin 2048) (e : Fin 1024) :
    concatenate S9x2048x1024 0 [⟨S8x2048x1024, x⟩, ⟨S1x2048x1024, y⟩] concatenates_S8x2048x1024_S1x2048x1024_S9x2048x1024_d0
      (ix3 n t e) = x (ix3 ⟨n.val, hn⟩ t e) :=
  concatenate_pair_apply_left (t := S9x2048x1024) (0 : Fin 3) x y
    concatenates_S8x2048x1024_S1x2048x1024_S9x2048x1024_d0 (ix3 n t e) rfl (ix3 ⟨n.val, hn⟩ t e) fun a => by
    match a with
    | ⟨0, _⟩ => rfl
    | ⟨1, _⟩ => rfl
    | ⟨2, _⟩ => rfl

/-- Its ninth plane is the context's. -/
theorem join_ctx (x : FVec Ideal S8x2048x1024 .f32) (y : FVec Ideal S1x2048x1024 .f32) (n : Fin 9) (hn : ¬n.val < 8)
    (t : Fin 2048) (e : Fin 1024) :
    concatenate S9x2048x1024 0 [⟨S8x2048x1024, x⟩, ⟨S1x2048x1024, y⟩] concatenates_S8x2048x1024_S1x2048x1024_S9x2048x1024_d0
      (ix3 n t e) = y (ix3 0 t e) :=
  concatenate_pair_apply_right (t := S9x2048x1024) (0 : Fin 3) x y
    concatenates_S8x2048x1024_S1x2048x1024_S9x2048x1024_d0 (ix3 n t e) rfl rfl (ix3 0 t e) (fun a ha => by
    match a with
    | ⟨0, _⟩ => exact absurd rfl ha
    | ⟨1, _⟩ => rfl
    | ⟨2, _⟩ => rfl) (by show 0 + 8 = n.val; omega)

/-- Splitting the context's rows in heads and halves and laying the eight batch entries one after the other. -/
theorem ctx5 (x : FVec Ideal S8x256x1024 .f32) (t : Fin 2048) (e : Fin 1024) :
    shapeCast S1x2048x1024 (shapeCast S8x256x8x2x64 x shapeCasts_S8x256x1024_S8x256x8x2x64)
      shapeCasts_S8x256x8x2x64_S1x2048x1024 (ix3 0 t e)
      = x (ix3 (⟨t.val / 256, by omega⟩ : Fin 8) (⟨t.val % 256, by omega⟩ : Fin 256) e) := by
  refine (shapeCast_apply _ _ _ (ix5 (⟨t.val / 256, by omega⟩ : Fin 8) (⟨t.val % 256, by omega⟩ : Fin 256)
    (⟨e.val / 128, by omega⟩ : Fin 8) (⟨e.val / 64 % 2, by omega⟩ : Fin 2) (⟨e.val % 64, by omega⟩ : Fin 64)) ?_).trans
    (shapeCast_apply _ _ _ _ ?_)
  · refine (Shape.rowMajor_val_five _).trans (Eq.trans ?_ (Shape.rowMajor_val_three _).symm)
    show (((t.val / 256 * 256 + t.val % 256) * 8 + e.val / 128) * 2 + e.val / 64 % 2) * 64 + e.val % 64 = (0 * 2048 + t.val) * 1024 + e.val
    omega
  · refine (Shape.rowMajor_val_three _).trans (Eq.trans ?_ (Shape.rowMajor_val_five _).symm)
    show (t.val / 256 * 256 + t.val % 256) * 1024 + e.val
      = (((t.val / 256 * 256 + t.val % 256) * 8 + e.val / 128) * 2 + e.val / 64 % 2) * 64 + e.val % 64
    omega

/-- The same of heads of 128 lanes. -/
theorem ctx4 (x : FVec Ideal S8x256x1024 .f32) (t : Fin 2048) (e : Fin 1024) :
    shapeCast S1x2048x1024 (shapeCast S8x256x8x128 x shapeCasts_S8x256x1024_S8x256x8x128)
      shapeCasts_S8x256x8x128_S1x2048x1024 (ix3 0 t e)
      = x (ix3 (⟨t.val / 256, by omega⟩ : Fin 8) (⟨t.val % 256, by omega⟩ : Fin 256) e) := by
  refine (shapeCast_apply _ _ _ (ix4 (⟨t.val / 256, by omega⟩ : Fin 8) (⟨t.val % 256, by omega⟩ : Fin 256)
    (⟨e.val / 128, by omega⟩ : Fin 8) (⟨e.val % 128, by omega⟩ : Fin 128)) ?_).trans
    (shapeCast_apply _ _ _ _ ?_)
  · refine (Shape.rowMajor_val_four _).trans (Eq.trans ?_ (Shape.rowMajor_val_three _).symm)
    show ((t.val / 256 * 256 + t.val % 256) * 8 + e.val / 128) * 128 + e.val % 128 = (0 * 2048 + t.val) * 1024 + e.val
    omega
  · refine (Shape.rowMajor_val_three _).trans (Eq.trans ?_ (Shape.rowMajor_val_four _).symm)
    show (t.val / 256 * 256 + t.val % 256) * 1024 + e.val
      = ((t.val / 256 * 256 + t.val % 256) * 8 + e.val / 128) * 128 + e.val % 128
    omega

/-- Splitting the latents' rows in heads of 128 lanes and joining them again. -/
theorem lat4 (x : FVec Ideal S8x2048x1024 .f32) (b : Fin 8) (t : Fin 2048) (e : Fin 1024) :
    shapeCast S8x2048x1024 (shapeCast S8x2048x8x128 x shapeCasts_S8x2048x1024_S8x2048x8x128)
      shapeCasts_S8x2048x8x128_S8x2048x1024 (ix3 b t e) = x (ix3 b t e) := by
  refine (shapeCast_apply _ _ _ (ix4 b t (⟨e.val / 128, by omega⟩ : Fin 8) (⟨e.val % 128, by omega⟩ : Fin 128)) ?_).trans
    (shapeCast_apply _ _ _ _ ?_)
  · refine (Shape.rowMajor_val_four _).trans (Eq.trans ?_ (Shape.rowMajor_val_three _).symm)
    show ((b.val * 2048 + t.val) * 8 + e.val / 128) * 128 + e.val % 128 = (b.val * 2048 + t.val) * 1024 + e.val
    omega
  · refine (Shape.rowMajor_val_three _).trans (Eq.trans ?_ (Shape.rowMajor_val_four _).symm)
    show (b.val * 2048 + t.val) * 1024 + e.val = ((b.val * 2048 + t.val) * 8 + e.val / 128) * 128 + e.val % 128
    omega

/-- The queries before any turn, of the context and of the latents. -/
theorem ref_v9 (b : Fin 8) (j : Fin 256) (e : Fin 1024) :
    val_main_v9 (F := Ideal) x1 x3 x4 (ix3 b j e) = proj (fun k => x1 (ix3 b j k)) (fun k => x3 (ix3 0 0 k))
      (fun k => x3 (ix3 0 1 k)) (fun k => x4 (ix2 k (col 0 e))) := by
  refine Eq.trans ?_ (ref_v8 x1 x3 x4 b j (col 0 e))
  unfold val_main_v9 col
  refine congrArg (val_main_v8 (F := Ideal) x1 x3 x4) ?_
  funext a
  apply Fin.ext
  match a with
  | ⟨0, _⟩ => show 0 + b.val = b.val; omega
  | ⟨1, _⟩ => show 0 + j.val = j.val; omega
  | ⟨2, _⟩ => show 0 + e.val = 0 * 1024 + e.val; omega

/-- The latents' queries before the turn. -/
theorem ref_v24 (b : Fin 8) (t : Fin 2048) (e : Fin 1024) :
    val_main_v24 (F := Ideal) x0 x2 x4 (ix3 b t e) = proj (fun k => x0 (ix3 b t k)) (fun k => x2 (ix3 b 0 k))
      (fun k => x2 (ix3 b 1 k)) (fun k => x4 (ix2 k (col 0 e))) := by
  refine Eq.trans ?_ (ref_v23 x0 x2 x4 b t (col 0 e))
  unfold val_main_v24 col
  refine congrArg (val_main_v23 (F := Ideal) x0 x2 x4) ?_
  funext a
  apply Fin.ext
  match a with
  | ⟨0, _⟩ => show 0 + b.val = b.val; omega
  | ⟨1, _⟩ => show 0 + t.val = t.val; omega
  | ⟨2, _⟩ => show 0 + e.val = 0 * 1024 + e.val; omega

/-- The keys before any turn, of the context and of the latents. -/
theorem ref_v10 (b : Fin 8) (j : Fin 256) (e : Fin 1024) :
    val_main_v10 (F := Ideal) x1 x3 x4 (ix3 b j e) = proj (fun k => x1 (ix3 b j k)) (fun k => x3 (ix3 0 0 k))
      (fun k => x3 (ix3 0 1 k)) (fun k => x4 (ix2 k (col 1 e))) := by
  refine Eq.trans ?_ (ref_v8 x1 x3 x4 b j (col 1 e))
  unfold val_main_v10 col
  refine congrArg (val_main_v8 (F := Ideal) x1 x3 x4) ?_
  funext a
  apply Fin.ext
  match a with
  | ⟨0, _⟩ => show 0 + b.val = b.val; omega
  | ⟨1, _⟩ => show 0 + j.val = j.val; omega
  | ⟨2, _⟩ => show 1024 + e.val = 1 * 1024 + e.val; omega

/-- Their keys before the turn. -/
theorem ref_v25 (b : Fin 8) (t : Fin 2048) (e : Fin 1024) :
    val_main_v25 (F := Ideal) x0 x2 x4 (ix3 b t e) = proj (fun k => x0 (ix3 b t k)) (fun k => x2 (ix3 b 0 k))
      (fun k => x2 (ix3 b 1 k)) (fun k => x4 (ix2 k (col 1 e))) := by
  refine Eq.trans ?_ (ref_v23 x0 x2 x4 b t (col 1 e))
  unfold val_main_v25 col
  refine congrArg (val_main_v23 (F := Ideal) x0 x2 x4) ?_
  funext a
  apply Fin.ext
  match a with
  | ⟨0, _⟩ => show 0 + b.val = b.val; omega
  | ⟨1, _⟩ => show 0 + t.val = t.val; omega
  | ⟨2, _⟩ => show 1024 + e.val = 1 * 1024 + e.val; omega

/-- The values before any turn, of the context and of the latents. -/
theorem ref_v11 (b : Fin 8) (j : Fin 256) (e : Fin 1024) :
    val_main_v11 (F := Ideal) x1 x3 x4 (ix3 b j e) = proj (fun k => x1 (ix3 b j k)) (fun k => x3 (ix3 0 0 k))
      (fun k => x3 (ix3 0 1 k)) (fun k => x4 (ix2 k (col 2 e))) := by
  refine Eq.trans ?_ (ref_v8 x1 x3 x4 b j (col 2 e))
  unfold val_main_v11 col
  refine congrArg (val_main_v8 (F := Ideal) x1 x3 x4) ?_
  funext a
  apply Fin.ext
  match a with
  | ⟨0, _⟩ => show 0 + b.val = b.val; omega
  | ⟨1, _⟩ => show 0 + j.val = j.val; omega
  | ⟨2, _⟩ => show 2048 + e.val = 2 * 1024 + e.val; omega

/-- Their values. -/
theorem ref_v26 (b : Fin 8) (t : Fin 2048) (e : Fin 1024) :
    val_main_v26 (F := Ideal) x0 x2 x4 (ix3 b t e) = proj (fun k => x0 (ix3 b t k)) (fun k => x2 (ix3 b 0 k))
      (fun k => x2 (ix3 b 1 k)) (fun k => x4 (ix2 k (col 2 e))) := by
  refine Eq.trans ?_ (ref_v23 x0 x2 x4 b t (col 2 e))
  unfold val_main_v26 col
  refine congrArg (val_main_v23 (F := Ideal) x0 x2 x4) ?_
  funext a
  apply Fin.ext
  match a with
  | ⟨0, _⟩ => show 0 + b.val = b.val; omega
  | ⟨1, _⟩ => show 0 + t.val = t.val; omega
  | ⟨2, _⟩ => show 2048 + e.val = 2 * 1024 + e.val; omega

/-- The reference's arguments as functions of their coordinates. -/
abbrev latR (b : Fin 8) (t : Fin 2048) (k : Fin 1024) : EReal := x0 (ix3 b t k)
abbrev ctxR (b : Fin 8) (j : Fin 256) (k : Fin 1024) : EReal := x1 (ix3 b j k)
abbrev mlR (b : Fin 8) (a : Fin 2) (k : Fin 1024) : EReal := x2 (ix3 b a k)
abbrev mcR (a : Fin 2) (k : Fin 1024) : EReal := x3 (ix3 0 a k)
abbrev wR (k : Fin 1024) (d : Fin 3072) : EReal := x4 (ix2 k d)

/-- Rows of the latents and of the context, as the joined streams have them. -/
theorem flat_lat (s : Fin 3) (n : Fin 9) (hn : n.val < 8) (t : Fin 2048) (e : Fin 1024) :
    flat (latR x0) (ctxR x1) (mlR x2) (mcR x3) (wR x4) s n t e
      = proj (fun k => x0 (ix3 ⟨n.val, hn⟩ t k)) (fun k => x2 (ix3 ⟨n.val, hn⟩ 0 k)) (fun k => x2 (ix3 ⟨n.val, hn⟩ 1 k))
        (fun k => x4 (ix2 k (col s e))) := by
  unfold flat stream modul
  rw [dif_pos hn, dif_pos hn]

/-- On the ninth row the result is the context's. -/
theorem flat_ctx (s : Fin 3) (n : Fin 9) (hn : ¬n.val < 8) (t : Fin 2048) (e : Fin 1024) :
    flat (latR x0) (ctxR x1) (mlR x2) (mcR x3) (wR x4) s n t e
      = proj (fun k => x1 (ix3 (⟨t.val / 256, by omega⟩ : Fin 8) (⟨t.val % 256, by omega⟩ : Fin 256) k)) (fun k => x3 (ix3 0 0 k))
        (fun k => x3 (ix3 0 1 k)) (fun k => x4 (ix2 k (col s e))) := by
  unfold flat stream modul
  rw [dif_neg hn, dif_neg hn]

/-- The queries. -/
theorem ref_queries (n : Fin 9) (t : Fin 2048) (e : Fin 1024) :
    val_main_v88 (F := Ideal) x0 x1 x2 x3 x4 (ix3 n t e) = heads (latR x0) (ctxR x1) (mlR x2) (mcR x3) (wR x4) 0 n t e := by
  unfold val_main_v88 heads
  by_cases hn : n.val < 8
  · rw [join_lat _ _ n hn, if_pos hn]
    unfold val_main_v86 val_main_v72
    rw [join6, ref_v71 x0 x2 x4 _ t _ _ _ _ e (by
      show e.val = e.val / 128 * 128 + e.val / 64 % 2 * 64 + e.val / 32 % 2 * 32 + e.val % 32
      omega)]
    refine congrArg (fun p => turn t.val p e) (funext fun d => ?_)
    rw [ref_v24, flat_lat x0 x1 x2 x3 x4 0 n hn t d]
  · rw [join_ctx _ _ n hn, if_neg hn]
    unfold val_main_v87 val_main_v12
    rw [ctx5, ref_v9, flat_ctx x0 x1 x2 x3 x4 0 n hn t e]

/-- The keys. -/
theorem ref_keys (n : Fin 9) (t : Fin 2048) (e : Fin 1024) :
    val_main_v92 (F := Ideal) x0 x1 x2 x3 x4 (ix3 n t e) = heads (latR x0) (ctxR x1) (mlR x2) (mcR x3) (wR x4) 1 n t e := by
  show val_main_v91 (F := Ideal) x0 x1 x2 x3 x4 (ix3 n t e) = _
  unfold val_main_v91 heads
  by_cases hn : n.val < 8
  · rw [join_lat _ _ n hn, if_pos hn]
    unfold val_main_v89 val_main_v85
    rw [join6, ref_v84 x0 x2 x4 _ t _ _ _ _ e (by
      show e.val = e.val / 128 * 128 + e.val / 64 % 2 * 64 + e.val / 32 % 2 * 32 + e.val % 32
      omega)]
    refine congrArg (fun p => turn t.val p e) (funext fun d => ?_)
    rw [ref_v25, flat_lat x0 x1 x2 x3 x4 1 n hn t d]
  · rw [join_ctx _ _ n hn, if_neg hn]
    unfold val_main_v90 val_main_v13
    rw [ctx5, ref_v10, flat_ctx x0 x1 x2 x3 x4 1 n hn t e]

/-- The values. -/
theorem ref_values (n : Fin 9) (t : Fin 2048) (e : Fin 1024) :
    val_main_v96 (F := Ideal) x0 x1 x2 x3 x4 (ix3 n t e) = flat (latR x0) (ctxR x1) (mlR x2) (mcR x3) (wR x4) 2 n t e := by
  show val_main_v95 (F := Ideal) x0 x1 x2 x3 x4 (ix3 n t e) = _
  unfold val_main_v95
  by_cases hn : n.val < 8
  · rw [join_lat _ _ n hn]
    unfold val_main_v93 val_main_v29
    rw [lat4, ref_v26, flat_lat x0 x1 x2 x3 x4 2 n hn t e]
  · rw [join_ctx _ _ n hn]
    unfold val_main_v94 val_main_v14
    rw [ctx4, ref_v11, flat_ctx x0 x1 x2 x3 x4 2 n hn t e]

end Cert.Qkv

end
-- ==== Proof.QkvValue.lean ====
/-
  The three result arrays of the attention's projections after the kernel's run, and the claim that they are the
  reference's.
-/
module

public import proofs.«01_k».proof.Proof.Gen.Kernel4Ideal.Value
public import proofs.«01_k».proof.Proof.QkvHost
public import proofs.«01_k».proof.Proof.QkvRow
public import proofs.«01_k».proof.Proof.QkvRef
public import proofs.«01_k».proof.Defs

@[expose] public section

set_option maxRecDepth 16384

noncomputable section

namespace Cert.Qkv

open Idealize.ShloMosaic Idealize.ShloMosaic.TcCoe Idealize.SL.Sem
open Idealize.ShloMosaic.Pipeline (Dat)
open Cert.Kernel4Ideal Cert.Kernel4Ideal.Gen

/-! ## The turn by the host's tables -/

/-- Turning by cosines and signed sines is the rotary turn. -/
theorem spin_turn (t : ℕ) (p : Fin 1024 → EReal) (e : Fin 1024) :
    spin p (fun l => Ideal.cos (angle (coord t l.val) (l.val % 16)))
      (fun l => Ideal.sin (angle (coord t l.val) (l.val % 16)) * (if l.val % 32 < 16 then -1 else 1)) e = turn t p e := by
  have h1 : coord t (e.val % 128) = coord t e.val := by
    unfold coord
    rw [show e.val % 128 % 64 = e.val % 64 from by omega]
  have h2 : e.val % 128 % 16 = e.val % 16 := by omega
  have h3 : e.val % 128 % 32 = e.val % 32 := by omega
  unfold spin turn
  show p e * Ideal.cos (angle (coord t (e.val % 128)) (e.val % 128 % 16))
      + p (other e) * (Ideal.sin (angle (coord t (e.val % 128)) (e.val % 128 % 16)) * (if e.val % 128 % 32 < 16 then -1 else 1)) = _
  rw [h1, h2, h3]
  congr 1
  split_ifs
  · rw [mul_neg, mul_one, mul_neg, neg_mul]
  · rw [mul_one]

/-- Turning by ones and zeros changes nothing. -/
theorem spin_id (p : Fin 1024 → EReal) (e : Fin 1024) : spin p (fun _ => 1) (fun _ => 0) e = p e := by
  unfold spin
  rw [mul_one, mul_zero, add_zero]

variable (m : (ℓ : Loc nD τ sig) → Buf (Elt Ideal) ℓ) (c : Dev nD)

/-! ## The result arrays -/

/-- The arguments as functions of their coordinates. -/
abbrev latK (b : Fin 8) (t : Fin 2048) (k : Fin 1024) : EReal := m ((c : Thread nD τ).loc main_arg0) (ix3 b t k)
abbrev ctxK (b : Fin 8) (j : Fin 256) (k : Fin 1024) : EReal := m ((c : Thread nD τ).loc main_arg1) (ix3 b j k)
abbrev mlK (b : Fin 8) (a : Fin 2) (k : Fin 1024) : EReal := m ((c : Thread nD τ).loc main_arg2) (ix3 b a k)
abbrev mcK (a : Fin 2) (k : Fin 1024) : EReal := m ((c : Thread nD τ).loc main_arg3) (ix3 0 a k)
abbrev wK (k : Fin 1024) (d : Fin 3072) : EReal := m ((c : Thread nD τ).loc main_arg4) (ix2 k d)

/-- The queries, the keys and the values. -/
def arrQ : Buf (Elt Ideal) ((c : Thread nD τ).loc main_v49_0) := fun (i : S9x2048x1024.Idx) =>
  heads (latK m c) (ctxK m c) (mlK m c) (mcK m c) (wK m c) 0 (i 0) (i 1) (i 2)
def arrK : Buf (Elt Ideal) ((c : Thread nD τ).loc main_v49_1) := fun (i : S9x2048x1024.Idx) =>
  heads (latK m c) (ctxK m c) (mlK m c) (mcK m c) (wK m c) 1 (i 0) (i 1) (i 2)
def arrV : Buf (Elt Ideal) ((c : Thread nD τ).loc main_v49_2) := fun (i : S9x2048x1024.Idx) =>
  flat (latK m c) (ctxK m c) (mlK m c) (mcK m c) (wK m c) 2 (i 0) (i 1) (i 2)

/-! ## The blocks of a grid point -/

/-- Where each window stands at a grid point: its batch entry, its tile of tokens, or which of the two tables. -/
theorem index0 : ∀ t : Fin grid0.N, win0_0.index t 0 = t.val / 4 ∧ win0_0.index t 1 = t.val % 4 ∧ win0_0.index t 2 = 0 := by
  decide +kernel

theorem index1 : ∀ t : Fin grid0.N, win0_1.index t 0 = t.val / 4 ∧ win0_1.index t 1 = 0 ∧ win0_1.index t 2 = 0 := by
  decide +kernel

theorem index3 : ∀ t : Fin grid0.N, win0_3.index t 0 = t.val / 4 / 8 ∧ win0_3.index t 1 = t.val % 4 ∧ win0_3.index t 2 = 0 := by
  decide +kernel

theorem index4 : ∀ t : Fin grid0.N, win0_4.index t 0 = t.val / 4 / 8 ∧ win0_4.index t 1 = t.val % 4 ∧ win0_4.index t 2 = 0 := by
  decide +kernel

theorem index5 : ∀ t : Fin grid0.N, win0_5.index t 0 = t.val / 4 ∧ win0_5.index t 1 = t.val % 4 ∧ win0_5.index t 2 = 0 := by
  decide +kernel

theorem index6 : ∀ t : Fin grid0.N, win0_6.index t 0 = t.val / 4 ∧ win0_6.index t 1 = t.val % 4 ∧ win0_6.index t 2 = 0 := by
  decide +kernel

theorem index7 : ∀ t : Fin grid0.N, win0_7.index t 0 = t.val / 4 ∧ win0_7.index t 1 = t.val % 4 ∧ win0_7.index t 2 = 0 := by
  decide +kernel

theorem lt36 (t : Fin cfg0.N) : t.val < 36 := lt_of_lt_of_eq t.isLt N_0

/-- The token of row `r` of grid point `t`'s block. -/
abbrev tok (t : Fin cfg0.N) (r : Fin 512) : Fin 2048 := ⟨t.val % 4 * 512 + r.val, by omega⟩

/-- The batch entry of grid point `t`'s block. -/
abbrev bat (t : Fin cfg0.N) : Fin 9 := ⟨t.val / 4, by have h := lt36 t; omega⟩

/-- Which of the two tables grid point `t` reads: the latents' or the context's. -/
abbrev tbl (t : Fin cfg0.N) : Fin 2 := ⟨t.val / 4 / 8, by have h := lt36 t; omega⟩

/-- Grid point `t`'s blocks, entry by entry. -/
theorem blk_x (t : Fin cfg0.N) (r : Fin 512) (k : Fin 1024) :
    iblk m c 0 t (ix3 0 r k) = stream (latK m c) (ctxK m c) (bat t) (tok t r) k := by
  obtain ⟨h0, h1, h2⟩ := index0 t
  refine Eq.trans ?_ (x_apply m c (bat t) (tok t r) k)
  unfold iblk
  rw [View.read_apply]
  refine congrArg (V m c main_v1) ?_
  funext a
  apply Fin.ext
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 1024 + 1 * k.val = k.val; omega

theorem blk_v (t : Fin cfg0.N) (e : Fin 2) (k : Fin 1024) :
    iblk m c 1 t (ix3 0 e k) = modul (mlK m c) (mcK m c) (bat t) e k := by
  obtain ⟨h0, h1, h2⟩ := index1 t
  refine Eq.trans ?_ (v_apply m c (bat t) e k)
  unfold iblk
  rw [View.read_apply]
  refine congrArg (V m c main_v2) ?_
  funext a
  apply Fin.ext
  match a with
  | ⟨0, _⟩ => show win0_1.index t 0 * 1 + 1 * 0 = t.val / 4; omega
  | ⟨1, _⟩ => show win0_1.index t 1 * 2 + 1 * e.val = e.val; omega
  | ⟨2, _⟩ => show win0_1.index t 2 * 1024 + 1 * k.val = k.val; omega

theorem blk_w (t : Fin cfg0.N) (k : Fin 1024) (d : Fin 3072) : iblk m c 2 t (ix2 k d) = wK m c k d := by
  refine Eq.trans ?_ (w_apply m c k d)
  unfold iblk
  rw [View.read_apply]
  refine congrArg (V m c main_v48) ?_
  funext a
  apply Fin.ext
  match a with
  | ⟨0, _⟩ => show 0 * 1024 + 1 * k.val = k.val; omega
  | ⟨1, _⟩ => show 0 * 3072 + 1 * d.val = d.val; omega

theorem blk_c (t : Fin cfg0.N) (r : Fin 512) (l : Fin 128) :
    iblk m c 3 t (ix3 0 r l) = V m c main_v43 (ix3 (tbl t) (tok t r) l) := by
  obtain ⟨h0, h1, h2⟩ := index3 t
  unfold iblk
  rw [View.read_apply]
  refine congrArg (V m c main_v43) ?_
  funext a
  apply Fin.ext
  match a with
  | ⟨0, _⟩ => show win0_3.index t 0 * 1 + 1 * 0 = t.val / 4 / 8; omega
  | ⟨1, _⟩ => show win0_3.index t 1 * 512 + 1 * r.val = t.val % 4 * 512 + r.val; omega
  | ⟨2, _⟩ => show win0_3.index t 2 * 128 + 1 * l.val = l.val; omega

theorem blk_s (t : Fin cfg0.N) (r : Fin 512) (l : Fin 128) :
    iblk m c 4 t (ix3 0 r l) = V m c main_v47 (ix3 (tbl t) (tok t r) l) := by
  obtain ⟨h0, h1, h2⟩ := index4 t
  unfold iblk
  rw [View.read_apply]
  refine congrArg (V m c main_v47) ?_
  funext a
  apply Fin.ext
  match a with
  | ⟨0, _⟩ => show win0_4.index t 0 * 1 + 1 * 0 = t.val / 4 / 8; omega
  | ⟨1, _⟩ => show win0_4.index t 1 * 512 + 1 * r.val = t.val % 4 * 512 + r.val; omega
  | ⟨2, _⟩ => show win0_4.index t 2 * 128 + 1 * l.val = l.val; omega

/-! ## What a grid point leaves -/

/-- A row of the body's product is a row of the results before any turn. -/
theorem prod_flat (t : Fin cfg0.N) (r : Fin 512) (s : Fin 3) :
    prod (iblk m c 0 t) (iblk m c 1 t) (iblk m c 2 t) r s
      = flat (latK m c) (ctxK m c) (mlK m c) (mcK m c) (wK m c) s (bat t) (tok t r) := by
  funext e
  unfold prod flat
  simp only [blk_x, blk_v, blk_w]

/-- Turned by its tables it is a row of the queries or of the keys. -/
theorem spun_heads (t : Fin cfg0.N) (r : Fin 512) (s : Fin 3) (e : Fin 1024) :
    spun (iblk m c 0 t) (iblk m c 1 t) (iblk m c 2 t) (iblk m c 3 t) (iblk m c 4 t) s (ix3 0 r e)
      = heads (latK m c) (ctxK m c) (mlK m c) (mcK m c) (wK m c) s (bat t) (tok t r) e := by
  show spin (prod (iblk m c 0 t) (iblk m c 1 t) (iblk m c 2 t) r s) (fun l => iblk m c 3 t (ix3 0 r l))
    (fun l => iblk m c 4 t (ix3 0 r l)) e = _
  rw [prod_flat]
  unfold heads
  by_cases h : t.val / 4 < 8
  · rw [if_pos h, ← spin_turn]
    refine congrArg₂ (fun a b => spin _ a b e) (funext fun l => ?_) (funext fun l => ?_)
    · exact (blk_c m c t r l).trans (cos_lat m c (tbl t) (by show t.val / 4 / 8 = 0; omega) (tok t r) l)
    · exact (blk_s m c t r l).trans (sin_lat m c (tbl t) (by show t.val / 4 / 8 = 0; omega) (tok t r) l)
  · have h36 := lt36 t
    rw [if_neg h]
    refine Eq.trans ?_ (spin_id _ e)
    refine congrArg₂ (fun a b => spin _ a b e) (funext fun l => ?_) (funext fun l => ?_)
    · exact (blk_c m c t r l).trans (cos_ctx m c (tbl t) (by show t.val / 4 / 8 = 1; omega) (tok t r) l)
    · exact (blk_s m c t r l).trans (sin_ctx m c (tbl t) (by show t.val / 4 / 8 = 1; omega) (tok t r) l)

/-- What grid point `t` writes back of the queries is its block of the array. -/
theorem flushedQ (t : Fin cfg0.N) : (dats m 0 c).flushed 5 t = ((cfg0.win 5).blk t).view.read (Elt Ideal) (arrQ m c) := by
  obtain ⟨h0, h1, h2⟩ := index5 t
  rw [Value.flushed5 m c t]
  funext j
  obtain ⟨j0, r, d, rfl⟩ : ∃ (a : Fin 1) (r : Fin 512) (d : Fin 1024), j = ix3 a r d :=
    ⟨j 0, j 1, j 2, by funext a; fin_cases a <;> rfl⟩
  obtain rfl : j0 = 0 := Subsingleton.elim _ _
  rw [View.read_apply]
  refine (congrFun (out5 _ _ _ _ _) (ix3 0 r d)).trans ?_
  refine (spun_heads m c t r 0 d).trans ?_
  rw [show ((cfg0.win 5).blk t).view.emb (ix3 0 r d) = (ix3 (bat t) (tok t r) d : S9x2048x1024.Idx) from by
    funext a
    apply Fin.ext
    match a with
    | ⟨0, _⟩ => show win0_5.index t 0 * 1 + 1 * 0 = t.val / 4; omega
    | ⟨1, _⟩ => show win0_5.index t 1 * 512 + 1 * r.val = t.val % 4 * 512 + r.val; omega
    | ⟨2, _⟩ => show win0_5.index t 2 * 1024 + 1 * d.val = d.val; omega]
  rfl

/-- The blocks fill the array. -/
theorem coverQ (i : S9x2048x1024.Idx) : ∃ t : Fin cfg0.N, (cfg0.win 5).flush t = true ∧ i ∈ ((cfg0.win 5).blk t).view.set := by
  have i0 : (i 0 : Nat) < 9 := (i 0).isLt
  have i1 : (i 1 : Nat) < 2048 := (i 1).isLt
  have i2 : (i 2 : Nat) < 1024 := (i 2).isLt
  have hN : grid0.N = 36 := N_0
  let t : Fin grid0.N := ⟨(i 0 : Nat) * 4 + (i 1 : Nat) / 512, by omega⟩
  have ht : t.val = (i 0 : Nat) * 4 + (i 1 : Nat) / 512 := rfl
  obtain ⟨h0, h1, h2⟩ := index5 t
  refine ⟨t, flush0_5 t, ?_⟩
  show i ∈ ((View.whole main_v49_0).slice (win0_5.rect t)).set
  rw [View.set_slice_whole, Rect.mem_set_unit]
  intro a
  match a with
  | ⟨0, _⟩ => show win0_5.index t 0 * 1 ≤ (i 0 : Nat) ∧ (i 0 : Nat) < win0_5.index t 0 * 1 + 1; omega
  | ⟨1, _⟩ => show win0_5.index t 1 * 512 ≤ (i 1 : Nat) ∧ (i 1 : Nat) < win0_5.index t 1 * 512 + 512; omega
  | ⟨2, _⟩ => show win0_5.index t 2 * 1024 ≤ (i 2 : Nat) ∧ (i 2 : Nat) < win0_5.index t 2 * 1024 + 1024; omega

/-- So the array ends holding the queries. -/
theorem finalQ : (dats m 0 c).arrAt 5 cfg0.N = arrQ m c :=
  (dats m 0 c).arrAt_eq_of_cover 5 (arrQ m c) (fun t _ => flushedQ m c t) coverQ

/-- What grid point `t` writes back of the keys is its block of the array. -/
theorem flushedK (t : Fin cfg0.N) : (dats m 0 c).flushed 6 t = ((cfg0.win 6).blk t).view.read (Elt Ideal) (arrK m c) := by
  obtain ⟨h0, h1, h2⟩ := index6 t
  rw [Value.flushed6 m c t]
  funext j
  obtain ⟨j0, r, d, rfl⟩ : ∃ (a : Fin 1) (r : Fin 512) (d : Fin 1024), j = ix3 a r d :=
    ⟨j 0, j 1, j 2, by funext a; fin_cases a <;> rfl⟩
  obtain rfl : j0 = 0 := Subsingleton.elim _ _
  rw [View.read_apply]
  refine (congrFun (out6 _ _ _ _ _) (ix3 0 r d)).trans ?_
  refine (spun_heads m c t r 1 d).trans ?_
  rw [show ((cfg0.win 6).blk t).view.emb (ix3 0 r d) = (ix3 (bat t) (tok t r) d : S9x2048x1024.Idx) from by
    funext a
    apply Fin.ext
    match a with
    | ⟨0, _⟩ => show win0_6.index t 0 * 1 + 1 * 0 = t.val / 4; omega
    | ⟨1, _⟩ => show win0_6.index t 1 * 512 + 1 * r.val = t.val % 4 * 512 + r.val; omega
    | ⟨2, _⟩ => show win0_6.index t 2 * 1024 + 1 * d.val = d.val; omega]
  rfl

/-- The blocks fill the array. -/
theorem coverK (i : S9x2048x1024.Idx) : ∃ t : Fin cfg0.N, (cfg0.win 6).flush t = true ∧ i ∈ ((cfg0.win 6).blk t).view.set := by
  have i0 : (i 0 : Nat) < 9 := (i 0).isLt
  have i1 : (i 1 : Nat) < 2048 := (i 1).isLt
  have i2 : (i 2 : Nat) < 1024 := (i 2).isLt
  have hN : grid0.N = 36 := N_0
  let t : Fin grid0.N := ⟨(i 0 : Nat) * 4 + (i 1 : Nat) / 512, by omega⟩
  have ht : t.val = (i 0 : Nat) * 4 + (i 1 : Nat) / 512 := rfl
  obtain ⟨h0, h1, h2⟩ := index6 t
  refine ⟨t, flush0_6 t, ?_⟩
  show i ∈ ((View.whole main_v49_1).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; omega
  | ⟨1, _⟩ => show win0_6.index t 1 * 512 ≤ (i 1 : Nat) ∧ (i 1 : Nat) < win0_6.index t 1 * 512 + 512; omega
  | ⟨2, _⟩ => show win0_6.index t 2 * 1024 ≤ (i 2 : Nat) ∧ (i 2 : Nat) < win0_6.index t 2 * 1024 + 1024; omega

/-- So the array ends holding the keys. -/
theorem finalK : (dats m 0 c).arrAt 6 cfg0.N = arrK m c :=
  (dats m 0 c).arrAt_eq_of_cover 6 (arrK m c) (fun t _ => flushedK m c t) coverK

/-- What grid point `t` writes back of the values is its block of the array. -/
theorem flushedV (t : Fin cfg0.N) : (dats m 0 c).flushed 7 t = ((cfg0.win 7).blk t).view.read (Elt Ideal) (arrV m c) := by
  obtain ⟨h0, h1, h2⟩ := index7 t
  rw [Value.flushed7 m c t]
  funext j
  obtain ⟨j0, r, d, rfl⟩ : ∃ (a : Fin 1) (r : Fin 512) (d : Fin 1024), j = ix3 a r d :=
    ⟨j 0, j 1, j 2, by funext a; fin_cases a <;> rfl⟩
  obtain rfl : j0 = 0 := Subsingleton.elim _ _
  rw [View.read_apply]
  refine (out7 _ _ _ _ _ r d).trans ?_
  refine (congrFun (prod_flat m c t r 2) d).trans ?_
  rw [show ((cfg0.win 7).blk t).view.emb (ix3 0 r d) = (ix3 (bat t) (tok t r) d : S9x2048x1024.Idx) from by
    funext a
    apply Fin.ext
    match a with
    | ⟨0, _⟩ => show win0_7.index t 0 * 1 + 1 * 0 = t.val / 4; omega
    | ⟨1, _⟩ => show win0_7.index t 1 * 512 + 1 * r.val = t.val % 4 * 512 + r.val; omega
    | ⟨2, _⟩ => show win0_7.index t 2 * 1024 + 1 * d.val = d.val; omega]
  rfl

/-- The blocks fill the array. -/
theorem coverV (i : S9x2048x1024.Idx) : ∃ t : Fin cfg0.N, (cfg0.win 7).flush t = true ∧ i ∈ ((cfg0.win 7).blk t).view.set := by
  have i0 : (i 0 : Nat) < 9 := (i 0).isLt
  have i1 : (i 1 : Nat) < 2048 := (i 1).isLt
  have i2 : (i 2 : Nat) < 1024 := (i 2).isLt
  have hN : grid0.N = 36 := N_0
  let t : Fin grid0.N := ⟨(i 0 : Nat) * 4 + (i 1 : Nat) / 512, by omega⟩
  have ht : t.val = (i 0 : Nat) * 4 + (i 1 : Nat) / 512 := rfl
  obtain ⟨h0, h1, h2⟩ := index7 t
  refine ⟨t, flush0_7 t, ?_⟩
  show i ∈ ((View.whole main_v49_2).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; omega
  | ⟨1, _⟩ => show win0_7.index t 1 * 512 ≤ (i 1 : Nat) ∧ (i 1 : Nat) < win0_7.index t 1 * 512 + 512; omega
  | ⟨2, _⟩ => show win0_7.index t 2 * 1024 ≤ (i 2 : Nat) ∧ (i 2 : Nat) < win0_7.index t 2 * 1024 + 1024; omega

/-- So the array ends holding the values. -/
theorem finalV : (dats m 0 c).arrAt 7 cfg0.N = arrV m c :=
  (dats m 0 c).arrAt_eq_of_cover 7 (arrV m c) (fun t _ => flushedV m c t) coverV

/-! ## The claim -/

/-- From equal arguments the kernel and the reference end with equal queries, keys and values, arguments unchanged. -/
theorem algebraic : algebraic_Kernel4Ideal_Reference4Ideal := by
  intro m g m' g' _ h
  refine ⟨arrQ m, arrK m, arrV m, ?_, ?_⟩
  · refine (θ_run _ _ _).mono (fun r hr c => ?_) (Cert.Kernel4Ideal.Value.run_blocks m g)
    obtain ⟨h0, h1, h2, hr⟩ := hr c
    exact ⟨h0.trans (finalQ m c), h1.trans (finalK m c), h2.trans (finalV m c), hr⟩
  · refine (θ_run _ _ _).mono (fun r hr c => ?_) (Cert.Reference4Ideal.Value.run m' g')
    obtain ⟨h0, h1, h2, hr⟩ := hr c
    obtain ⟨e0, e1, e2, e3, e4⟩ := h c
    refine ⟨h0.trans ?_, h1.trans ?_, h2.trans ?_, hr⟩
    · rw [Cert.Reference4Ideal.Read.val_main_v88_eq]
      rw [e0, e1, e2, e3, e4]
      funext i
      obtain ⟨n, t, e, rfl⟩ : ∃ (n : Fin 9) (t : Fin 2048) (e : Fin 1024), i = ix3 n t e :=
        ⟨i 0, i 1, i 2, by funext a; fin_cases a <;> rfl⟩
      exact ref_queries _ _ _ _ _ n t e
    · rw [Cert.Reference4Ideal.Read.val_main_v92_eq]
      rw [e0, e1, e2, e3, e4]
      funext i
      obtain ⟨n, t, e, rfl⟩ : ∃ (n : Fin 9) (t : Fin 2048) (e : Fin 1024), i = ix3 n t e :=
        ⟨i 0, i 1, i 2, by funext a; fin_cases a <;> rfl⟩
      exact ref_keys _ _ _ _ _ n t e
    · rw [Cert.Reference4Ideal.Read.val_main_v96_eq]
      rw [e0, e1, e2, e3, e4]
      funext i
      obtain ⟨n, t, e, rfl⟩ : ∃ (n : Fin 9) (t : Fin 2048) (e : Fin 1024), i = ix3 n t e :=
        ⟨i 0, i 1, i 2, by funext a; fin_cases a <;> rfl⟩
      exact ref_values _ _ _ _ _ n t e

end Cert.Qkv

end
-- ==== Proof.HyenaIn.lean ====
/-
  Hyena's input projection, one row at a time: a row of the result depends on one row of the stream, on the shift and the
  scale of its batch entry and on the weights. `out_apply` says that one grid point of the kernel leaves these rows in its
  block of the result, `ref_apply` that the reference's result has these rows, `algebraic` is the claim.
-/
module

public import proofs.«01_k».proof.Proof.Gen.Kernel5Ideal.Value
public import proofs.«01_k».proof.Proof.Gen.Reference5Ideal.Read
public import proofs.«01_k».proof.Proof.Proj
public import proofs.«01_k».proof.Defs
public import Idealize.ShloMosaic.Lib.Pointwise
public import Idealize.ShloMosaic.Lib.Tactic

@[expose] public section

set_option maxRecDepth 16384

noncomputable section

namespace Cert.HyenaIn

open Idealize.ShloMosaic

/-- One entry of a row of the result: the modulated row of the stream times a column of the weights, plus the bias. -/
def row (x sh sc : Fin 1024 → EReal) (w : Fin 1024 → Fin 3072 → EReal) (b : Fin 3072 → EReal) (d : Fin 3072) : EReal :=
  (∑ k : Fin 1024, (x k * (1 + sc k) + sh k) * w k d) + b d

section Reference

open Cert.Reference5Ideal Cert.Reference5Ideal.Gen Cert.Reference5Ideal.Read

variable (x0 : (⟨S9x2048x1024, .f32⟩ : BufTy).Contents (Elt Ideal)) (x1 : (⟨S9x2x1024, .f32⟩ : BufTy).Contents (Elt Ideal))
  (x2 : (⟨S1024x3072, .f32⟩ : BufTy).Contents (Elt Ideal)) (x3 : (⟨S3072, .f32⟩ : BufTy).Contents (Elt Ideal))

/-- The reference's result at an index: the row of the index's batch entry and token. -/
theorem ref_apply (b : Fin 9) (t : Fin 2048) (d : Fin 3072) :
    val_main_v11 (F := Ideal) x0 x1 x2 x3 (ix3 b t d) = row (fun k => x0 (ix3 b t k)) (fun k => x1 (ix3 b 0 k))
      (fun k => x1 (ix3 b 1 k)) (fun k d => x2 (ix2 k d)) (fun k => x3 (ix1 k)) d := by
  pointwise [val_main_v11, val_main_v10, val_main_v9, val_main_v8, val_main_v7, val_main_v6, val_main_v5, val_main_v4, val_main_v3, val_main_v2, val_main_v1,
    val_main_v0, val_main_cst, row]

end Reference

open Idealize.ShloMosaic.TcCoe Idealize.SL.Sem
open Idealize.ShloMosaic.Pipeline (Dat)
open Cert.Kernel5Ideal Cert.Kernel5Ideal.Gen

/-- The kernel's payload. -/
theorem payload_apply (v : Vec Ideal S1x2x1024 .f32) (x : Vec Ideal S1x512x1024 .f32) (w : Vec Ideal S1024x3072 .bf16)
    (b : Vec Ideal S1x3072 .f32) (r : Fin 512) (d : Fin 3072) :
    k0_pay1 v x w b (ix3 0 r d)
      = (∑ k : Fin 1024, (x (ix3 0 r k) * (1 + v (ix3 0 1 k)) + v (ix3 0 0 k)) * w (ix2 k d)) + b (ix2 0 d) := by
  pointwise [k0_pay1]

/-- A grid point leaves, at row `r` and column `d` of its block, the row of the blocks it has loaded. -/
theorem out_apply (x : Vec Ideal S1x512x1024 .f32) (v : Vec Ideal S1x2x1024 .f32) (w : Vec Ideal S1024x3072 .bf16)
    (b : Vec Ideal S1x3072 .f32) (r : Fin 512) (d : Fin 3072) :
    out0_4 x v w b (ix3 0 r d)
      = (∑ k : Fin 1024, (x (ix3 0 r k) * (1 + v (ix3 0 1 k)) + v (ix3 0 0 k)) * w (ix2 k d)) + b (ix2 0 d) := by
  unfold out0_4 r0_0 r0_1 r0_2 r0_3 r0_4
  rw [View.canon_unit_zero Proj.hz3]
  simp only [View.ld_unit_zero (S := S1x512x1024) Proj.hz3, View.ld_unit_zero (S := S1x2x1024) Proj.hz3,
    View.ld_unit_zero (S := S1024x3072) Proj.hz2, View.ld_unit_zero (S := S1x3072) Proj.hz2]
  exact payload_apply v x w b r d

variable (m : (ℓ : Loc nD τ sig) → Buf (Elt Ideal) ℓ) (c : Dev nD)

/-- The result array: at each index the row of its batch entry and token. -/
def arr : Buf (Elt Ideal) ((c : Thread nD τ).loc main_v2) := fun (i : S9x2048x3072.Idx) =>
  row (fun k => m ((c : Thread nD τ).loc main_arg0) (ix3 (i 0) (i 1) k)) (fun k => m ((c : Thread nD τ).loc main_arg1) (ix3 (i 0) 0 k))
    (fun k => m ((c : Thread nD τ).loc main_arg1) (ix3 (i 0) 1 k)) (fun k d => m ((c : Thread nD τ).loc main_arg2) (ix2 k d))
    (fun k => m ((c : Thread nD τ).loc main_arg3) (ix1 k)) (i 2)

/-- The bias as the launch finds it: the argument as a row. -/
theorem b_apply (k : Fin 3072) : V m c main_v1 (ix2 0 k) = m ((c : Thread nD τ).loc main_arg3) (ix1 k) := by
  show shapeCast _ _ _ _ = _
  pointwise

/-- Where the blocks of the stream, of its modulation and of the result lie at grid point `t`. -/
theorem index0 : ∀ t : Fin grid0.N, win0_0.index t 0 = t.val / 4 ∧ win0_0.index t 1 = t.val % 4 ∧ win0_0.index t 2 = 0 := by
  decide +kernel

theorem index1 : ∀ t : Fin grid0.N, win0_1.index t 0 = t.val / 4 ∧ win0_1.index t 1 = 0 ∧ win0_1.index t 2 = 0 := by
  decide +kernel

theorem index4 : ∀ t : Fin grid0.N, win0_4.index t 0 = t.val / 4 ∧ win0_4.index t 1 = t.val % 4 ∧ win0_4.index t 2 = 0 := by
  decide +kernel

/-- The token of row `r` of grid point `t`'s block. -/
abbrev tok (t : Fin cfg0.N) (r : Fin 512) : Fin 2048 := ⟨t.val % 4 * 512 + r.val, by omega⟩

/-- The batch entry of grid point `t`'s block. -/
abbrev bat (t : Fin cfg0.N) : Fin 9 := ⟨t.val / 4, by have h : t.val < 36 := lt_of_lt_of_eq t.isLt N_0; omega⟩

/-- Grid point `t`'s blocks, entry by entry, as entries of the arguments. -/
theorem blk_x (t : Fin cfg0.N) (r : Fin 512) (k : Fin 1024) :
    iblk m c 0 t (ix3 0 r k) = m ((c : Thread nD τ).loc main_arg0) (ix3 (bat t) (tok t r) k) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 1024 + 1 * k.val = k.val; omega

theorem blk_v (t : Fin cfg0.N) (e : Fin 2) (k : Fin 1024) :
    iblk m c 1 t (ix3 0 e k) = m ((c : Thread nD τ).loc main_arg1) (ix3 (bat t) e k) := by
  obtain ⟨h0, h1, h2⟩ := index1 t
  unfold iblk
  rw [View.read_apply]
  show V m c main_arg1 _ = _
  rw [V_main_arg1]
  congr 1
  funext a
  apply Fin.ext
  match a with
  | ⟨0, _⟩ => show win0_1.index t 0 * 1 + 1 * 0 = t.val / 4; omega
  | ⟨1, _⟩ => show win0_1.index t 1 * 2 + 1 * e.val = e.val; omega
  | ⟨2, _⟩ => show win0_1.index t 2 * 1024 + 1 * k.val = k.val; omega

theorem blk_w (t : Fin cfg0.N) (k : Fin 1024) (d : Fin 3072) :
    iblk m c 2 t (ix2 k d) = m ((c : Thread nD τ).loc main_arg2) (ix2 k d) := by
  unfold iblk
  rw [View.read_apply]
  show m ((c : Thread nD τ).loc main_arg2) _ = _
  congr 1
  funext a
  apply Fin.ext
  match a with
  | ⟨0, _⟩ => show 0 * 1024 + 1 * k.val = k.val; omega
  | ⟨1, _⟩ => show 0 * 3072 + 1 * d.val = d.val; omega

/-- The only row of a block of one row, read at column `k`. -/
theorem vec_at (k : Fin 3072) (j : S1x3072.Idx) (h : (j 1).val = 0 * 3072 + 1 * k.val) : j = ix2 0 k := by
  funext a
  match a with
  | ⟨0, _⟩ => exact Subsingleton.elim (α := Fin 1) _ _
  | ⟨1, _⟩ => exact Fin.ext (by show (j 1).val = k.val; omega)

theorem blk_b (t : Fin cfg0.N) (k : Fin 3072) : iblk m c 3 t (ix2 0 k) = m ((c : Thread nD τ).loc main_arg3) (ix1 k) := by
  refine Eq.trans ?_ (b_apply m c k)
  unfold iblk
  rw [View.read_apply]
  exact congrArg (V m c main_v1) (vec_at k _ rfl)

/-- What grid point `t` writes back is its block of the result array. -/
theorem flushed (t : Fin cfg0.N) : (dats m 0 c).flushed 4 t = ((cfg0.win 4).blk t).view.read (Elt Ideal) (arr m c) := by
  obtain ⟨h0, h1, h2⟩ := index4 t
  rw [Value.flushed4 m c t]
  funext j
  obtain ⟨j0, r, d, rfl⟩ : ∃ (a : Fin 1) (r : Fin 512) (d : Fin 3072), j = ix3 a r d :=
    ⟨j 0, j 1, j 2, by funext a; fin_cases a <;> rfl⟩
  obtain rfl : j0 = 0 := Subsingleton.elim _ _
  rw [View.read_apply]
  refine (out_apply _ _ _ _ r d).trans ?_
  simp only [blk_x, blk_v, blk_w, blk_b]
  rw [show ((cfg0.win 4).blk t).view.emb (ix3 0 r d) = (ix3 (bat t) (tok t r) d : S9x2048x3072.Idx) from by
    funext a
    apply Fin.ext
    match a with
    | ⟨0, _⟩ => show win0_4.index t 0 * 1 + 1 * 0 = t.val / 4; omega
    | ⟨1, _⟩ => show win0_4.index t 1 * 512 + 1 * r.val = t.val % 4 * 512 + r.val; omega
    | ⟨2, _⟩ => show win0_4.index t 2 * 3072 + 1 * d.val = d.val; omega]
  rfl

/-- The blocks fill the result array. -/
theorem cover (i : S9x2048x3072.Idx) : ∃ t : Fin cfg0.N, (cfg0.win 4).flush t = true ∧ i ∈ ((cfg0.win 4).blk t).view.set := by
  have i0 : (i 0 : Nat) < 9 := (i 0).isLt
  have i1 : (i 1 : Nat) < 2048 := (i 1).isLt
  have i2 : (i 2 : Nat) < 3072 := (i 2).isLt
  have hN : grid0.N = 36 := N_0
  let t : Fin grid0.N := ⟨(i 0 : Nat) * 4 + (i 1 : Nat) / 512, by omega⟩
  have ht : t.val = (i 0 : Nat) * 4 + (i 1 : Nat) / 512 := rfl
  obtain ⟨h0, h1, h2⟩ := index4 t
  refine ⟨t, flush0_4 t, ?_⟩
  show i ∈ ((View.whole main_v2).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1; omega
  | ⟨1, _⟩ => show win0_4.index t 1 * 512 ≤ (i 1 : Nat) ∧ (i 1 : Nat) < win0_4.index t 1 * 512 + 512; omega
  | ⟨2, _⟩ => show win0_4.index t 2 * 3072 ≤ (i 2 : Nat) ∧ (i 2 : Nat) < win0_4.index t 2 * 3072 + 3072; omega

/-- So the result array ends holding these rows. -/
theorem final : (dats m 0 c).arrAt 4 cfg0.N = arr m c :=
  (dats m 0 c).arrAt_eq_of_cover 4 (arr m c) (fun t _ => flushed m c t) cover

/-- The claim: from equal arguments the kernel and the reference end with equal results, arguments unchanged. -/
theorem algebraic : algebraic_Kernel5Ideal_Reference5Ideal := by
  intro m g m' g' _ h
  refine ⟨arr m, ?_, ?_⟩
  · refine (θ_run _ _ _).mono (fun r hr c => ?_) (Cert.Kernel5Ideal.Value.run_blocks m g)
    obtain ⟨h0, hr⟩ := hr c
    exact ⟨h0.trans (final m c), hr⟩
  · refine (θ_run _ _ _).mono (fun r hr c => ?_) (Cert.Reference5Ideal.Value.run m' g')
    obtain ⟨h0, hr⟩ := hr c
    obtain ⟨e0, e1, e2, e3⟩ := h c
    refine ⟨h0.trans ?_, hr⟩
    rw [Cert.Reference5Ideal.Read.val_main_v11_eq]
    rw [e0, e1, e2, e3]
    funext i
    obtain ⟨b, t, d, rfl⟩ : ∃ (b : Fin 9) (t : Fin 2048) (d : Fin 3072), i = ix3 b t d :=
      ⟨i 0, i 1, i 2, by funext a; fin_cases a <;> rfl⟩
    exact ref_apply _ _ _ _ b t d

end Cert.HyenaIn

end
-- ==== Proof.SsdIn.lean ====
/-
  The SSD mixer's input projection, one row at a time: a row of the result depends on one row of the stream, on the shift and the
  scale of its batch entry and on the weights. `out_apply` says that one grid point of the kernel leaves these rows in its
  block of the result, `ref_apply` that the reference's result has these rows, `algebraic` is the claim.
-/
module

public import proofs.«01_k».proof.Proof.Gen.Kernel6Ideal.Value
public import proofs.«01_k».proof.Proof.Gen.Reference6Ideal.Read
public import proofs.«01_k».proof.Proof.Proj
public import proofs.«01_k».proof.Defs
public import Idealize.ShloMosaic.Lib.Pointwise
public import Idealize.ShloMosaic.Lib.Tactic

@[expose] public section

set_option maxRecDepth 16384

noncomputable section

namespace Cert.SsdIn

open Idealize.ShloMosaic

/-- One entry of a row of the result: the modulated row of the stream times a column of the weights. -/
def row (x sh sc : Fin 1024 → EReal) (w : Fin 1024 → Fin 5632 → EReal) (d : Fin 5632) : EReal :=
  (∑ k : Fin 1024, (x k * (1 + sc k) + sh k) * w k d)

section Reference

open Cert.Reference6Ideal Cert.Reference6Ideal.Gen Cert.Reference6Ideal.Read

variable (x0 : (⟨S9x2048x1024, .f32⟩ : BufTy).Contents (Elt Ideal)) (x1 : (⟨S9x2x1024, .f32⟩ : BufTy).Contents (Elt Ideal))
  (x2 : (⟨S1024x5632, .f32⟩ : BufTy).Contents (Elt Ideal))

/-- The reference's result at an index: the row of the index's batch entry and token. -/
theorem ref_apply (b : Fin 9) (t : Fin 2048) (d : Fin 5632) :
    val_main_v8 (F := Ideal) x0 x1 x2 (ix3 b t d) = row (fun k => x0 (ix3 b t k)) (fun k => x1 (ix3 b 0 k))
      (fun k => x1 (ix3 b 1 k)) (fun k d => x2 (ix2 k d)) d := by
  pointwise [val_main_v8, val_main_v7, val_main_v6, val_main_v5, val_main_v4, val_main_v3, val_main_v2, val_main_v1,
    val_main_v0, val_main_cst, row]

end Reference

open Idealize.ShloMosaic.TcCoe Idealize.SL.Sem
open Idealize.ShloMosaic.Pipeline (Dat)
open Cert.Kernel6Ideal Cert.Kernel6Ideal.Gen

/-- The kernel's payload. -/
theorem payload_apply (v : Vec Ideal S1x2x1024 .f32) (x : Vec Ideal S1x512x1024 .f32) (w : Vec Ideal S1024x5632 .bf16)
    (b : Vec Ideal S1x5632 .f32) (r : Fin 512) (d : Fin 5632) :
    k0_pay1 v x w b (ix3 0 r d)
      = (∑ k : Fin 1024, (x (ix3 0 r k) * (1 + v (ix3 0 1 k)) + v (ix3 0 0 k)) * w (ix2 k d)) + b (ix2 0 d) := by
  pointwise [k0_pay1]

/-- A grid point leaves, at row `r` and column `d` of its block, the row of the blocks it has loaded. -/
theorem out_apply (x : Vec Ideal S1x512x1024 .f32) (v : Vec Ideal S1x2x1024 .f32) (w : Vec Ideal S1024x5632 .bf16)
    (b : Vec Ideal S1x5632 .f32) (r : Fin 512) (d : Fin 5632) :
    out0_4 x v w b (ix3 0 r d)
      = (∑ k : Fin 1024, (x (ix3 0 r k) * (1 + v (ix3 0 1 k)) + v (ix3 0 0 k)) * w (ix2 k d)) + b (ix2 0 d) := by
  unfold out0_4 r0_0 r0_1 r0_2 r0_3 r0_4
  rw [View.canon_unit_zero Proj.hz3]
  simp only [View.ld_unit_zero (S := S1x512x1024) Proj.hz3, View.ld_unit_zero (S := S1x2x1024) Proj.hz3,
    View.ld_unit_zero (S := S1024x5632) Proj.hz2, View.ld_unit_zero (S := S1x5632) Proj.hz2]
  exact payload_apply v x w b r d

variable (m : (ℓ : Loc nD τ sig) → Buf (Elt Ideal) ℓ) (c : Dev nD)

/-- The result array: at each index the row of its batch entry and token. -/
def arr : Buf (Elt Ideal) ((c : Thread nD τ).loc main_v3) := fun (i : S9x2048x5632.Idx) =>
  row (fun k => m ((c : Thread nD τ).loc main_arg0) (ix3 (i 0) (i 1) k)) (fun k => m ((c : Thread nD τ).loc main_arg1) (ix3 (i 0) 0 k))
    (fun k => m ((c : Thread nD τ).loc main_arg1) (ix3 (i 0) 1 k)) (fun k d => m ((c : Thread nD τ).loc main_arg2) (ix2 k d))
    (i 2)

/-- The bias as the launch finds it: zero. -/
theorem b_apply (k : Fin 5632) : V m c main_v2 (ix2 0 k) = (0 : EReal) := by
  show shapeCast S1x5632 (broadcastInDim S5632 ![] bcast_S_S5632 (constant (F := Ideal) S_ .f32 0x00000000#32)) shapeCasts_S5632_S1x5632 (ix2 0 k) = _
  pointwise

/-- Where the blocks of the stream, of its modulation and of the result lie at grid point `t`. -/
theorem index0 : ∀ t : Fin grid0.N, win0_0.index t 0 = t.val / 4 ∧ win0_0.index t 1 = t.val % 4 ∧ win0_0.index t 2 = 0 := by
  decide +kernel

theorem index1 : ∀ t : Fin grid0.N, win0_1.index t 0 = t.val / 4 ∧ win0_1.index t 1 = 0 ∧ win0_1.index t 2 = 0 := by
  decide +kernel

theorem index4 : ∀ t : Fin grid0.N, win0_4.index t 0 = t.val / 4 ∧ win0_4.index t 1 = t.val % 4 ∧ win0_4.index t 2 = 0 := by
  decide +kernel

/-- The token of row `r` of grid point `t`'s block. -/
abbrev tok (t : Fin cfg0.N) (r : Fin 512) : Fin 2048 := ⟨t.val % 4 * 512 + r.val, by omega⟩

/-- The batch entry of grid point `t`'s block. -/
abbrev bat (t : Fin cfg0.N) : Fin 9 := ⟨t.val / 4, by have h : t.val < 36 := lt_of_lt_of_eq t.isLt N_0; omega⟩

/-- Grid point `t`'s blocks, entry by entry, as entries of the arguments. -/
theorem blk_x (t : Fin cfg0.N) (r : Fin 512) (k : Fin 1024) :
    iblk m c 0 t (ix3 0 r k) = m ((c : Thread nD τ).loc main_arg0) (ix3 (bat t) (tok t r) k) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 4; omega
  | ⟨1, _⟩ => show win0_0.index t 1 * 512 + 1 * r.val = t.val % 4 * 512 + r.val; omega
  | ⟨2, _⟩ => show win0_0.index t 2 * 1024 + 1 * k.val = k.val; omega

theorem blk_v (t : Fin cfg0.N) (e : Fin 2) (k : Fin 1024) :
    iblk m c 1 t (ix3 0 e k) = m ((c : Thread nD τ).loc main_arg1) (ix3 (bat t) e k) := by
  obtain ⟨h0, h1, h2⟩ := index1 t
  unfold iblk
  rw [View.read_apply]
  show V m c main_arg1 _ = _
  rw [V_main_arg1]
  congr 1
  funext a
  apply Fin.ext
  match a with
  | ⟨0, _⟩ => show win0_1.index t 0 * 1 + 1 * 0 = t.val / 4; omega
  | ⟨1, _⟩ => show win0_1.index t 1 * 2 + 1 * e.val = e.val; omega
  | ⟨2, _⟩ => show win0_1.index t 2 * 1024 + 1 * k.val = k.val; omega

theorem blk_w (t : Fin cfg0.N) (k : Fin 1024) (d : Fin 5632) :
    iblk m c 2 t (ix2 k d) = m ((c : Thread nD τ).loc main_arg2) (ix2 k d) := by
  unfold iblk
  rw [View.read_apply]
  show m ((c : Thread nD τ).loc main_arg2) _ = _
  congr 1
  funext a
  apply Fin.ext
  match a with
  | ⟨0, _⟩ => show 0 * 1024 + 1 * k.val = k.val; omega
  | ⟨1, _⟩ => show 0 * 5632 + 1 * d.val = d.val; omega

/-- The only row of a block of one row, read at column `k`. -/
theorem vec_at (k : Fin 5632) (j : S1x5632.Idx) (h : (j 1).val = 0 * 5632 + 1 * k.val) : j = ix2 0 k := by
  funext a
  match a with
  | ⟨0, _⟩ => exact Subsingleton.elim (α := Fin 1) _ _
  | ⟨1, _⟩ => exact Fin.ext (by show (j 1).val = k.val; omega)

theorem blk_b (t : Fin cfg0.N) (k : Fin 5632) : iblk m c 3 t (ix2 0 k) = (0 : EReal) := by
  refine Eq.trans ?_ (b_apply m c k)
  unfold iblk
  rw [View.read_apply]
  exact congrArg (V m c main_v2) (vec_at k _ rfl)

/-- What grid point `t` writes back is its block of the result array. -/
theorem flushed (t : Fin cfg0.N) : (dats m 0 c).flushed 4 t = ((cfg0.win 4).blk t).view.read (Elt Ideal) (arr m c) := by
  obtain ⟨h0, h1, h2⟩ := index4 t
  rw [Value.flushed4 m c t]
  funext j
  obtain ⟨j0, r, d, rfl⟩ : ∃ (a : Fin 1) (r : Fin 512) (d : Fin 5632), j = ix3 a r d :=
    ⟨j 0, j 1, j 2, by funext a; fin_cases a <;> rfl⟩
  obtain rfl : j0 = 0 := Subsingleton.elim _ _
  rw [View.read_apply]
  refine (out_apply _ _ _ _ r d).trans ?_
  simp only [blk_x, blk_v, blk_w, blk_b, add_zero]
  rw [show ((cfg0.win 4).blk t).view.emb (ix3 0 r d) = (ix3 (bat t) (tok t r) d : S9x2048x5632.Idx) from by
    funext a
    apply Fin.ext
    match a with
    | ⟨0, _⟩ => show win0_4.index t 0 * 1 + 1 * 0 = t.val / 4; omega
    | ⟨1, _⟩ => show win0_4.index t 1 * 512 + 1 * r.val = t.val % 4 * 512 + r.val; omega
    | ⟨2, _⟩ => show win0_4.index t 2 * 5632 + 1 * d.val = d.val; omega]
  rfl

/-- The blocks fill the result array. -/
theorem cover (i : S9x2048x5632.Idx) : ∃ t : Fin cfg0.N, (cfg0.win 4).flush t = true ∧ i ∈ ((cfg0.win 4).blk t).view.set := by
  have i0 : (i 0 : Nat) < 9 := (i 0).isLt
  have i1 : (i 1 : Nat) < 2048 := (i 1).isLt
  have i2 : (i 2 : Nat) < 5632 := (i 2).isLt
  have hN : grid0.N = 36 := N_0
  let t : Fin grid0.N := ⟨(i 0 : Nat) * 4 + (i 1 : Nat) / 512, by omega⟩
  have ht : t.val = (i 0 : Nat) * 4 + (i 1 : Nat) / 512 := rfl
  obtain ⟨h0, h1, h2⟩ := index4 t
  refine ⟨t, flush0_4 t, ?_⟩
  show i ∈ ((View.whole main_v3).slice (win0_4.rect t)).set
  rw [View.set_slice_whole, Rect.mem_set_unit]
  intro a
  match a with
  | ⟨0, _⟩ => show win0_4.index t 0 * 1 ≤ (i 0 : Nat) ∧ (i 0 : Nat) < win0_4.index t 0 * 1 + 1; omega
  | ⟨1, _⟩ => show win0_4.index t 1 * 512 ≤ (i 1 : Nat) ∧ (i 1 : Nat) < win0_4.index t 1 * 512 + 512; omega
  | ⟨2, _⟩ => show win0_4.index t 2 * 5632 ≤ (i 2 : Nat) ∧ (i 2 : Nat) < win0_4.index t 2 * 5632 + 5632; omega

/-- So the result array ends holding these rows. -/
theorem final : (dats m 0 c).arrAt 4 cfg0.N = arr m c :=
  (dats m 0 c).arrAt_eq_of_cover 4 (arr m c) (fun t _ => flushed m c t) cover

/-- The claim: from equal arguments the kernel and the reference end with equal results, arguments unchanged. -/
theorem algebraic : algebraic_Kernel6Ideal_Reference6Ideal := by
  intro m g m' g' _ h
  refine ⟨arr m, ?_, ?_⟩
  · refine (θ_run _ _ _).mono (fun r hr c => ?_) (Cert.Kernel6Ideal.Value.run_blocks m g)
    obtain ⟨h0, hr⟩ := hr c
    exact ⟨h0.trans (final m c), hr⟩
  · refine (θ_run _ _ _).mono (fun r hr c => ?_) (Cert.Reference6Ideal.Value.run m' g')
    obtain ⟨h0, hr⟩ := hr c
    obtain ⟨e0, e1, e2⟩ := h c
    refine ⟨h0.trans ?_, hr⟩
    rw [Cert.Reference6Ideal.Read.val_main_v8_eq]
    rw [e0, e1, e2]
    funext i
    obtain ⟨b, t, d, rfl⟩ : ∃ (b : Fin 9) (t : Fin 2048) (d : Fin 5632), i = ix3 b t d :=
      ⟨i 0, i 1, i 2, by funext a; fin_cases a <;> rfl⟩
    exact ref_apply _ _ _ b t d

end Cert.SsdIn

end
-- ==== Proof.SsdOut.lean ====
/-
  The SSD mixer's output projection with its norm, one row at a time: `Proj.row` with 2048 columns of the mixer's output and no
  bias. `out_apply` says that one grid point of the kernel leaves these rows in its block of the result, `ref_apply` that the
  reference's result has these rows, `algebraic` is the claim.
-/
module

public import proofs.«01_k».proof.Proof.ProjRef
public import proofs.«01_k».proof.Proof.Gen.Kernel7Ideal.Value
public import proofs.«01_k».proof.Proof.Gen.Reference7Ideal.Read
public import proofs.«01_k».proof.Defs
public import Idealize.ShloMosaic.Lib.Tactic

@[expose] public section

set_option maxRecDepth 16384

noncomputable section

namespace Cert.SsdOut

open Idealize.ShloMosaic
open Cert.Ffn (alpha width eps mean)
open Cert.Proj (res row hz2 hz3)

section Reference

open Cert.Reference7Ideal Cert.Reference7Ideal.Gen Cert.Reference7Ideal.Read

variable (x0 : (⟨S9x2048x1024, .f32⟩ : BufTy).Contents (Elt Ideal)) (x1 : (⟨S9x2048x2048, .f32⟩ : BufTy).Contents (Elt Ideal))
  (x2 : (⟨S9x1x1024, .f32⟩ : BufTy).Contents (Elt Ideal)) (x3 : (⟨S2048x1024, .f32⟩ : BufTy).Contents (Elt Ideal))
  (x4 x5 : (⟨S1024, .f32⟩ : BufTy).Contents (Elt Ideal))

/-- The reference's residual sum. -/
theorem ref_res (b : Fin 9) (t : Fin 2048) (d : Fin 1024) :
    val_main_v9 (F := Ideal) x0 x1 x2 x3 (ix3 b t d) = res (fun k => x0 (ix3 b t k)) (fun k => x2 (ix3 b 0 k))
      (fun k => x1 (ix3 b t k)) (fun k d => x3 (ix2 k d)) (fun _ => 0) d := by
  unfold res
  rw [add_zero]
  pointwise [val_main_v9, val_main_v8, val_main_v7, val_main_v6, val_main_v5, val_main_v4, val_main_v3, val_main_v2,
    val_main_v1, val_main_v0, val_main_cst, val_main_cst_0, val_main_cst_1, alpha]

/-- The reference's row means. -/
theorem ref_mean (b : Fin 9) (t : Fin 2048) :
    val_main_v13 (F := Ideal) x0 x1 x2 x3 (ix3 b t 0) = mean fun d => val_main_v9 (F := Ideal) x0 x1 x2 x3 (ix3 b t d) := by
  unfold val_main_v13 val_main_v12 val_main_v11 val_main_v10 val_main_cst_2 val_main_cst_3
  generalize val_main_v9 (F := Ideal) x0 x1 x2 x3 = y
  pointwise [mean, width]

/-- The reference's row variances. -/
theorem ref_var (b : Fin 9) (t : Fin 2048) :
    val_main_v20 (F := Ideal) x0 x1 x2 x3 (ix3 b t 0) = mean fun d =>
      (val_main_v9 (F := Ideal) x0 x1 x2 x3 (ix3 b t d) - mean fun e => val_main_v9 (F := Ideal) x0 x1 x2 x3 (ix3 b t e))
      * (val_main_v9 (F := Ideal) x0 x1 x2 x3 (ix3 b t d) - mean fun e => val_main_v9 (F := Ideal) x0 x1 x2 x3 (ix3 b t e)) := by
  simp only [← ref_mean]
  unfold val_main_v20 val_main_v19 val_main_v18 val_main_v17 val_main_v16 val_main_v15 val_main_v14 val_main_cst_4
    val_main_cst_5
  generalize val_main_v9 (F := Ideal) x0 x1 x2 x3 = y
  generalize val_main_v13 (F := Ideal) x0 x1 x2 x3 = u
  pointwise [mean, width]

/-- The reference's result at an index: the row of the index's batch entry and token. -/
theorem ref_apply (b : Fin 9) (t : Fin 2048) (d : Fin 1024) :
    val_main_v33 (F := Ideal) x0 x1 x2 x3 x4 x5 (ix3 b t d)
      = row (fun k => x0 (ix3 b t k)) (fun k => x2 (ix3 b 0 k)) (fun k => x1 (ix3 b t k)) (fun k d => x3 (ix2 k d))
          (fun _ => 0) (fun k => x4 (ix1 k)) (fun k => x5 (ix1 k)) d := by
  unfold row
  rw [show res _ _ _ _ _ = fun d => val_main_v9 (F := Ideal) x0 x1 x2 x3 (ix3 b t d) from
    funext fun d => (ref_res x0 x1 x2 x3 b t d).symm]
  unfold Ffn.norm
  rw [← ref_var, ← ref_mean]
  unfold val_main_v33 val_main_v32 val_main_v31 val_main_v30 val_main_v29 val_main_v28 val_main_v27 val_main_v26
    val_main_v25 val_main_v24 val_main_v23 val_main_v22 val_main_v21 val_main_cst_6
  generalize val_main_v20 (F := Ideal) x0 x1 x2 x3 = v
  generalize val_main_v9 (F := Ideal) x0 x1 x2 x3 = y
  generalize val_main_v13 (F := Ideal) x0 x1 x2 x3 = u
  pointwise [eps]

end Reference

open Idealize.ShloMosaic.TcCoe Idealize.SL.Sem
open Idealize.ShloMosaic.Pipeline (Dat)
open Cert.Kernel7Ideal Cert.Kernel7Ideal.Gen

/-- The kernel's payload for the residual sum less its row mean. -/
theorem centred_apply (y : Vec Ideal S1x1024x2048 .bf16) (w : Vec Ideal S2048x1024 .bf16) (b : Vec Ideal S1x1024 .f32)
    (x : Vec Ideal S1x1024x1024 .f32) (gt : Vec Ideal S1x1x1024 .f32) (r d : Fin 1024) :
    k0_pay4 y w b x gt (ix2 r d)
      = res (fun k => x (ix3 0 r k)) (fun k => gt (ix3 0 0 k)) (fun k => y (ix3 0 r k)) (fun k d => w (ix2 k d)) (fun k => b (ix2 0 k)) d
        - mean (res (fun k => x (ix3 0 r k)) (fun k => gt (ix3 0 0 k)) (fun k => y (ix3 0 r k)) (fun k d => w (ix2 k d)) fun k => b (ix2 0 k)) := by
  pointwise [k0_pay4, res, mean, alpha, width]

/-- The kernel's payload for the sum of squares of a row. -/
theorem squares_apply (y : Vec Ideal S1x1024x2048 .bf16) (w : Vec Ideal S2048x1024 .bf16) (b : Vec Ideal S1x1024 .f32)
    (x : Vec Ideal S1x1024x1024 .f32) (gt : Vec Ideal S1x1x1024 .f32) (r : Fin 1024) :
    k0_pay5 y w b x gt (ix2 r 0) = ∑ d : Fin 1024, k0_pay4 y w b x gt (ix2 r d) * k0_pay4 y w b x gt (ix2 r d) := by
  unfold k0_pay5
  generalize k0_pay4 y w b x gt = z
  pointwise

/-- The kernel's payload for the result, from the centred rows and their sums of squares. -/
theorem scaled_apply (g h : Vec Ideal S1x1024 .f32) (z : FVec Ideal S1024x1024 .f32) (s : FVec Ideal S1024x1 .f32) (r d : Fin 1024) :
    k0_pay1 (k0_pay2 g) (k0_pay3 h) z s k0_pay6 (ix3 0 r d)
      = z (ix2 r d) * Ideal.rsqrt (Ideal.div (s (ix2 r 0)) width + eps) * g (ix2 0 d) + h (ix2 0 d) := by
  pointwise [k0_pay1, k0_pay2, k0_pay3, k0_pay6, width, eps]

/-- A grid point leaves, at row `r` and column `d` of its block, the row of the blocks it has loaded. -/
theorem out_apply (x : Vec Ideal S1x1024x1024 .f32) (y : Vec Ideal S1x1024x2048 .bf16) (gt : Vec Ideal S1x1x1024 .f32)
    (w : Vec Ideal S2048x1024 .bf16) (b g h : Vec Ideal S1x1024 .f32) (r d : Fin 1024) :
    out0_7 x y gt w b g h (ix3 0 r d)
      = row (fun k => x (ix3 0 r k)) (fun k => gt (ix3 0 0 k)) (fun k => y (ix3 0 r k)) (fun k d => w (ix2 k d))
          (fun k => b (ix2 0 k)) (fun k => g (ix2 0 k)) (fun k => h (ix2 0 k)) d := by
  unfold out0_7 r0_0 r0_1 r0_2 r0_3 r0_4
  rw [View.canon_unit_zero hz3]
  simp only [View.ld_unit_zero (S := S1x1024x1024) hz3, View.ld_unit_zero (S := S1x1024x2048) hz3,
    View.ld_unit_zero (S := S1x1x1024) hz3, View.ld_unit_zero (S := S2048x1024) hz2, View.ld_unit_zero (S := S1x1024) hz2]
  rw [scaled_apply, squares_apply]
  simp only [centred_apply]
  rfl

variable (m : (ℓ : Loc nD τ sig) → Buf (Elt Ideal) ℓ) (c : Dev nD)

/-- The result array: at each index the row of its batch entry and token. -/
def arr : Buf (Elt Ideal) ((c : Thread nD τ).loc main_v6) := fun (i : S9x2048x1024.Idx) =>
  row (fun k => m ((c : Thread nD τ).loc main_arg0) (ix3 (i 0) (i 1) k)) (fun k => m ((c : Thread nD τ).loc main_arg2) (ix3 (i 0) 0 k))
    (fun k => m ((c : Thread nD τ).loc main_arg1) (ix3 (i 0) (i 1) k)) (fun k d => m ((c : Thread nD τ).loc main_arg3) (ix2 k d))
    (fun _ => 0) (fun k => m ((c : Thread nD τ).loc main_arg4) (ix1 k)) (fun k => m ((c : Thread nD τ).loc main_arg5) (ix1 k)) (i 2)

/-- The three vectors as the launch finds them: a bias of zero, and the two arguments as rows. -/
theorem b_apply (k : Fin 1024) : V m c main_v3 (ix2 0 k) = (0 : EReal) := by
  show shapeCast S1x1024 (broadcastInDim S1024 ![] bcast_S_S1024 (constant (F := Ideal) S_ .f32 0x00000000#32)) shapeCasts_S1024_S1x1024 (ix2 0 k) = _
  pointwise

theorem g_apply (k : Fin 1024) : V m c main_v4 (ix2 0 k) = m ((c : Thread nD τ).loc main_arg4) (ix1 k) := by
  show shapeCast _ _ _ _ = _
  pointwise

theorem h_apply (k : Fin 1024) : V m c main_v5 (ix2 0 k) = m ((c : Thread nD τ).loc main_arg5) (ix1 k) := by
  show shapeCast _ _ _ _ = _
  pointwise

/-- Where the blocks of the stream, of the mixer's output, of the gate and of the result lie at grid point `t`. -/
theorem index0 : ∀ t : Fin grid0.N, win0_0.index t 0 = t.val / 2 ∧ win0_0.index t 1 = t.val % 2 ∧ win0_0.index t 2 = 0 := by
  decide +kernel

theorem index1 : ∀ t : Fin grid0.N, win0_1.index t 0 = t.val / 2 ∧ win0_1.index t 1 = t.val % 2 ∧ win0_1.index t 2 = 0 := by
  decide +kernel

theorem index2 : ∀ t : Fin grid0.N, win0_2.index t 0 = t.val / 2 ∧ win0_2.index t 1 = 0 ∧ win0_2.index t 2 = 0 := by
  decide +kernel

theorem index7 : ∀ t : Fin grid0.N, win0_7.index t 0 = t.val / 2 ∧ win0_7.index t 1 = t.val % 2 ∧ win0_7.index t 2 = 0 := by
  decide +kernel

/-- The token of row `r` of grid point `t`'s block. -/
abbrev tok (t : Fin cfg0.N) (r : Fin 1024) : Fin 2048 := ⟨t.val % 2 * 1024 + r.val, by omega⟩

/-- The batch entry of grid point `t`'s block. -/
abbrev bat (t : Fin cfg0.N) : Fin 9 := ⟨t.val / 2, by have h : t.val < 18 := lt_of_lt_of_eq t.isLt N_0; omega⟩

/-- Grid point `t`'s blocks, entry by entry, as entries of the arguments. -/
theorem blk_x (t : Fin cfg0.N) (r k : Fin 1024) :
    iblk m c 0 t (ix3 0 r k) = m ((c : Thread nD τ).loc main_arg0) (ix3 (bat t) (tok t r) k) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 2; omega
  | ⟨1, _⟩ => show win0_0.index t 1 * 1024 + 1 * r.val = t.val % 2 * 1024 + r.val; omega
  | ⟨2, _⟩ => show win0_0.index t 2 * 1024 + 1 * k.val = k.val; omega

theorem blk_y (t : Fin cfg0.N) (r : Fin 1024) (k : Fin 2048) :
    iblk m c 1 t (ix3 0 r k) = m ((c : Thread nD τ).loc main_arg1) (ix3 (bat t) (tok t r) k) := by
  obtain ⟨h0, h1, h2⟩ := index1 t
  unfold iblk
  rw [View.read_apply]
  show m ((c : Thread nD τ).loc main_arg1) _ = _
  congr 1
  funext a
  apply Fin.ext
  match a with
  | ⟨0, _⟩ => show win0_1.index t 0 * 1 + 1 * 0 = t.val / 2; omega
  | ⟨1, _⟩ => show win0_1.index t 1 * 1024 + 1 * r.val = t.val % 2 * 1024 + r.val; omega
  | ⟨2, _⟩ => show win0_1.index t 2 * 2048 + 1 * k.val = k.val; omega

theorem blk_gt (t : Fin cfg0.N) (k : Fin 1024) :
    iblk m c 2 t (ix3 0 0 k) = m ((c : Thread nD τ).loc main_arg2) (ix3 (bat t) 0 k) := by
  obtain ⟨h0, h1, h2⟩ := index2 t
  unfold iblk
  rw [View.read_apply]
  show V m c main_arg2 _ = _
  rw [V_main_arg2]
  congr 1
  funext a
  apply Fin.ext
  match a with
  | ⟨0, _⟩ => show win0_2.index t 0 * 1 + 1 * 0 = t.val / 2; omega
  | ⟨1, _⟩ => show win0_2.index t 1 * 1 + 1 * 0 = 0; omega
  | ⟨2, _⟩ => show win0_2.index t 2 * 1024 + 1 * k.val = k.val; omega

theorem blk_w (t : Fin cfg0.N) (k : Fin 2048) (d : Fin 1024) :
    iblk m c 3 t (ix2 k d) = m ((c : Thread nD τ).loc main_arg3) (ix2 k d) := by
  unfold iblk
  rw [View.read_apply]
  show m ((c : Thread nD τ).loc main_arg3) _ = _
  congr 1
  funext a
  apply Fin.ext
  match a with
  | ⟨0, _⟩ => show 0 * 2048 + 1 * k.val = k.val; omega
  | ⟨1, _⟩ => show 0 * 1024 + 1 * d.val = d.val; omega

/-- The only row of a block of one row, read at column `k`. -/
theorem vec_at (k : Fin 1024) (j : S1x1024.Idx) (h : (j 1).val = 0 * 1024 + 1 * k.val) : j = ix2 0 k := by
  funext a
  match a with
  | ⟨0, _⟩ => exact Subsingleton.elim (α := Fin 1) _ _
  | ⟨1, _⟩ => exact Fin.ext (by show (j 1).val = k.val; omega)

theorem blk_b (t : Fin cfg0.N) (k : Fin 1024) : iblk m c 4 t (ix2 0 k) = (0 : EReal) := by
  refine Eq.trans ?_ (b_apply m c k)
  unfold iblk
  rw [View.read_apply]
  exact congrArg (V m c main_v3) (vec_at k _ rfl)

theorem blk_g (t : Fin cfg0.N) (k : Fin 1024) : iblk m c 5 t (ix2 0 k) = m ((c : Thread nD τ).loc main_arg4) (ix1 k) := by
  refine Eq.trans ?_ (g_apply m c k)
  unfold iblk
  rw [View.read_apply]
  exact congrArg (V m c main_v4) (vec_at k _ rfl)

theorem blk_h (t : Fin cfg0.N) (k : Fin 1024) : iblk m c 6 t (ix2 0 k) = m ((c : Thread nD τ).loc main_arg5) (ix1 k) := by
  refine Eq.trans ?_ (h_apply m c k)
  unfold iblk
  rw [View.read_apply]
  exact congrArg (V m c main_v5) (vec_at k _ rfl)

/-- What grid point `t` writes back is its block of the result array. -/
theorem flushed (t : Fin cfg0.N) : (dats m 0 c).flushed 7 t = ((cfg0.win 7).blk t).view.read (Elt Ideal) (arr m c) := by
  obtain ⟨h0, h1, h2⟩ := index7 t
  rw [Value.flushed7 m c t]
  funext j
  obtain ⟨j0, r, d, rfl⟩ : ∃ (a : Fin 1) (r d : Fin 1024), j = ix3 a r d := ⟨j 0, j 1, j 2, by funext a; fin_cases a <;> rfl⟩
  obtain rfl : j0 = 0 := Subsingleton.elim _ _
  rw [View.read_apply]
  refine (out_apply _ _ _ _ _ _ _ r d).trans ?_
  simp only [blk_x, blk_y, blk_gt, blk_w, blk_b, blk_g, blk_h]
  rw [show ((cfg0.win 7).blk t).view.emb (ix3 0 r d) = (ix3 (bat t) (tok t r) d : S9x2048x1024.Idx) from by
    funext a
    apply Fin.ext
    match a with
    | ⟨0, _⟩ => show win0_7.index t 0 * 1 + 1 * 0 = t.val / 2; omega
    | ⟨1, _⟩ => show win0_7.index t 1 * 1024 + 1 * r.val = t.val % 2 * 1024 + r.val; omega
    | ⟨2, _⟩ => show win0_7.index t 2 * 1024 + 1 * d.val = d.val; omega]
  rfl

/-- The blocks fill the result array. -/
theorem cover (i : S9x2048x1024.Idx) : ∃ t : Fin cfg0.N, (cfg0.win 7).flush t = true ∧ i ∈ ((cfg0.win 7).blk t).view.set := by
  have i0 : (i 0 : Nat) < 9 := (i 0).isLt
  have i1 : (i 1 : Nat) < 2048 := (i 1).isLt
  have i2 : (i 2 : Nat) < 1024 := (i 2).isLt
  have hN : grid0.N = 18 := N_0
  let t : Fin grid0.N := ⟨(i 0 : Nat) * 2 + (i 1 : Nat) / 1024, by omega⟩
  have ht : t.val = (i 0 : Nat) * 2 + (i 1 : Nat) / 1024 := rfl
  obtain ⟨h0, h1, h2⟩ := index7 t
  refine ⟨t, flush0_7 t, ?_⟩
  show i ∈ ((View.whole main_v6).slice (win0_7.rect t)).set
  rw [View.set_slice_whole, Rect.mem_set_unit]
  intro a
  match a with
  | ⟨0, _⟩ => show win0_7.index t 0 * 1 ≤ (i 0 : Nat) ∧ (i 0 : Nat) < win0_7.index t 0 * 1 + 1; omega
  | ⟨1, _⟩ => show win0_7.index t 1 * 1024 ≤ (i 1 : Nat) ∧ (i 1 : Nat) < win0_7.index t 1 * 1024 + 1024; omega
  | ⟨2, _⟩ => show win0_7.index t 2 * 1024 ≤ (i 2 : Nat) ∧ (i 2 : Nat) < win0_7.index t 2 * 1024 + 1024; omega

/-- So the result array ends holding these rows. -/
theorem final : (dats m 0 c).arrAt 7 cfg0.N = arr m c :=
  (dats m 0 c).arrAt_eq_of_cover 7 (arr m c) (fun t _ => flushed m c t) cover

/-- The claim: from equal arguments the kernel and the reference end with equal results, arguments unchanged. -/
theorem algebraic : algebraic_Kernel7Ideal_Reference7Ideal := by
  intro m g m' g' _ h
  refine ⟨arr m, ?_, ?_⟩
  · refine (θ_run _ _ _).mono (fun r hr c => ?_) (Cert.Kernel7Ideal.Value.run_blocks m g)
    obtain ⟨h0, hr⟩ := hr c
    exact ⟨h0.trans (final m c), hr⟩
  · refine (θ_run _ _ _).mono (fun r hr c => ?_) (Cert.Reference7Ideal.Value.run m' g')
    obtain ⟨h0, hr⟩ := hr c
    obtain ⟨e0, e1, e2, e3, e4, e5⟩ := h c
    refine ⟨h0.trans ?_, hr⟩
    rw [Cert.Reference7Ideal.Read.val_main_v33_eq]
    rw [e0, e1, e2, e3, e4, e5]
    funext i
    obtain ⟨b, t, d, rfl⟩ : ∃ (b : Fin 9) (t : Fin 2048) (d : Fin 1024), i = ix3 b t d := ⟨i 0, i 1, i 2, by funext a; fin_cases a <;> rfl⟩
    exact ref_apply _ _ _ _ _ _ b t d

end Cert.SsdOut

end
-- ==== Proof.FfnNineBlock.lean ====
/-
  The feed-forward kernel on nine rows: what one grid point leaves in its block of the result. The rows' formula is `Ffn.row`, as
  for eight rows; the payloads are this program's own.
-/
module

public import proofs.«01_k».proof.Proof.Ffn
public import proofs.«01_k».proof.Proof.Gen.Kernel8Ideal.Value
public import Idealize.ShloMosaic.Lib.Pipeline.Value
public import Idealize.ShloMosaic.Lib.Tactic
public import Idealize.ShloMosaic.Lib.Pipeline.ValueKit.Tiles

@[expose] public section

set_option maxRecDepth 16384

noncomputable section

namespace Cert.FfnNine

open Idealize.ShloMosaic Idealize.ShloMosaic.TcCoe Idealize.SL.Sem
open Cert.Kernel8Ideal Cert.Kernel8Ideal.Gen
open Cert.Ffn (alpha half width eps mod pre hid res mean row)

/-- The kernel's modulated block at a row and a column. -/
theorem mod_apply (v0 : Vec Ideal S1x1024x1024 .f32) (v2 : Vec Ideal S1x3x1024 .f32) (r k : Fin 1024) :
    k0_pay4 v0 v2 (ix2 r k) = mod (fun k => v0 (ix3 0 r k)) (fun k => v2 (ix3 0 0 k)) (fun k => v2 (ix3 0 1 k)) k := by
  pointwise [k0_pay4, k0_pay2, k0_pay3, mod]

/-- The kernel's payload for 256 columns of the hidden block at a row and a column: the gated product of two row-by-column
    sums. -/
theorem chunk_apply (h : FVec Ideal S1024x1024 .bf16) (a u : Vec Ideal S1024x256 .bf16) (r : Fin 1024) (j : Fin 256) :
    k0_pay8 h a u (ix2 r j) = (∑ k : Fin 1024, h (ix2 r k) * a (ix2 k j)) *
      Ideal.logistic (∑ k : Fin 1024, h (ix2 r k) * a (ix2 k j)) * ∑ k : Fin 1024, h (ix2 r k) * u (ix2 k j) := by
  pointwise [k0_pay8]

/-- The kernel's payload for the residual sum at a row and a column. -/
theorem res_apply (v0 : Vec Ideal S1x1024x1024 .f32) (v2 : Vec Ideal S1x3x1024 .f32) (q : Vec Ideal S1024x2816 .bf16)
    (w : Vec Ideal S2816x1024 .bf16) (r d : Fin 1024) :
    k0_pay21 (k0_pay2 v0) (k0_pay3 v2) q w (ix2 r d) = res (fun k => v0 (ix3 0 r k)) (fun k => v2 (ix3 0 2 k))
      (fun j => q (ix2 r j)) (fun j d => w (ix2 j d)) d := by
  pointwise [k0_pay21, k0_pay2, k0_pay3, res, alpha, half]

/-- The kernel's payload for the normalised block at a row and a column, from the residual sum `z` and its row means. -/
theorem norm_apply (z : FVec Ideal S1024x1024 .f32) (g b : FVec Ideal S1x1024 .f32) (mu : FVec Ideal S1024x1 .f32)
    (hmu : ∀ r : Fin 1024, mu (ix2 r 0) = mean fun d => z (ix2 r d)) (r d : Fin 1024) :
    k0_pay1 z g b mu (ix3 0 r d) = Ffn.norm (fun d => z (ix2 r d)) (fun d => g (ix2 0 d)) (fun d => b (ix2 0 d)) d := by
  pointwise [k0_pay1, Ffn.norm]
  simp only [hmu]
  rfl

/-- Everything after the hidden block: the kernel's payload for a block of the result at a row and a column. -/
theorem tail_apply (v0 : Vec Ideal S1x1024x1024 .f32) (v2 : Vec Ideal S1x3x1024 .f32) (q : Vec Ideal S1024x2816 .bf16)
    (w : Vec Ideal S2816x1024 .bf16) (g b : Vec Ideal S1x1024 .f32) (r d : Fin 1024) :
    k0_pay1 (k0_pay21 (k0_pay2 v0) (k0_pay3 v2) q w) (k0_pay22 g) (k0_pay23 b) (k0_pay24 (k0_pay2 v0) (k0_pay3 v2) q w) (ix3 0 r d)
      = Ffn.norm (res (fun k => v0 (ix3 0 r k)) (fun k => v2 (ix3 0 2 k)) (fun j => q (ix2 r j)) fun j d => w (ix2 j d))
          (fun d => g (ix2 0 d)) (fun d => b (ix2 0 d)) d := by
  rw [norm_apply]
  · simp only [res_apply]
    congr 1 <;> funext d <;> pointwise [k0_pay22, k0_pay23]
  · intro r
    unfold k0_pay24
    generalize k0_pay21 (k0_pay2 v0) (k0_pay3 v2) q w = z
    pointwise [mean, width]

theorem hz2 : (![0, 0] : Fin 2 → Nat) = fun _ => 0 := funext fun a => by fin_cases a <;> rfl

theorem hz3 : (![0, 0, 0] : Fin 3 → Nat) = fun _ => 0 := funext fun a => by fin_cases a <;> rfl

/-- The hidden block of a grid point: its rows are the gated hidden rows of the point's 1024 rows of `x`. -/
def hidBlk (x : Vec Ideal S1x1024x1024 .f32) (m : Vec Ideal S1x3x1024 .f32) (w : Vec Ideal S1024x5632 .bf16) :
    S1024x2816.Idx → EReal := fun y =>
  hid (mod (fun k => x (ix3 0 (y 0) k)) (fun k => m (ix3 0 0 k)) (fun k => m (ix3 0 1 k))) (fun k j => w (ix2 k j)) (y 1)

/-- Every store of the body into the hidden buffer writes its 256 columns of the hidden block. -/
theorem piece (x : Vec Ideal S1x1024x1024 .f32) (m : Vec Ideal S1x3x1024 .f32) (w : Vec Ideal S1024x5632 .bf16)
    (o : Nat) (ia : ∀ a, ![0, o] a + S1024x256.size a ≤ S1024x5632.size a)
    (iu : ∀ a, ![0, 2816 + o] a + S1024x256.size a ≤ S1024x5632.size a)
    (is : ∀ a, ![0, o] a + S1024x256.size a ≤ S1024x2816.size a) (z : S1024x256.Idx) :
    k0_pay8 (k0_pay4 x m) (View.ld w (Rect.unit (s := S1024x5632) ![0, o] S1024x256.size ia))
        (View.ld w (Rect.unit (s := S1024x5632) ![0, 2816 + o] S1024x256.size iu)) z
      = hidBlk x m w ((Rect.unit (s := S1024x2816) ![0, o] S1024x256.size is).emb z) := by
  idx_vars z
  rw [chunk_apply]
  simp only [mod_apply]
  have ho : o + 256 ≤ 2816 := is 1
  have hj := z1.isLt
  have ea : ∀ k : Fin 1024, View.ld w (Rect.unit (s := S1024x5632) ![0, o] S1024x256.size ia) (ix2 k z1)
      = w (ix2 k ⟨o + z1.val, by omega⟩) := fun k => View.ld_unit_apply_of _ _ _ _ _ _ fun a => by
    match a with
    | ⟨0, _⟩ => show k.val = 0 + k.val; omega
    | ⟨1, _⟩ => rfl
  have eu : ∀ k : Fin 1024, View.ld w (Rect.unit (s := S1024x5632) ![0, 2816 + o] S1024x256.size iu) (ix2 k z1)
      = w (ix2 k ⟨2816 + (o + z1.val), by omega⟩) := fun k => View.ld_unit_apply_of _ _ _ _ _ _ fun a => by
    match a with
    | ⟨0, _⟩ => show k.val = 0 + k.val; omega
    | ⟨1, _⟩ => show 2816 + (o + z1.val) = 2816 + o + z1.val; omega
  have er : ((Rect.unit (s := S1024x2816) ![0, o] S1024x256.size is).emb (ix2 z0 z1)) = ix2 z0 ⟨o + z1.val, by omega⟩ := by
    funext a
    apply Fin.ext
    match a with
    | ⟨0, _⟩ => show 0 + 1 * z0.val = z0.val; omega
    | ⟨1, _⟩ => show o + 1 * z1.val = o + z1.val; omega
  simp only [ea, eu]
  rw [er]
  rfl

/-- A load of the whole hidden buffer after stores that tile it, each of its columns of the hidden block, reads the block. -/
theorem readCov_hid {sig : RefSig} {κ : Kind} {sp : Space} (v : View sig κ sp S1024x2816 .bf16)
    (L : List (View.Piece (Elt Ideal) S1024x2816 .bf16)) (x : Vec Ideal S1x1024x1024 .f32) (m : Vec Ideal S1x3x1024 .f32)
    (w : Vec Ideal S1024x5632 .bf16) (inb : ∀ a, ![0, 0] a + S1024x2816.size a ≤ S1024x2816.size a)
    (hc : View.Piece.tiledL L S1024x256.size = true)
    (hp : ∀ p ∈ L, ∀ z : p.1.shape.Idx, p.2 z = hidBlk x m w (p.1.emb z)) :
    v.readCov L (Rect.unit (s := S1024x2816) ![0, 0] S1024x2816.size inb).toLoadRect = hidBlk x m w := by
  rw [View.readCov_eq_canon_ld _ _ _ (View.cover_of_tiledL L _ hc), View.ld_unit_zero (S := S1024x2816) hz2]
  exact funext fun y => View.canon_apply_of_pieces (Val := Elt Ideal) (e := .bf16) (hidBlk x m w) L hp y (View.cover_of_tiledL L _ hc y)

/-- A grid point leaves, at row `r` and column `d` of its block, the feed-forward row of row `r` of its block of `x`. -/
theorem out_apply (c : Dev nD) (i : grid0.Coords) (a2 : Memref sig .tc .vmem S1x1024x1024 .f32) (h2 : a2.IsWhole)
    (a3 : Memref sig .tc .vmem S1x3x1024 .f32) (h3 : a3.IsWhole) (a4 : Memref sig .tc .vmem S1024x5632 .bf16) (h4 : a4.IsWhole)
    (a5 : Memref sig .tc .vmem S2816x1024 .bf16) (h5 : a5.IsWhole) (a6 : Memref sig .tc .vmem S1x1024 .f32) (h6 : a6.IsWhole)
    (a7 : Memref sig .tc .vmem S1x1024 .f32) (h7 : a7.IsWhole) (a8 : Memref sig .tc .vmem S1x1024x1024 .f32) (h8 : a8.IsWhole)
    (a9 : Memref sig .tc .vmem S1024x2816 .bf16) (h9 : a9.IsWhole)
    (x : Vec Ideal S1x1024x1024 .f32) (m : Vec Ideal S1x3x1024 .f32) (w : Vec Ideal S1024x5632 .bf16)
    (v : Vec Ideal S2816x1024 .bf16) (g b : Vec Ideal S1x1024 .f32) (r d : Fin 1024) :
    out0_A_6 c i a2 h2 a3 h3 a4 h4 a5 h5 a6 h6 a7 h7 a8 h8 a9 h9 x m w v g b (ix3 0 r d)
      = row (fun k => x (ix3 0 r k)) (fun k => m (ix3 0 0 k)) (fun k => m (ix3 0 1 k)) (fun k => m (ix3 0 2 k))
          (fun k j => w (ix2 k j)) (fun j k => v (ix2 j k)) (fun k => g (ix2 0 k)) (fun k => b (ix2 0 k)) d := by
  unfold out0_A_6
  rw [View.read_writes_eq_canon _ _ _ (cover0_A_6 c i a2 h2 a3 h3 a4 h4 a5 h5 a6 h6 a7 h7 a8 h8 a9 h9 x m w v g b)]
  unfold kernelRun0_A
  dsimp only
  sl_unfold_words
  rw [View.canon_unit_zero hz3]
  simp only [View.readAt_eq_ld, h2.read_unread, h3.read_unread, h4.read_unread, h5.read_unread, h6.read_unread,
    h7.read_unread, View.ld_unit_zero (S := S1x1024x1024) hz3, View.ld_unit_zero (S := S1x3x1024) hz3,
    View.ld_unit_zero (S := S2816x1024) hz2, View.ld_unit_zero (S := S1x1024) hz2]
  rw [readCov_hid a9.view _ x m w _ (by sl_kernel_rfl)]
  · rw [tail_apply]
    rfl
  · repeat' refine List.forall_mem_cons.2 ⟨?_, ?_⟩
    · exact piece x m w 2560 _ _ inb_S1024x2816_S1024x256_0_2560
    · exact piece x m w 2304 _ _ inb_S1024x2816_S1024x256_0_2304
    · exact piece x m w 2048 _ _ inb_S1024x2816_S1024x256_0_2048
    · exact piece x m w 1792 _ _ inb_S1024x2816_S1024x256_0_1792
    · exact piece x m w 1536 _ _ inb_S1024x2816_S1024x256_0_1536
    · exact piece x m w 1280 _ _ inb_S1024x2816_S1024x256_0_1280
    · exact piece x m w 1024 _ _ inb_S1024x2816_S1024x256_0_1024
    · exact piece x m w 768 _ _ inb_S1024x2816_S1024x256_0_768
    · exact piece x m w 512 _ _ inb_S1024x2816_S1024x256_0_512
    · exact piece x m w 256 _ _ inb_S1024x2816_S1024x256_0_256
    · exact piece x m w 0 _ _ inb_S1024x2816_S1024x256_0_0
    · exact fun p hp => absurd hp (List.not_mem_nil)

end Cert.FfnNine

end
-- ==== Proof.FfnNineRef.lean ====
/-
  The reference of the feed-forward block on nine rows, read one row at a time.
-/
module

public import proofs.«01_k».proof.Proof.Ffn
public import proofs.«01_k».proof.Proof.Gen.Reference8Ideal.Read

@[expose] public section

set_option maxRecDepth 16384

noncomputable section

namespace Cert.FfnNine

open Idealize.ShloMosaic Cert.Reference8Ideal Cert.Reference8Ideal.Gen Cert.Reference8Ideal.Read
open Cert.Ffn (alpha half width eps mod pre hid res mean row)

variable (x0 : (⟨S9x2048x1024, .f32⟩ : BufTy).Contents (Elt Ideal)) (x1 : (⟨S9x3x1024, .f32⟩ : BufTy).Contents (Elt Ideal))
  (x2 : (⟨S1024x5632, .f32⟩ : BufTy).Contents (Elt Ideal)) (x3 : (⟨S2816x1024, .f32⟩ : BufTy).Contents (Elt Ideal))
  (x4 x5 : (⟨S1024, .f32⟩ : BufTy).Contents (Elt Ideal))

/-- The reference's modulated rows. -/
theorem ref_mod (b : Fin 9) (t : Fin 2048) (k : Fin 1024) :
    val_main_v8 (F := Ideal) x0 x1 (ix3 b t k)
      = mod (fun k => x0 (ix3 b t k)) (fun k => x1 (ix3 b 0 k)) (fun k => x1 (ix3 b 1 k)) k := by
  pointwise [val_main_v8, val_main_v7, val_main_v6, val_main_v5, val_main_v4, val_main_v3, val_main_v2, val_main_v1,
    val_main_v0, val_main_cst, mod]

/-- The reference's modulated rows times the first weight matrix. -/
theorem ref_pre (b : Fin 9) (t : Fin 2048) (j : Fin 5632) :
    val_main_v9 (F := Ideal) x0 x1 x2 (ix3 b t j)
      = pre (mod (fun k => x0 (ix3 b t k)) (fun k => x1 (ix3 b 0 k)) (fun k => x1 (ix3 b 1 k))) (fun k j => x2 (ix2 k j)) j := by
  unfold val_main_v9 pre
  simp only [← ref_mod]
  generalize val_main_v8 (F := Ideal) x0 x1 = y
  pointwise

/-- The reference's gated hidden rows. -/
theorem ref_hid (b : Fin 9) (t : Fin 2048) (j : Fin 2816) :
    val_main_v13 (F := Ideal) x0 x1 x2 (ix3 b t j)
      = hid (mod (fun k => x0 (ix3 b t k)) (fun k => x1 (ix3 b 0 k)) (fun k => x1 (ix3 b 1 k))) (fun k j => x2 (ix2 k j)) j := by
  unfold hid
  simp only [← ref_pre]
  unfold val_main_v13 val_main_v12 val_main_v11 val_main_call0_v5 val_main_call0_v4 val_main_call0_v3 val_main_call0_v2
    val_main_call0_v1 val_main_call0_v0 val_main_v10 val_main_call0_cst val_main_call0_cst_0
  generalize val_main_v9 (F := Ideal) x0 x1 x2 = y
  pointwise [Ideal.logistic]

/-- The reference's residual sum. -/
theorem ref_res (b : Fin 9) (t : Fin 2048) (d : Fin 1024) :
    val_main_v23 (F := Ideal) x0 x1 x2 x3 (ix3 b t d) = res (fun k => x0 (ix3 b t k)) (fun k => x1 (ix3 b 2 k))
      (hid (mod (fun k => x0 (ix3 b t k)) (fun k => x1 (ix3 b 0 k)) (fun k => x1 (ix3 b 1 k))) fun k j => x2 (ix2 k j))
      (fun j d => x3 (ix2 j d)) d := by
  unfold res
  simp only [← ref_hid]
  unfold val_main_v23 val_main_v22 val_main_v21 val_main_v20 val_main_v19 val_main_v18 val_main_v17 val_main_v16
    val_main_v15 val_main_v14 val_main_v2 val_main_cst_0 val_main_cst_1 val_main_cst_2
  generalize val_main_v13 (F := Ideal) x0 x1 x2 = y
  pointwise [alpha, half]

/-- The reference's row means. -/
theorem ref_mean (b : Fin 9) (t : Fin 2048) :
    val_main_v27 (F := Ideal) x0 x1 x2 x3 (ix3 b t 0) = mean fun d => val_main_v23 (F := Ideal) x0 x1 x2 x3 (ix3 b t d) := by
  unfold val_main_v27 val_main_v26 val_main_v25 val_main_v24 val_main_cst_3 val_main_cst_4
  generalize val_main_v23 (F := Ideal) x0 x1 x2 x3 = y
  pointwise [mean, width]

/-- The reference's row variances. -/
theorem ref_var (b : Fin 9) (t : Fin 2048) :
    val_main_v34 (F := Ideal) x0 x1 x2 x3 (ix3 b t 0) = mean fun d =>
      (val_main_v23 (F := Ideal) x0 x1 x2 x3 (ix3 b t d) - mean fun e => val_main_v23 (F := Ideal) x0 x1 x2 x3 (ix3 b t e))
      * (val_main_v23 (F := Ideal) x0 x1 x2 x3 (ix3 b t d) - mean fun e => val_main_v23 (F := Ideal) x0 x1 x2 x3 (ix3 b t e)) := by
  simp only [← ref_mean]
  unfold val_main_v34 val_main_v33 val_main_v32 val_main_v31 val_main_v30 val_main_v29 val_main_v28 val_main_cst_5
    val_main_cst_6
  generalize val_main_v23 (F := Ideal) x0 x1 x2 x3 = y
  generalize val_main_v27 (F := Ideal) x0 x1 x2 x3 = u
  pointwise [mean, width]

/-- The reference's result at an index: the feed-forward row of the index's batch entry and token. -/
theorem ref_apply (b : Fin 9) (t : Fin 2048) (d : Fin 1024) :
    val_main_v47 (F := Ideal) x0 x1 x2 x3 x4 x5 (ix3 b t d)
      = row (fun k => x0 (ix3 b t k)) (fun k => x1 (ix3 b 0 k)) (fun k => x1 (ix3 b 1 k)) (fun k => x1 (ix3 b 2 k))
          (fun k j => x2 (ix2 k j)) (fun j k => x3 (ix2 j k)) (fun k => x4 (ix1 k)) (fun k => x5 (ix1 k)) d := by
  unfold row
  rw [show res _ _ _ _ = fun d => val_main_v23 (F := Ideal) x0 x1 x2 x3 (ix3 b t d) from
    funext fun d => (ref_res x0 x1 x2 x3 b t d).symm]
  unfold Ffn.norm
  rw [← ref_var, ← ref_mean]
  unfold val_main_v47 val_main_v46 val_main_v45 val_main_v44 val_main_v43 val_main_v42 val_main_v41 val_main_v40
    val_main_v39 val_main_v38 val_main_v37 val_main_v36 val_main_v35 val_main_cst_7
  generalize val_main_v34 (F := Ideal) x0 x1 x2 x3 = v
  generalize val_main_v23 (F := Ideal) x0 x1 x2 x3 = y
  generalize val_main_v27 (F := Ideal) x0 x1 x2 x3 = u
  pointwise [eps]

end Cert.FfnNine

end
-- ==== Proof.FfnNineValue.lean ====
/-
  The result array of the feed-forward kernel on nine rows after its run, and the claim that it is the reference's.
-/
module

public import proofs.«01_k».proof.Proof.FfnNineBlock
public import proofs.«01_k».proof.Proof.FfnNineRef
public import proofs.«01_k».proof.Defs

@[expose] public section

set_option maxRecDepth 16384

noncomputable section

namespace Cert.FfnNine

open Idealize.ShloMosaic Idealize.ShloMosaic.TcCoe Idealize.SL.Sem
open Idealize.ShloMosaic.Pipeline (Dat)
open Cert.Kernel8Ideal Cert.Kernel8Ideal.Gen
open Cert.Ffn (alpha half width eps mod pre hid res mean row)

variable (m : (ℓ : Loc nD τ sig) → Buf (Elt Ideal) ℓ) (c : Dev nD)

/-- The result array: at each index the feed-forward row of its batch entry and token. -/
def arr : Buf (Elt Ideal) ((c : Thread nD τ).loc main_v4) := fun (i : S9x2048x1024.Idx) =>
  row (fun k => m ((c : Thread nD τ).loc main_arg0) (ix3 (i 0) (i 1) k)) (fun k => m ((c : Thread nD τ).loc main_arg1) (ix3 (i 0) 0 k))
    (fun k => m ((c : Thread nD τ).loc main_arg1) (ix3 (i 0) 1 k)) (fun k => m ((c : Thread nD τ).loc main_arg1) (ix3 (i 0) 2 k))
    (fun k j => m ((c : Thread nD τ).loc main_arg2) (ix2 k j)) (fun j k => m ((c : Thread nD τ).loc main_arg3) (ix2 j k))
    (fun k => m ((c : Thread nD τ).loc main_arg4) (ix1 k)) (fun k => m ((c : Thread nD τ).loc main_arg5) (ix1 k)) (i 2)

/-- The two weight matrices as the launch finds them: the arguments, entry by entry. -/
theorem w13_apply (k : Fin 1024) (j : Fin 5632) : V m c main_v0 (ix2 k j) = m ((c : Thread nD τ).loc main_arg2) (ix2 k j) := rfl

theorem w2_apply (j : Fin 2816) (k : Fin 1024) : V m c main_v1 (ix2 j k) = m ((c : Thread nD τ).loc main_arg3) (ix2 j k) := rfl

/-- The normalisation's scale and shift as the launch finds them: the arguments as rows. -/
theorem g_apply (k : Fin 1024) : V m c main_v2 (ix2 0 k) = m ((c : Thread nD τ).loc main_arg4) (ix1 k) := by
  show shapeCast _ _ _ _ = _
  pointwise

theorem b_apply (k : Fin 1024) : V m c main_v3 (ix2 0 k) = m ((c : Thread nD τ).loc main_arg5) (ix1 k) := by
  show shapeCast _ _ _ _ = _
  pointwise

/-- Where each window's block lies at grid point `t`. -/
theorem index0 : ∀ t : Fin grid0.N, win0_0.index t 0 = t.val / 2 ∧ win0_0.index t 1 = t.val % 2 ∧ win0_0.index t 2 = 0 := by
  decide +kernel

theorem index1 : ∀ t : Fin grid0.N, win0_1.index t 0 = t.val / 2 ∧ win0_1.index t 1 = 0 ∧ win0_1.index t 2 = 0 := by
  decide +kernel

theorem index6 : ∀ t : Fin grid0.N, win0_6.index t 0 = t.val / 2 ∧ win0_6.index t 1 = t.val % 2 ∧ win0_6.index t 2 = 0 := by
  decide +kernel

/-- The token of row `r` of grid point `t`'s block. -/
abbrev tok (t : Fin cfg0.N) (r : Fin 1024) : Fin 2048 := ⟨t.val % 2 * 1024 + r.val, by omega⟩

/-- The batch entry of grid point `t`'s block. -/
abbrev bat (t : Fin cfg0.N) : Fin 9 := ⟨t.val / 2, by have h : t.val < 18 := lt_of_lt_of_eq t.isLt N_0; omega⟩

/-- Grid point `t`'s blocks, entry by entry, as entries of the arguments. -/
theorem blk_x (t : Fin cfg0.N) (r k : Fin 1024) :
    iblk m c 0 t (ix3 0 r k) = m ((c : Thread nD τ).loc main_arg0) (ix3 (bat t) (tok t r) k) := by
  obtain ⟨h0, h1, h2⟩ := index0 t
  unfold iblk
  rw [View.read_apply]
  show V m c main_arg0 _ = _
  rw [V_main_arg0]
  congr 1
  funext a
  apply Fin.ext
  match a with
  | ⟨0, _⟩ => show win0_0.index t 0 * 1 + 1 * 0 = t.val / 2; omega
  | ⟨1, _⟩ => show win0_0.index t 1 * 1024 + 1 * r.val = t.val % 2 * 1024 + r.val; omega
  | ⟨2, _⟩ => show win0_0.index t 2 * 1024 + 1 * k.val = k.val; omega

theorem blk_mod (t : Fin cfg0.N) (s : Fin 3) (k : Fin 1024) :
    iblk m c 1 t (ix3 0 s k) = m ((c : Thread nD τ).loc main_arg1) (ix3 (bat t) s k) := by
  obtain ⟨h0, h1, h2⟩ := index1 t
  unfold iblk
  rw [View.read_apply]
  show V m c main_arg1 _ = _
  rw [V_main_arg1]
  congr 1
  funext a
  apply Fin.ext
  match a with
  | ⟨0, _⟩ => show win0_1.index t 0 * 1 + 1 * 0 = t.val / 2; omega
  | ⟨1, _⟩ => show win0_1.index t 1 * 3 + 1 * s.val = s.val; omega
  | ⟨2, _⟩ => show win0_1.index t 2 * 1024 + 1 * k.val = k.val; omega

theorem blk_w13 (t : Fin cfg0.N) (k : Fin 1024) (j : Fin 5632) :
    iblk m c 2 t (ix2 k j) = m ((c : Thread nD τ).loc main_arg2) (ix2 k j) := by
  refine Eq.trans ?_ (w13_apply m c k j)
  unfold iblk
  rw [View.read_apply]
  show V m c main_v0 _ = _
  congr 1
  funext a
  apply Fin.ext
  match a with
  | ⟨0, _⟩ => show 0 * 1024 + 1 * k.val = k.val; omega
  | ⟨1, _⟩ => show 0 * 5632 + 1 * j.val = j.val; omega

theorem blk_w2 (t : Fin cfg0.N) (j : Fin 2816) (k : Fin 1024) :
    iblk m c 3 t (ix2 j k) = m ((c : Thread nD τ).loc main_arg3) (ix2 j k) := by
  refine Eq.trans ?_ (w2_apply m c j k)
  unfold iblk
  rw [View.read_apply]
  show V m c main_v1 _ = _
  congr 1
  funext a
  apply Fin.ext
  match a with
  | ⟨0, _⟩ => show 0 * 2816 + 1 * j.val = j.val; omega
  | ⟨1, _⟩ => show 0 * 1024 + 1 * k.val = k.val; omega

theorem blk_g (t : Fin cfg0.N) (k : Fin 1024) : iblk m c 4 t (ix2 0 k) = m ((c : Thread nD τ).loc main_arg4) (ix1 k) := by
  refine Eq.trans ?_ (g_apply m c k)
  unfold iblk
  rw [View.read_apply]
  show V m c main_v2 _ = _
  congr 1
  funext a
  apply Fin.ext
  match a with
  | ⟨0, _⟩ => rfl
  | ⟨1, _⟩ => show 0 * 1024 + 1 * k.val = k.val; omega

theorem blk_b (t : Fin cfg0.N) (k : Fin 1024) : iblk m c 5 t (ix2 0 k) = m ((c : Thread nD τ).loc main_arg5) (ix1 k) := by
  refine Eq.trans ?_ (b_apply m c k)
  unfold iblk
  rw [View.read_apply]
  show V m c main_v3 _ = _
  congr 1
  funext a
  apply Fin.ext
  match a with
  | ⟨0, _⟩ => rfl
  | ⟨1, _⟩ => show 0 * 1024 + 1 * k.val = k.val; omega

/-- What grid point `t` writes back is its block of the result array. -/
theorem flushed (t : Fin cfg0.N) : (dats m 0 c).flushed 6 t = ((cfg0.win 6).blk t).view.read (Elt Ideal) (arr m c) := by
  obtain ⟨h0, h1, h2⟩ := index6 t
  rw [Value.flushed6_A m c t]
  funext j
  obtain ⟨j0, r, d, rfl⟩ : ∃ (a : Fin 1) (r d : Fin 1024), j = ix3 a r d := ⟨j 0, j 1, j 2, by funext a; fin_cases a <;> rfl⟩
  obtain rfl : j0 = 0 := Subsingleton.elim _ _
  rw [View.read_apply]
  refine (out_apply c _ _ _ _ _ _ _ _ _ _ _ _ _ _ _ _ _ _ _ _ _ _ _ r d).trans ?_
  simp only [blk_x, blk_mod, blk_w13, blk_w2, blk_g, blk_b]
  rw [show ((cfg0.win 6).blk t).view.emb (ix3 0 r d) = (ix3 (bat t) (tok t r) d : S9x2048x1024.Idx) from by
    funext a
    apply Fin.ext
    match a with
    | ⟨0, _⟩ => show win0_6.index t 0 * 1 + 1 * 0 = t.val / 2; omega
    | ⟨1, _⟩ => show win0_6.index t 1 * 1024 + 1 * r.val = t.val % 2 * 1024 + r.val; omega
    | ⟨2, _⟩ => show win0_6.index t 2 * 1024 + 1 * d.val = d.val; omega]
  rfl

/-- The blocks fill the result array. -/
theorem cover (i : S9x2048x1024.Idx) : ∃ t : Fin cfg0.N, (cfg0.win 6).flush t = true ∧ i ∈ ((cfg0.win 6).blk t).view.set := by
  have i0 : (i 0 : Nat) < 9 := (i 0).isLt
  have i1 : (i 1 : Nat) < 2048 := (i 1).isLt
  have i2 : (i 2 : Nat) < 1024 := (i 2).isLt
  have hN : grid0.N = 18 := N_0
  let t : Fin grid0.N := ⟨(i 0 : Nat) * 2 + (i 1 : Nat) / 1024, by omega⟩
  have ht : t.val = (i 0 : Nat) * 2 + (i 1 : Nat) / 1024 := rfl
  obtain ⟨h0, h1, h2⟩ := index6 t
  refine ⟨t, flush0_6 t, ?_⟩
  show i ∈ ((View.whole main_v4).slice (win0_6.rect t)).set
  rw [View.set_slice_whole, Rect.mem_set_unit]
  intro a
  match a with
  | ⟨0, _⟩ => show win0_6.index t 0 * 1 ≤ (i 0 : Nat) ∧ (i 0 : Nat) < win0_6.index t 0 * 1 + 1; omega
  | ⟨1, _⟩ => show win0_6.index t 1 * 1024 ≤ (i 1 : Nat) ∧ (i 1 : Nat) < win0_6.index t 1 * 1024 + 1024; omega
  | ⟨2, _⟩ => show win0_6.index t 2 * 1024 ≤ (i 2 : Nat) ∧ (i 2 : Nat) < win0_6.index t 2 * 1024 + 1024; omega

/-- So the result array ends holding the feed-forward rows. -/
theorem final : (dats m 0 c).arrAt 6 cfg0.N = arr m c :=
  (dats m 0 c).arrAt_eq_of_cover 6 (arr m c) (fun t _ => flushed m c t) cover

end Cert.FfnNine

namespace Cert.FfnNine

open Idealize.ShloMosaic Idealize.ShloMosaic.TcCoe Idealize.SL.Sem

/-- The feed-forward claim on nine rows: from equal arguments the kernel and the reference end with equal results, arguments unchanged. -/
theorem algebraic : algebraic_Kernel8Ideal_Reference8Ideal := by
  intro m g m' g' _ h
  refine ⟨arr m, ?_, ?_⟩
  · refine (θ_run _ _ _).mono (fun r hr c => ?_) (Cert.Kernel8Ideal.Value.run_blocks m g)
    obtain ⟨h0, hr⟩ := hr c
    exact ⟨h0.trans (final m c), hr⟩
  · refine (θ_run _ _ _).mono (fun r hr c => ?_) (Cert.Reference8Ideal.Value.run m' g')
    obtain ⟨h0, hr⟩ := hr c
    obtain ⟨e0, e1, e2, e3, e4, e5⟩ := h c
    refine ⟨h0.trans ?_, hr⟩
    rw [Cert.Reference8Ideal.Read.val_main_v47_eq]
    rw [e0, e1, e2, e3, e4, e5]
    funext i
    obtain ⟨b, t, d, rfl⟩ : ∃ (b : Fin 9) (t : Fin 2048) (d : Fin 1024), i = ix3 b t d := ⟨i 0, i 1, i 2, by funext a; fin_cases a <;> rfl⟩
    exact ref_apply _ _ _ _ _ _ b t d

end Cert.FfnNine

end
-- ==== Proof.Ada.lean ====
/-
  The modulation table, one row at a time: a row of the table of a layer depends on one row of conditioning vectors and on the
  layer's weights and bias. `out_apply` says that one grid point of the kernel leaves these rows, for 1024 of their columns, in its
  block of the result, `ref_apply` that the reference's result has these rows, `algebraic` is the claim.
-/
module

public import proofs.«01_k».proof.Proof.Gen.Kernel9Ideal.Value
public import proofs.«01_k».proof.Proof.Gen.Reference9Ideal.Read
public import proofs.«01_k».proof.Proof.Proj
public import proofs.«01_k».proof.Defs
public import Idealize.ShloMosaic.Lib.Pointwise
public import Idealize.ShloMosaic.Lib.Tactic

@[expose] public section

set_option maxRecDepth 16384

noncomputable section

namespace Cert.Ada

open Idealize.ShloMosaic

/-- One entry of a row of the table: the row `x · σ(x)` of the conditioning times a column of the weights, plus the bias. -/
def row {n : Nat} (x : Fin 1024 → EReal) (w : Fin 1024 → Fin n → EReal) (b : Fin n → EReal) (d : Fin n) : EReal :=
  (∑ k : Fin 1024, (x k * Ideal.logistic (x k)) * w k d) + b d

section Reference

open Cert.Reference9Ideal Cert.Reference9Ideal.Gen Cert.Reference9Ideal.Read

variable (x0 : (⟨S16x1024, .f32⟩ : BufTy).Contents (Elt Ideal)) (x1 : (⟨S4x1024x9216, .f32⟩ : BufTy).Contents (Elt Ideal))
  (x2 : (⟨S4x9216, .f32⟩ : BufTy).Contents (Elt Ideal))

/-- The reference's conditioning after its gate. -/
theorem ref_silu (r : Fin 16) (k : Fin 1024) :
    val_main_v0 (F := Ideal) x0 (ix2 r k) = x0 (ix2 r k) * Ideal.logistic (x0 (ix2 r k)) := by
  pointwise [val_main_v0, val_main_call0_v5, val_main_call0_v4, val_main_call0_v3, val_main_call0_v2, val_main_call0_v1,
    val_main_call0_v0, val_main_call0_cst, val_main_call0_cst_0, Ideal.logistic]

/-- The reference's table layer by layer. -/
theorem ref_layer0 (r : Fin 16) (d : Fin 9216) :
    val_main_v8 (F := Ideal) x0 x1 x2 (ix2 r d) = row (fun k => x0 (ix2 r k)) (fun k d => x1 (ix3 0 k d)) (fun d => x2 (ix2 0 d)) d := by
  have h := ref_silu x0 r
  unfold row val_main_v8 val_main_v7 val_main_v6 val_main_v5 val_main_v4 val_main_v3 val_main_v2 val_main_v1
  generalize val_main_v0 (F := Ideal) x0 = y at h ⊢
  pointwise
  simp only [h]

theorem ref_layer1 (r : Fin 16) (d : Fin 9216) :
    val_main_v16 (F := Ideal) x0 x1 x2 (ix2 r d) = row (fun k => x0 (ix2 r k)) (fun k d => x1 (ix3 1 k d)) (fun d => x2 (ix2 1 d)) d := by
  have h := ref_silu x0 r
  unfold row val_main_v16 val_main_v15 val_main_v14 val_main_v13 val_main_v12 val_main_v11 val_main_v10 val_main_v9
  generalize val_main_v0 (F := Ideal) x0 = y at h ⊢
  pointwise
  simp only [h]

theorem ref_layer2 (r : Fin 16) (d : Fin 9216) :
    val_main_v24 (F := Ideal) x0 x1 x2 (ix2 r d) = row (fun k => x0 (ix2 r k)) (fun k d => x1 (ix3 2 k d)) (fun d => x2 (ix2 2 d)) d := by
  have h := ref_silu x0 r
  unfold row val_main_v24 val_main_v23 val_main_v22 val_main_v21 val_main_v20 val_main_v19 val_main_v18 val_main_v17
  generalize val_main_v0 (F := Ideal) x0 = y at h ⊢
  pointwise
  simp only [h]

theorem ref_layer3 (r : Fin 16) (d : Fin 9216) :
    val_main_v32 (F := Ideal) x0 x1 x2 (ix2 r d) = row (fun k => x0 (ix2 r k)) (fun k d => x1 (ix3 3 k d)) (fun d => x2 (ix2 3 d)) d := by
  have h := ref_silu x0 r
  unfold row val_main_v32 val_main_v31 val_main_v30 val_main_v29 val_main_v28 val_main_v27 val_main_v26 val_main_v25
  generalize val_main_v0 (F := Ideal) x0 = y at h ⊢
  pointwise
  simp only [h]

/-- The reference's result at an index: the row of the index's layer and conditioning vector. -/
theorem ref_apply (i : Fin 4) (r : Fin 16) (d : Fin 9216) :
    val_main_v37 (F := Ideal) x0 x1 x2 (ix3 i r d) = row (fun k => x0 (ix2 r k)) (fun k d => x1 (ix3 i k d)) (fun d => x2 (ix2 i d)) d := by
  unfold val_main_v37 val_main_v33 val_main_v34 val_main_v35 val_main_v36
  have h0 := ref_layer0 x0 x1 x2 r d
  have h1 := ref_layer1 x0 x1 x2 r d
  have h2 := ref_layer2 x0 x1 x2 r d
  have h3 := ref_layer3 x0 x1 x2 r d
  generalize val_main_v8 (F := Ideal) x0 x1 x2 = y0 at h0 ⊢
  generalize val_main_v16 (F := Ideal) x0 x1 x2 = y1 at h1 ⊢
  generalize val_main_v24 (F := Ideal) x0 x1 x2 = y2 at h2 ⊢
  generalize val_main_v32 (F := Ideal) x0 x1 x2 = y3 at h3 ⊢
  match i with
  | 0 => refine Eq.trans ?_ h0; pointwise
  | 1 => refine Eq.trans ?_ h1; pointwise
  | 2 => refine Eq.trans ?_ h2; pointwise
  | 3 => refine Eq.trans ?_ h3; pointwise

end Reference

open Idealize.ShloMosaic.TcCoe Idealize.SL.Sem
open Idealize.ShloMosaic.Pipeline (Dat)
open Cert.Kernel9Ideal Cert.Kernel9Ideal.Gen

/-- The kernel's payload. -/
theorem payload_apply (x : Vec Ideal S16x1024 .f32) (w : Vec Ideal S1x1024x1024 .f32) (b : Vec Ideal S1x1x1024 .f32)
    (r : Fin 16) (d : Fin 1024) :
    k0_pay1 x w b (ix3 0 r d) = row (fun k => x (ix2 r k)) (fun k d => w (ix3 0 k d)) (fun d => b (ix3 0 0 d)) d := by
  pointwise [k0_pay1, row]

/-- A grid point leaves, at row `r` and column `d` of its block, the row of the blocks it has loaded. -/
theorem out_apply (x : Vec Ideal S16x1024 .f32) (w : Vec Ideal S1x1024x1024 .f32) (b : Vec Ideal S1x1x1024 .f32)
    (r : Fin 16) (d : Fin 1024) :
    out0_3 x w b (ix3 0 r d) = row (fun k => x (ix2 r k)) (fun k d => w (ix3 0 k d)) (fun d => b (ix3 0 0 d)) d := by
  unfold out0_3 r0_0 r0_1 r0_2 r0_3
  rw [View.canon_unit_zero Proj.hz3]
  simp only [View.ld_unit_zero (S := S16x1024) Proj.hz2, View.ld_unit_zero (S := S1x1024x1024) Proj.hz3,
    View.ld_unit_zero (S := S1x1x1024) Proj.hz3]
  exact payload_apply x w b r d

variable (m : (ℓ : Loc nD τ sig) → Buf (Elt Ideal) ℓ) (c : Dev nD)

/-- The result array: at each index the row of its layer and conditioning vector. -/
def arr : Buf (Elt Ideal) ((c : Thread nD τ).loc main_v1) := fun (i : S4x16x9216.Idx) =>
  row (fun k => m ((c : Thread nD τ).loc main_arg0) (ix2 (i 1) k)) (fun k d => m ((c : Thread nD τ).loc main_arg1) (ix3 (i 0) k d))
    (fun d => m ((c : Thread nD τ).loc main_arg2) (ix2 (i 0) d)) (i 2)

/-- The bias as the launch finds it: the argument, a row for each layer. -/
theorem b_apply (i : Fin 4) (d : Fin 9216) : V m c main_v0 (ix3 i 0 d) = m ((c : Thread nD τ).loc main_arg2) (ix2 i d) := by
  show shapeCast _ _ _ _ = _
  pointwise

/-- Where the blocks of the weights, of the bias and of the result lie at grid point `t`. -/
theorem index1 : ∀ t : Fin grid0.N, win0_1.index t 0 = t.val / 9 ∧ win0_1.index t 1 = 0 ∧ win0_1.index t 2 = t.val % 9 := by
  decide +kernel

theorem index2 : ∀ t : Fin grid0.N, win0_2.index t 0 = t.val / 9 ∧ win0_2.index t 1 = 0 ∧ win0_2.index t 2 = t.val % 9 := by
  decide +kernel

theorem index3 : ∀ t : Fin grid0.N, win0_3.index t 0 = t.val / 9 ∧ win0_3.index t 1 = 0 ∧ win0_3.index t 2 = t.val % 9 := by
  decide +kernel

/-- The column of the table that column `d` of grid point `t`'s block is. -/
abbrev colm (t : Fin cfg0.N) (d : Fin 1024) : Fin 9216 := ⟨t.val % 9 * 1024 + d.val, by omega⟩

/-- The layer of grid point `t`'s block. -/
abbrev lay (t : Fin cfg0.N) : Fin 4 := ⟨t.val / 9, by have h : t.val < 36 := lt_of_lt_of_eq t.isLt N_0; omega⟩

/-- Grid point `t`'s blocks, entry by entry, as entries of the arguments. -/
theorem blk_x (t : Fin cfg0.N) (r : Fin 16) (k : Fin 1024) :
    iblk m c 0 t (ix2 r k) = m ((c : Thread nD τ).loc main_arg0) (ix2 r k) := by
  unfold iblk
  rw [View.read_apply]
  show V m c main_arg0 _ = _
  rw [V_main_arg0]
  congr 1
  funext a
  apply Fin.ext
  match a with
  | ⟨0, _⟩ => show 0 * 16 + 1 * r.val = r.val; omega
  | ⟨1, _⟩ => show 0 * 1024 + 1 * k.val = k.val; omega

theorem blk_w (t : Fin cfg0.N) (k d : Fin 1024) :
    iblk m c 1 t (ix3 0 k d) = m ((c : Thread nD τ).loc main_arg1) (ix3 (lay t) k (colm t d)) := by
  obtain ⟨h0, h1, h2⟩ := index1 t
  unfold iblk
  rw [View.read_apply]
  show V m c main_arg1 _ = _
  rw [V_main_arg1]
  congr 1
  funext a
  apply Fin.ext
  match a with
  | ⟨0, _⟩ => show win0_1.index t 0 * 1 + 1 * 0 = t.val / 9; omega
  | ⟨1, _⟩ => show win0_1.index t 1 * 1024 + 1 * k.val = k.val; omega
  | ⟨2, _⟩ => show win0_1.index t 2 * 1024 + 1 * d.val = t.val % 9 * 1024 + d.val; omega

theorem blk_b (t : Fin cfg0.N) (d : Fin 1024) :
    iblk m c 2 t (ix3 0 0 d) = m ((c : Thread nD τ).loc main_arg2) (ix2 (lay t) (colm t d)) := by
  obtain ⟨h0, h1, h2⟩ := index2 t
  refine Eq.trans ?_ (b_apply m c (lay t) (colm t d))
  unfold iblk
  rw [View.read_apply]
  refine congrArg (V m c main_v0) ?_
  funext a
  apply Fin.ext
  match a with
  | ⟨0, _⟩ => show win0_2.index t 0 * 1 + 1 * 0 = t.val / 9; omega
  | ⟨1, _⟩ => show win0_2.index t 1 * 1 + 1 * 0 = 0; omega
  | ⟨2, _⟩ => show win0_2.index t 2 * 1024 + 1 * d.val = t.val % 9 * 1024 + d.val; omega

/-- What grid point `t` writes back is its block of the result array. -/
theorem flushed (t : Fin cfg0.N) : (dats m 0 c).flushed 3 t = ((cfg0.win 3).blk t).view.read (Elt Ideal) (arr m c) := by
  obtain ⟨h0, h1, h2⟩ := index3 t
  rw [Value.flushed3 m c t]
  funext j
  obtain ⟨j0, r, d, rfl⟩ : ∃ (a : Fin 1) (r : Fin 16) (d : Fin 1024), j = ix3 a r d :=
    ⟨j 0, j 1, j 2, by funext a; fin_cases a <;> rfl⟩
  obtain rfl : j0 = 0 := Subsingleton.elim _ _
  rw [View.read_apply]
  refine (out_apply _ _ _ r d).trans ?_
  simp only [blk_x, blk_w, blk_b]
  rw [show ((cfg0.win 3).blk t).view.emb (ix3 0 r d) = (ix3 (lay t) r (colm t d) : S4x16x9216.Idx) from by
    funext a
    apply Fin.ext
    match a with
    | ⟨0, _⟩ => show win0_3.index t 0 * 1 + 1 * 0 = t.val / 9; omega
    | ⟨1, _⟩ => show win0_3.index t 1 * 16 + 1 * r.val = r.val; omega
    | ⟨2, _⟩ => show win0_3.index t 2 * 1024 + 1 * d.val = t.val % 9 * 1024 + d.val; omega]
  rfl

/-- The blocks fill the result array. -/
theorem cover (i : S4x16x9216.Idx) : ∃ t : Fin cfg0.N, (cfg0.win 3).flush t = true ∧ i ∈ ((cfg0.win 3).blk t).view.set := by
  have i0 : (i 0 : Nat) < 4 := (i 0).isLt
  have i1 : (i 1 : Nat) < 16 := (i 1).isLt
  have i2 : (i 2 : Nat) < 9216 := (i 2).isLt
  have hN : grid0.N = 36 := N_0
  let t : Fin grid0.N := ⟨(i 0 : Nat) * 9 + (i 2 : Nat) / 1024, by omega⟩
  have ht : t.val = (i 0 : Nat) * 9 + (i 2 : Nat) / 1024 := rfl
  obtain ⟨h0, h1, h2⟩ := index3 t
  refine ⟨t, flush0_3 t, ?_⟩
  show i ∈ ((View.whole main_v1).slice (win0_3.rect t)).set
  rw [View.set_slice_whole, Rect.mem_set_unit]
  intro a
  match a with
  | ⟨0, _⟩ => show win0_3.index t 0 * 1 ≤ (i 0 : Nat) ∧ (i 0 : Nat) < win0_3.index t 0 * 1 + 1; omega
  | ⟨1, _⟩ => show win0_3.index t 1 * 16 ≤ (i 1 : Nat) ∧ (i 1 : Nat) < win0_3.index t 1 * 16 + 16; omega
  | ⟨2, _⟩ => show win0_3.index t 2 * 1024 ≤ (i 2 : Nat) ∧ (i 2 : Nat) < win0_3.index t 2 * 1024 + 1024; omega

/-- So the result array ends holding these rows. -/
theorem final : (dats m 0 c).arrAt 3 cfg0.N = arr m c :=
  (dats m 0 c).arrAt_eq_of_cover 3 (arr m c) (fun t _ => flushed m c t) cover

/-- The claim: from equal arguments the kernel and the reference end with equal results, arguments unchanged. -/
theorem algebraic : algebraic_Kernel9Ideal_Reference9Ideal := by
  intro m g m' g' _ h
  refine ⟨arr m, ?_, ?_⟩
  · refine (θ_run _ _ _).mono (fun r hr c => ?_) (Cert.Kernel9Ideal.Value.run_blocks m g)
    obtain ⟨h0, hr⟩ := hr c
    exact ⟨h0.trans (final m c), hr⟩
  · refine (θ_run _ _ _).mono (fun r hr c => ?_) (Cert.Reference9Ideal.Value.run m' g')
    obtain ⟨h0, hr⟩ := hr c
    obtain ⟨e0, e1, e2⟩ := h c
    refine ⟨h0.trans ?_, hr⟩
    rw [Cert.Reference9Ideal.Read.val_main_v37_eq]
    rw [e0, e1, e2]
    funext i
    obtain ⟨b, t, d, rfl⟩ : ∃ (b : Fin 4) (t : Fin 16) (d : Fin 9216), i = ix3 b t d :=
      ⟨i 0, i 1, i 2, by funext a; fin_cases a <;> rfl⟩
    exact ref_apply _ _ _ b t d

end Cert.Ada

end
-- ==== Proof.lean ====
module

public import proofs.«01_k».proof.Defs
public import proofs.«01_k».proof.Proof.Frames
public import proofs.«01_k».proof.Proof.FfnValue
public import proofs.«01_k».proof.Proof.AttnValue
public import proofs.«01_k».proof.Proof.Gen.Pre_finite
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.ProjValue
public import proofs.«01_k».proof.Proof.QkvValue
public import proofs.«01_k».proof.Proof.HyenaIn
public import proofs.«01_k».proof.Proof.SsdIn
public import proofs.«01_k».proof.Proof.SsdOut
public import proofs.«01_k».proof.Proof.FfnNineValue
public import proofs.«01_k».proof.Proof.Ada
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Kernel7.Gen.facts, Cert.Kernel7Ideal.Gen.facts,
    Cert.Reference7Ideal.Gen.facts, Cert.Kernel8.Gen.facts, Cert.Kernel8Ideal.Gen.facts,
    Cert.Reference8Ideal.Gen.facts, Cert.Kernel9.Gen.facts, Cert.Kernel9Ideal.Gen.facts,
    Cert.Reference9Ideal.Gen.facts, Cert.Pre_finite.Gen.facts, Frames.kernel, Frames.kernelIdeal,
    Frames.kernelIdeal_finite, Frames.referenceIdeal, Frames.referenceIdeal_finite, Frames.kernel2,
    Frames.kernel2Ideal, Frames.reference2Ideal, Frames.kernel3, Frames.kernel3Ideal, Frames.reference3Ideal,
    Frames.kernel4, Frames.kernel4Ideal, Frames.reference4Ideal, Frames.kernel5, Frames.kernel5Ideal,
    Frames.reference5Ideal, Frames.kernel6, Frames.kernel6Ideal, Frames.reference6Ideal, Frames.kernel7,
    Frames.kernel7Ideal, Frames.reference7Ideal, Frames.kernel8, Frames.kernel8Ideal,
    Frames.reference8Ideal, Frames.kernel9, Frames.kernel9Ideal, Frames.reference9Ideal,
    Frames.preserves, Attn.algebraic, trivial, Ffn.algebraic, trivial,
    Proj.algebraic, trivial, Qkv.algebraic, trivial, HyenaIn.algebraic, trivial, SsdIn.algebraic, trivial,
    SsdOut.algebraic, trivial, FfnNine.algebraic, trivial, Ada.algebraic⟩

end Cert.Proof

end
